-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormReferenceIdeal (m : (ℓ : Loc Cert.FinalNormReferenceIdeal.nD Cert.FinalNormReferenceIdeal.τ Cert.FinalNormReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInIdeal_finite5 [hPre_finite5 : Cert.Pre_finite5.Facts] (m : (ℓ : Loc Cert.ProjInIdeal.nD Cert.ProjInIdeal.τ Cert.ProjInIdeal.sig) → Buf (Elt Ideal) ℓ) : Prop :=
  ∀ c : Dev Cert.ProjInIdeal.nD,
    (Cert.Pre_finite5.fn (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3)) (m ((c.tc : Thread Cert.ProjInIdeal.nD Cert.ProjInIdeal.τ).loc Cert.ProjInIdeal.main_arg4)) (m ((c.tc : Thread Cert.ProjInIdeal.nD Cert.ProjInIdeal.τ).loc Cert.ProjInIdeal.main_arg5)) (m ((c.tc : Thread Cert.ProjInIdeal.nD Cert.ProjInIdeal.τ).loc Cert.ProjInIdeal.main_arg6)) (m ((c.tc : Thread Cert.ProjInIdeal.nD Cert.ProjInIdeal.τ).loc Cert.ProjInIdeal.main_arg7)) (m ((c.tc : Thread Cert.ProjInIdeal.nD Cert.ProjInIdeal.τ).loc Cert.ProjInIdeal.main_arg8))) = (fun _ => 1#1)

def Pre_ProjInReferenceIdeal (m : (ℓ : Loc Cert.ProjInReferenceIdeal.nD Cert.ProjInReferenceIdeal.τ Cert.ProjInReferenceIdeal.sig) → Buf (Elt Ideal) ℓ) : Prop :=
  True

def Pre_ProjInReferenceIdeal_finite5 [hPre_finite5 : Cert.Pre_finite5.Facts] (m : (ℓ : Loc Cert.ProjInReferenceIdeal.nD Cert.ProjInReferenceIdeal.τ Cert.ProjInReferenceIdeal.sig) → Buf (Elt Ideal) ℓ) : Prop :=
  ∀ c : Dev Cert.ProjInReferenceIdeal.nD,
    (Cert.Pre_finite5.fn (F := Ideal) (m ((c.tc : Thread Cert.ProjInReferenceIdeal.nD Cert.ProjInReferenceIdeal.τ).loc Cert.ProjInReferenceIdeal.main_arg0)) (m ((c.tc : Thread Cert.ProjInReferenceIdeal.nD Cert.ProjInReferenceIdeal.τ).loc Cert.ProjInReferenceIdeal.main_arg1)) (m ((c.tc : Thread Cert.ProjInReferenceIdeal.nD Cert.ProjInReferenceIdeal.τ).loc Cert.ProjInReferenceIdeal.main_arg2)) (m ((c.tc : Thread Cert.ProjInReferenceIdeal.nD Cert.ProjInReferenceIdeal.τ).loc Cert.ProjInReferenceIdeal.main_arg3)) (m ((c.tc : Thread Cert.ProjInReferenceIdeal.nD Cert.ProjInReferenceIdeal.τ).loc Cert.ProjInReferenceIdeal.main_arg4)) (m ((c.tc : Thread Cert.ProjInReferenceIdeal.nD Cert.ProjInReferenceIdeal.τ).loc Cert.ProjInReferenceIdeal.main_arg5)) (m ((c.tc : Thread Cert.ProjInReferenceIdeal.nD Cert.ProjInReferenceIdeal.τ).loc Cert.ProjInReferenceIdeal.main_arg6)) (m ((c.tc : Thread Cert.ProjInReferenceIdeal.nD Cert.ProjInReferenceIdeal.τ).loc Cert.ProjInReferenceIdeal.main_arg7)) (m ((c.tc : Thread Cert.ProjInReferenceIdeal.nD Cert.ProjInReferenceIdeal.τ).loc Cert.ProjInReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1)
      ∧ r.2.mem ((c.tc : Thread Cert.FinalNorm.nD Cert.FinalNorm.τ).loc Cert.FinalNorm.main_arg2) = m ((c.tc : Thread Cert.FinalNorm.nD Cert.FinalNorm.τ).loc Cert.FinalNorm.main_arg2)
      ∧ r.2.mem ((c.tc : Thread Cert.FinalNorm.nD Cert.FinalNorm.τ).loc Cert.FinalNorm.main_arg3) = m ((c.tc : Thread Cert.FinalNorm.nD Cert.FinalNorm.τ).loc Cert.FinalNorm.main_arg3)
      ∧ r.2.mem ((c.tc : Thread Cert.FinalNorm.nD Cert.FinalNorm.τ).loc Cert.FinalNorm.main_arg4) = m ((c.tc : Thread Cert.FinalNorm.nD Cert.FinalNorm.τ).loc Cert.FinalNorm.main_arg4))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1)
      ∧ r.2.mem ((c.tc : Thread Cert.FinalNormIdeal.nD Cert.FinalNormIdeal.τ).loc Cert.FinalNormIdeal.main_arg2) = m ((c.tc : Thread Cert.FinalNormIdeal.nD Cert.FinalNormIdeal.τ).loc Cert.FinalNormIdeal.main_arg2)
      ∧ r.2.mem ((c.tc : Thread Cert.FinalNormIdeal.nD Cert.FinalNormIdeal.τ).loc Cert.FinalNormIdeal.main_arg3) = m ((c.tc : Thread Cert.FinalNormIdeal.nD Cert.FinalNormIdeal.τ).loc Cert.FinalNormIdeal.main_arg3)
      ∧ r.2.mem ((c.tc : Thread Cert.FinalNormIdeal.nD Cert.FinalNormIdeal.τ).loc Cert.FinalNormIdeal.main_arg4) = m ((c.tc : Thread Cert.FinalNormIdeal.nD Cert.FinalNormIdeal.τ).loc Cert.FinalNormIdeal.main_arg4))
      ∧ r.2.sem = fun _ => 0)

def quiescent_FinalNormReferenceIdeal [hFinalNormReferenceIdeal : Cert.FinalNormReferenceIdeal.Facts] : Prop :=
  ∀ (m : (ℓ : Loc Cert.FinalNormReferenceIdeal.nD Cert.FinalNormReferenceIdeal.τ Cert.FinalNormReferenceIdeal.sig) → Buf (Elt Ideal) ℓ) (g : Dev Cert.FinalNormReferenceIdeal.nD → PrngReg), Pre_FinalNormReferenceIdeal m →
    θ_run (Cert.FinalNormReferenceIdeal.defs (F := Ideal)) (onTc (τ := Cert.FinalNormReferenceIdeal.τ) (Cert.FinalNormReferenceIdeal.main (F := Ideal))) ⟨m, fun _ => 0, g⟩ (fun r => (∀ c : Dev Cert.FinalNormReferenceIdeal.nD,
      r.2.mem ((c.tc : Thread Cert.FinalNormReferenceIdeal.nD Cert.FinalNormReferenceIdeal.τ).loc Cert.FinalNormReferenceIdeal.main_arg0) = m ((c.tc : Thread Cert.FinalNormReferenceIdeal.nD Cert.FinalNormReferenceIdeal.τ).loc Cert.FinalNormReferenceIdeal.main_arg0)
      ∧ r.2.mem ((c.tc : Thread Cert.FinalNormReferenceIdeal.nD Cert.FinalNormReferenceIdeal.τ).loc Cert.FinalNormReferenceIdeal.main_arg1) = m ((c.tc : Thread Cert.FinalNormReferenceIdeal.nD Cert.FinalNormReferenceIdeal.τ).loc Cert.FinalNormReferenceIdeal.main_arg1)
      ∧ r.2.mem ((c.tc : Thread Cert.FinalNormReferenceIdeal.nD Cert.FinalNormReferenceIdeal.τ).loc Cert.FinalNormReferenceIdeal.main_arg2) = m ((c.tc : Thread Cert.FinalNormReferenceIdeal.nD Cert.FinalNormReferenceIdeal.τ).loc Cert.FinalNormReferenceIdeal.main_arg2)
      ∧ r.2.mem ((c.tc : Thread Cert.FinalNormReferenceIdeal.nD Cert.FinalNormReferenceIdeal.τ).loc Cert.FinalNormReferenceIdeal.main_arg3) = m ((c.tc : Thread Cert.FinalNormReferenceIdeal.nD Cert.FinalNormReferenceIdeal.τ).loc Cert.FinalNormReferenceIdeal.main_arg3)
      ∧ r.2.mem ((c.tc : Thread Cert.FinalNormReferenceIdeal.nD Cert.FinalNormReferenceIdeal.τ).loc Cert.FinalNormReferenceIdeal.main_arg4) = m ((c.tc : Thread Cert.FinalNormReferenceIdeal.nD Cert.FinalNormReferenceIdeal.τ).loc Cert.FinalNormReferenceIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8)
      ∧ r.2.mem ((c.tc : Thread Cert.MixOut.nD Cert.MixOut.τ).loc Cert.MixOut.main_arg9) = m ((c.tc : Thread Cert.MixOut.nD Cert.MixOut.τ).loc Cert.MixOut.main_arg9)
      ∧ r.2.mem ((c.tc : Thread Cert.MixOut.nD Cert.MixOut.τ).loc Cert.MixOut.main_arg10) = m ((c.tc : Thread Cert.MixOut.nD Cert.MixOut.τ).loc Cert.MixOut.main_arg10)
      ∧ r.2.mem ((c.tc : Thread Cert.MixOut.nD Cert.MixOut.τ).loc Cert.MixOut.main_arg11) = m ((c.tc : Thread Cert.MixOut.nD Cert.MixOut.τ).loc Cert.MixOut.main_arg11))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
      ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
      ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
      ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6)
      ∧ r.2.mem ((c.tc : Thread Cert.MixOutReferenceIdeal.nD Cert.MixOutReferenceIdeal.τ).loc Cert.MixOutReferenceIdeal.main_arg7) = m ((c.tc : Thread Cert.MixOutReferenceIdeal.nD Cert.MixOutReferenceIdeal.τ).loc Cert.MixOutReferenceIdeal.main_arg7)
      ∧ r.2.mem ((c.tc : Thread Cert.MixOutReferenceIdeal.nD Cert.MixOutReferenceIdeal.τ).loc Cert.MixOutReferenceIdeal.main_arg8) = m ((c.tc : Thread Cert.MixOutReferenceIdeal.nD Cert.MixOutReferenceIdeal.τ).loc Cert.MixOutReferenceIdeal.main_arg8)
      ∧ r.2.mem ((c.tc : Thread Cert.MixOutReferenceIdeal.nD Cert.MixOutReferenceIdeal.τ).loc Cert.MixOutReferenceIdeal.main_arg9) = m ((c.tc : Thread Cert.MixOutReferenceIdeal.nD Cert.MixOutReferenceIdeal.τ).loc Cert.MixOutReferenceIdeal.main_arg9)
      ∧ r.2.mem ((c.tc : Thread Cert.MixOutReferenceIdeal.nD Cert.MixOutReferenceIdeal.τ).loc Cert.MixOutReferenceIdeal.main_arg10) = m ((c.tc : Thread Cert.MixOutReferenceIdeal.nD Cert.MixOutReferenceIdeal.τ).loc Cert.MixOutReferenceIdeal.main_arg10)
      ∧ r.2.mem ((c.tc : Thread Cert.MixOutReferenceIdeal.nD Cert.MixOutReferenceIdeal.τ).loc Cert.MixOutReferenceIdeal.main_arg11) = m ((c.tc : Thread Cert.MixOutReferenceIdeal.nD Cert.MixOutReferenceIdeal.τ).loc Cert.MixOutReferenceIdeal.main_arg11))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3)
      ∧ r.2.mem ((c.tc : Thread Cert.ProjIn.nD Cert.ProjIn.τ).loc Cert.ProjIn.main_arg4) = m ((c.tc : Thread Cert.ProjIn.nD Cert.ProjIn.τ).loc Cert.ProjIn.main_arg4)
      ∧ r.2.mem ((c.tc : Thread Cert.ProjIn.nD Cert.ProjIn.τ).loc Cert.ProjIn.main_arg5) = m ((c.tc : Thread Cert.ProjIn.nD Cert.ProjIn.τ).loc Cert.ProjIn.main_arg5)
      ∧ r.2.mem ((c.tc : Thread Cert.ProjIn.nD Cert.ProjIn.τ).loc Cert.ProjIn.main_arg6) = m ((c.tc : Thread Cert.ProjIn.nD Cert.ProjIn.τ).loc Cert.ProjIn.main_arg6)
      ∧ r.2.mem ((c.tc : Thread Cert.ProjIn.nD Cert.ProjIn.τ).loc Cert.ProjIn.main_arg7) = m ((c.tc : Thread Cert.ProjIn.nD Cert.ProjIn.τ).loc Cert.ProjIn.main_arg7)
      ∧ r.2.mem ((c.tc : Thread Cert.ProjIn.nD Cert.ProjIn.τ).loc Cert.ProjIn.main_arg8) = m ((c.tc : Thread Cert.ProjIn.nD Cert.ProjIn.τ).loc Cert.ProjIn.main_arg8))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
      ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
      ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5)
      ∧ r.2.mem ((c.tc : Thread Cert.ProjInIdeal.nD Cert.ProjInIdeal.τ).loc Cert.ProjInIdeal.main_arg6) = m ((c.tc : Thread Cert.ProjInIdeal.nD Cert.ProjInIdeal.τ).loc Cert.ProjInIdeal.main_arg6)
      ∧ r.2.mem ((c.tc : Thread Cert.ProjInIdeal.nD Cert.ProjInIdeal.τ).loc Cert.ProjInIdeal.main_arg7) = m ((c.tc : Thread Cert.ProjInIdeal.nD Cert.ProjInIdeal.τ).loc Cert.ProjInIdeal.main_arg7)
      ∧ r.2.mem ((c.tc : Thread Cert.ProjInIdeal.nD Cert.ProjInIdeal.τ).loc Cert.ProjInIdeal.main_arg8) = m ((c.tc : Thread Cert.ProjInIdeal.nD Cert.ProjInIdeal.τ).loc Cert.ProjInIdeal.main_arg8))
      ∧ r.2.sem = fun _ => 0)

def quiescent_ProjInIdeal_pre_finite5 [hProjInIdeal : Cert.ProjInIdeal.Facts] [hPre_finite5 : Cert.Pre_finite5.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal_finite5 m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
      ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
      ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5)
      ∧ r.2.mem ((c.tc : Thread Cert.ProjInIdeal.nD Cert.ProjInIdeal.τ).loc Cert.ProjInIdeal.main_arg6) = m ((c.tc : Thread Cert.ProjInIdeal.nD Cert.ProjInIdeal.τ).loc Cert.ProjInIdeal.main_arg6)
      ∧ r.2.mem ((c.tc : Thread Cert.ProjInIdeal.nD Cert.ProjInIdeal.τ).loc Cert.ProjInIdeal.main_arg7) = m ((c.tc : Thread Cert.ProjInIdeal.nD Cert.ProjInIdeal.τ).loc Cert.ProjInIdeal.main_arg7)
      ∧ r.2.mem ((c.tc : Thread Cert.ProjInIdeal.nD Cert.ProjInIdeal.τ).loc Cert.ProjInIdeal.main_arg8) = m ((c.tc : Thread Cert.ProjInIdeal.nD Cert.ProjInIdeal.τ).loc Cert.ProjInIdeal.main_arg8))
      ∧ r.2.sem = fun _ => 0)

def quiescent_ProjInReferenceIdeal [hProjInReferenceIdeal : Cert.ProjInReferenceIdeal.Facts] : Prop :=
  ∀ (m : (ℓ : Loc Cert.ProjInReferenceIdeal.nD Cert.ProjInReferenceIdeal.τ Cert.ProjInReferenceIdeal.sig) → Buf (Elt Ideal) ℓ) (g : Dev Cert.ProjInReferenceIdeal.nD → PrngReg), Pre_ProjInReferenceIdeal m →
    θ_run (Cert.ProjInReferenceIdeal.defs (F := Ideal)) (onTc (τ := Cert.ProjInReferenceIdeal.τ) (Cert.ProjInReferenceIdeal.main (F := Ideal))) ⟨m, fun _ => 0, g⟩ (fun r => (∀ c : Dev Cert.ProjInReferenceIdeal.nD,
      r.2.mem ((c.tc : Thread Cert.ProjInReferenceIdeal.nD Cert.ProjInReferenceIdeal.τ).loc Cert.ProjInReferenceIdeal.main_arg0) = m ((c.tc : Thread Cert.ProjInReferenceIdeal.nD Cert.ProjInReferenceIdeal.τ).loc Cert.ProjInReferenceIdeal.main_arg0)
      ∧ r.2.mem ((c.tc : Thread Cert.ProjInReferenceIdeal.nD Cert.ProjInReferenceIdeal.τ).loc Cert.ProjInReferenceIdeal.main_arg1) = m ((c.tc : Thread Cert.ProjInReferenceIdeal.nD Cert.ProjInReferenceIdeal.τ).loc Cert.ProjInReferenceIdeal.main_arg1)
      ∧ r.2.mem ((c.tc : Thread Cert.ProjInReferenceIdeal.nD Cert.ProjInReferenceIdeal.τ).loc Cert.ProjInReferenceIdeal.main_arg2) = m ((c.tc : Thread Cert.ProjInReferenceIdeal.nD Cert.ProjInReferenceIdeal.τ).loc Cert.ProjInReferenceIdeal.main_arg2)
      ∧ r.2.mem ((c.tc : Thread Cert.ProjInReferenceIdeal.nD Cert.ProjInReferenceIdeal.τ).loc Cert.ProjInReferenceIdeal.main_arg3) = m ((c.tc : Thread Cert.ProjInReferenceIdeal.nD Cert.ProjInReferenceIdeal.τ).loc Cert.ProjInReferenceIdeal.main_arg3)
      ∧ r.2.mem ((c.tc : Thread Cert.ProjInReferenceIdeal.nD Cert.ProjInReferenceIdeal.τ).loc Cert.ProjInReferenceIdeal.main_arg4) = m ((c.tc : Thread Cert.ProjInReferenceIdeal.nD Cert.ProjInReferenceIdeal.τ).loc Cert.ProjInReferenceIdeal.main_arg4)
      ∧ r.2.mem ((c.tc : Thread Cert.ProjInReferenceIdeal.nD Cert.ProjInReferenceIdeal.τ).loc Cert.ProjInReferenceIdeal.main_arg5) = m ((c.tc : Thread Cert.ProjInReferenceIdeal.nD Cert.ProjInReferenceIdeal.τ).loc Cert.ProjInReferenceIdeal.main_arg5)
      ∧ r.2.mem ((c.tc : Thread Cert.ProjInReferenceIdeal.nD Cert.ProjInReferenceIdeal.τ).loc Cert.ProjInReferenceIdeal.main_arg6) = m ((c.tc : Thread Cert.ProjInReferenceIdeal.nD Cert.ProjInReferenceIdeal.τ).loc Cert.ProjInReferenceIdeal.main_arg6)
      ∧ r.2.mem ((c.tc : Thread Cert.ProjInReferenceIdeal.nD Cert.ProjInReferenceIdeal.τ).loc Cert.ProjInReferenceIdeal.main_arg7) = m ((c.tc : Thread Cert.ProjInReferenceIdeal.nD Cert.ProjInReferenceIdeal.τ).loc Cert.ProjInReferenceIdeal.main_arg7)
      ∧ r.2.mem ((c.tc : Thread Cert.ProjInReferenceIdeal.nD Cert.ProjInReferenceIdeal.τ).loc Cert.ProjInReferenceIdeal.main_arg8) = m ((c.tc : Thread Cert.ProjInReferenceIdeal.nD Cert.ProjInReferenceIdeal.τ).loc Cert.ProjInReferenceIdeal.main_arg8))
      ∧ r.2.sem = fun _ => 0)

def quiescent_ProjInReferenceIdeal_pre_finite5 [hProjInReferenceIdeal : Cert.ProjInReferenceIdeal.Facts] [hPre_finite5 : Cert.Pre_finite5.Facts] : Prop :=
  ∀ (m : (ℓ : Loc Cert.ProjInReferenceIdeal.nD Cert.ProjInReferenceIdeal.τ Cert.ProjInReferenceIdeal.sig) → Buf (Elt Ideal) ℓ) (g : Dev Cert.ProjInReferenceIdeal.nD → PrngReg), Pre_ProjInReferenceIdeal_finite5 m →
    θ_run (Cert.ProjInReferenceIdeal.defs (F := Ideal)) (onTc (τ := Cert.ProjInReferenceIdeal.τ) (Cert.ProjInReferenceIdeal.main (F := Ideal))) ⟨m, fun _ => 0, g⟩ (fun r => (∀ c : Dev Cert.ProjInReferenceIdeal.nD,
      r.2.mem ((c.tc : Thread Cert.ProjInReferenceIdeal.nD Cert.ProjInReferenceIdeal.τ).loc Cert.ProjInReferenceIdeal.main_arg0) = m ((c.tc : Thread Cert.ProjInReferenceIdeal.nD Cert.ProjInReferenceIdeal.τ).loc Cert.ProjInReferenceIdeal.main_arg0)
      ∧ r.2.mem ((c.tc : Thread Cert.ProjInReferenceIdeal.nD Cert.ProjInReferenceIdeal.τ).loc Cert.ProjInReferenceIdeal.main_arg1) = m ((c.tc : Thread Cert.ProjInReferenceIdeal.nD Cert.ProjInReferenceIdeal.τ).loc Cert.ProjInReferenceIdeal.main_arg1)
      ∧ r.2.mem ((c.tc : Thread Cert.ProjInReferenceIdeal.nD Cert.ProjInReferenceIdeal.τ).loc Cert.ProjInReferenceIdeal.main_arg2) = m ((c.tc : Thread Cert.ProjInReferenceIdeal.nD Cert.ProjInReferenceIdeal.τ).loc Cert.ProjInReferenceIdeal.main_arg2)
      ∧ r.2.mem ((c.tc : Thread Cert.ProjInReferenceIdeal.nD Cert.ProjInReferenceIdeal.τ).loc Cert.ProjInReferenceIdeal.main_arg3) = m ((c.tc : Thread Cert.ProjInReferenceIdeal.nD Cert.ProjInReferenceIdeal.τ).loc Cert.ProjInReferenceIdeal.main_arg3)
      ∧ r.2.mem ((c.tc : Thread Cert.ProjInReferenceIdeal.nD Cert.ProjInReferenceIdeal.τ).loc Cert.ProjInReferenceIdeal.main_arg4) = m ((c.tc : Thread Cert.ProjInReferenceIdeal.nD Cert.ProjInReferenceIdeal.τ).loc Cert.ProjInReferenceIdeal.main_arg4)
      ∧ r.2.mem ((c.tc : Thread Cert.ProjInReferenceIdeal.nD Cert.ProjInReferenceIdeal.τ).loc Cert.ProjInReferenceIdeal.main_arg5) = m ((c.tc : Thread Cert.ProjInReferenceIdeal.nD Cert.ProjInReferenceIdeal.τ).loc Cert.ProjInReferenceIdeal.main_arg5)
      ∧ r.2.mem ((c.tc : Thread Cert.ProjInReferenceIdeal.nD Cert.ProjInReferenceIdeal.τ).loc Cert.ProjInReferenceIdeal.main_arg6) = m ((c.tc : Thread Cert.ProjInReferenceIdeal.nD Cert.ProjInReferenceIdeal.τ).loc Cert.ProjInReferenceIdeal.main_arg6)
      ∧ r.2.mem ((c.tc : Thread Cert.ProjInReferenceIdeal.nD Cert.ProjInReferenceIdeal.τ).loc Cert.ProjInReferenceIdeal.main_arg7) = m ((c.tc : Thread Cert.ProjInReferenceIdeal.nD Cert.ProjInReferenceIdeal.τ).loc Cert.ProjInReferenceIdeal.main_arg7)
      ∧ r.2.mem ((c.tc : Thread Cert.ProjInReferenceIdeal.nD Cert.ProjInReferenceIdeal.τ).loc Cert.ProjInReferenceIdeal.main_arg8) = m ((c.tc : Thread Cert.ProjInReferenceIdeal.nD Cert.ProjInReferenceIdeal.τ).loc Cert.ProjInReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FinalNorm_FinalNormIdeal : Prop :=
  True

def algebraic_FinalNormIdeal_FinalNormReferenceIdeal [hFinalNormIdeal : Cert.FinalNormIdeal.Facts] [hFinalNormReferenceIdeal : Cert.FinalNormReferenceIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormReferenceIdeal.nD Cert.FinalNormReferenceIdeal.τ Cert.FinalNormReferenceIdeal.sig) → Buf (Elt Ideal) ℓ) (g' : Dev Cert.FinalNormReferenceIdeal.nD → PrngReg), Pre_FinalNormIdeal m →
    (∀ c : Dev Cert.FinalNormIdeal.nD,
      m' ((c.tc : Thread Cert.FinalNormReferenceIdeal.nD Cert.FinalNormReferenceIdeal.τ).loc Cert.FinalNormReferenceIdeal.main_arg0) = m ((c.tc : Thread Cert.FinalNormIdeal.nD Cert.FinalNormIdeal.τ).loc Cert.FinalNormIdeal.main_arg0)
      ∧ m' ((c.tc : Thread Cert.FinalNormReferenceIdeal.nD Cert.FinalNormReferenceIdeal.τ).loc Cert.FinalNormReferenceIdeal.main_arg1) = m ((c.tc : Thread Cert.FinalNormIdeal.nD Cert.FinalNormIdeal.τ).loc Cert.FinalNormIdeal.main_arg1)
      ∧ m' ((c.tc : Thread Cert.FinalNormReferenceIdeal.nD Cert.FinalNormReferenceIdeal.τ).loc Cert.FinalNormReferenceIdeal.main_arg2) = m ((c.tc : Thread Cert.FinalNormIdeal.nD Cert.FinalNormIdeal.τ).loc Cert.FinalNormIdeal.main_arg2)
      ∧ m' ((c.tc : Thread Cert.FinalNormReferenceIdeal.nD Cert.FinalNormReferenceIdeal.τ).loc Cert.FinalNormReferenceIdeal.main_arg3) = m ((c.tc : Thread Cert.FinalNormIdeal.nD Cert.FinalNormIdeal.τ).loc Cert.FinalNormIdeal.main_arg3)
      ∧ m' ((c.tc : Thread Cert.FinalNormReferenceIdeal.nD Cert.FinalNormReferenceIdeal.τ).loc Cert.FinalNormReferenceIdeal.main_arg4) = m ((c.tc : Thread Cert.FinalNormIdeal.nD Cert.FinalNormIdeal.τ).loc Cert.FinalNormIdeal.main_arg4)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1)
          ∧ r.2.mem ((c.tc : Thread Cert.FinalNormIdeal.nD Cert.FinalNormIdeal.τ).loc Cert.FinalNormIdeal.main_arg2) = m ((c.tc : Thread Cert.FinalNormIdeal.nD Cert.FinalNormIdeal.τ).loc Cert.FinalNormIdeal.main_arg2)
          ∧ r.2.mem ((c.tc : Thread Cert.FinalNormIdeal.nD Cert.FinalNormIdeal.τ).loc Cert.FinalNormIdeal.main_arg3) = m ((c.tc : Thread Cert.FinalNormIdeal.nD Cert.FinalNormIdeal.τ).loc Cert.FinalNormIdeal.main_arg3)
          ∧ r.2.mem ((c.tc : Thread Cert.FinalNormIdeal.nD Cert.FinalNormIdeal.τ).loc Cert.FinalNormIdeal.main_arg4) = m ((c.tc : Thread Cert.FinalNormIdeal.nD Cert.FinalNormIdeal.τ).loc Cert.FinalNormIdeal.main_arg4))
      ∧ θ_run (Cert.FinalNormReferenceIdeal.defs (F := Ideal)) (onTc (τ := Cert.FinalNormReferenceIdeal.τ) (Cert.FinalNormReferenceIdeal.main (F := Ideal))) ⟨m', fun _ => 0, g'⟩ (fun r => ∀ c : Dev Cert.FinalNormReferenceIdeal.nD,
          r.2.mem ((c.tc : Thread Cert.FinalNormReferenceIdeal.nD Cert.FinalNormReferenceIdeal.τ).loc Cert.FinalNormReferenceIdeal.main_v17) = v0 c
          ∧ r.2.mem ((c.tc : Thread Cert.FinalNormReferenceIdeal.nD Cert.FinalNormReferenceIdeal.τ).loc Cert.FinalNormReferenceIdeal.main_arg0) = m' ((c.tc : Thread Cert.FinalNormReferenceIdeal.nD Cert.FinalNormReferenceIdeal.τ).loc Cert.FinalNormReferenceIdeal.main_arg0)
          ∧ r.2.mem ((c.tc : Thread Cert.FinalNormReferenceIdeal.nD Cert.FinalNormReferenceIdeal.τ).loc Cert.FinalNormReferenceIdeal.main_arg1) = m' ((c.tc : Thread Cert.FinalNormReferenceIdeal.nD Cert.FinalNormReferenceIdeal.τ).loc Cert.FinalNormReferenceIdeal.main_arg1)
          ∧ r.2.mem ((c.tc : Thread Cert.FinalNormReferenceIdeal.nD Cert.FinalNormReferenceIdeal.τ).loc Cert.FinalNormReferenceIdeal.main_arg2) = m' ((c.tc : Thread Cert.FinalNormReferenceIdeal.nD Cert.FinalNormReferenceIdeal.τ).loc Cert.FinalNormReferenceIdeal.main_arg2)
          ∧ r.2.mem ((c.tc : Thread Cert.FinalNormReferenceIdeal.nD Cert.FinalNormReferenceIdeal.τ).loc Cert.FinalNormReferenceIdeal.main_arg3) = m' ((c.tc : Thread Cert.FinalNormReferenceIdeal.nD Cert.FinalNormReferenceIdeal.τ).loc Cert.FinalNormReferenceIdeal.main_arg3)
          ∧ r.2.mem ((c.tc : Thread Cert.FinalNormReferenceIdeal.nD Cert.FinalNormReferenceIdeal.τ).loc Cert.FinalNormReferenceIdeal.main_arg4) = m' ((c.tc : Thread Cert.FinalNormReferenceIdeal.nD Cert.FinalNormReferenceIdeal.τ).loc Cert.FinalNormReferenceIdeal.main_arg4))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)
      ∧ m' ((c.tc : Thread Cert.MixOutReferenceIdeal.nD Cert.MixOutReferenceIdeal.τ).loc Cert.MixOutReferenceIdeal.main_arg5) = m ((c.tc : Thread Cert.MixOutIdeal.nD Cert.MixOutIdeal.τ).loc Cert.MixOutIdeal.main_arg5)
      ∧ m' ((c.tc : Thread Cert.MixOutReferenceIdeal.nD Cert.MixOutReferenceIdeal.τ).loc Cert.MixOutReferenceIdeal.main_arg6) = m ((c.tc : Thread Cert.MixOutIdeal.nD Cert.MixOutIdeal.τ).loc Cert.MixOutIdeal.main_arg6)
      ∧ m' ((c.tc : Thread Cert.MixOutReferenceIdeal.nD Cert.MixOutReferenceIdeal.τ).loc Cert.MixOutReferenceIdeal.main_arg7) = m ((c.tc : Thread Cert.MixOutIdeal.nD Cert.MixOutIdeal.τ).loc Cert.MixOutIdeal.main_arg7)
      ∧ m' ((c.tc : Thread Cert.MixOutReferenceIdeal.nD Cert.MixOutReferenceIdeal.τ).loc Cert.MixOutReferenceIdeal.main_arg8) = m ((c.tc : Thread Cert.MixOutIdeal.nD Cert.MixOutIdeal.τ).loc Cert.MixOutIdeal.main_arg8)
      ∧ m' ((c.tc : Thread Cert.MixOutReferenceIdeal.nD Cert.MixOutReferenceIdeal.τ).loc Cert.MixOutReferenceIdeal.main_arg9) = m ((c.tc : Thread Cert.MixOutIdeal.nD Cert.MixOutIdeal.τ).loc Cert.MixOutIdeal.main_arg9)
      ∧ m' ((c.tc : Thread Cert.MixOutReferenceIdeal.nD Cert.MixOutReferenceIdeal.τ).loc Cert.MixOutReferenceIdeal.main_arg10) = m ((c.tc : Thread Cert.MixOutIdeal.nD Cert.MixOutIdeal.τ).loc Cert.MixOutIdeal.main_arg10)
      ∧ m' ((c.tc : Thread Cert.MixOutReferenceIdeal.nD Cert.MixOutReferenceIdeal.τ).loc Cert.MixOutReferenceIdeal.main_arg11) = m ((c.tc : Thread Cert.MixOutIdeal.nD Cert.MixOutIdeal.τ).loc Cert.MixOutIdeal.main_arg11)) →
    ∃ (v0 : (c : Dev Cert.MixOutIdeal.nD) → Buf (Elt Ideal) ((c.tc : Thread Cert.MixOutIdeal.nD Cert.MixOutIdeal.τ).loc Cert.MixOutIdeal.main_v6_0)) (v1 : (c : Dev Cert.MixOutIdeal.nD) → Buf (Elt Ideal) ((c.tc : Thread Cert.MixOutIdeal.nD Cert.MixOutIdeal.τ).loc Cert.MixOutIdeal.main_v6_1)) (v2 : (c : Dev Cert.MixOutIdeal.nD) → Buf (Elt Ideal) ((c.tc : Thread Cert.MixOutIdeal.nD Cert.MixOutIdeal.τ).loc Cert.MixOutIdeal.main_v6_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v6_0) = v0 c
          ∧ r.2.mem ((c.tc : Thread Cert.MixOutIdeal.nD Cert.MixOutIdeal.τ).loc Cert.MixOutIdeal.main_v6_1) = v1 c
          ∧ r.2.mem ((c.tc : Thread Cert.MixOutIdeal.nD Cert.MixOutIdeal.τ).loc Cert.MixOutIdeal.main_v6_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8)
          ∧ r.2.mem ((c.tc : Thread Cert.MixOutIdeal.nD Cert.MixOutIdeal.τ).loc Cert.MixOutIdeal.main_arg9) = m ((c.tc : Thread Cert.MixOutIdeal.nD Cert.MixOutIdeal.τ).loc Cert.MixOutIdeal.main_arg9)
          ∧ r.2.mem ((c.tc : Thread Cert.MixOutIdeal.nD Cert.MixOutIdeal.τ).loc Cert.MixOutIdeal.main_arg10) = m ((c.tc : Thread Cert.MixOutIdeal.nD Cert.MixOutIdeal.τ).loc Cert.MixOutIdeal.main_arg10)
          ∧ r.2.mem ((c.tc : Thread Cert.MixOutIdeal.nD Cert.MixOutIdeal.τ).loc Cert.MixOutIdeal.main_arg11) = m ((c.tc : Thread Cert.MixOutIdeal.nD Cert.MixOutIdeal.τ).loc Cert.MixOutIdeal.main_arg11))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v49) = v0 c
          ∧ r.2.mem ((c.tc : Thread Cert.MixOutReferenceIdeal.nD Cert.MixOutReferenceIdeal.τ).loc Cert.MixOutReferenceIdeal.main_v73) = v1 c
          ∧ r.2.mem ((c.tc : Thread Cert.MixOutReferenceIdeal.nD Cert.MixOutReferenceIdeal.τ).loc Cert.MixOutReferenceIdeal.main_v74) = v2 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5)
          ∧ r.2.mem ((c.tc : Thread Cert.MixOutReferenceIdeal.nD Cert.MixOutReferenceIdeal.τ).loc Cert.MixOutReferenceIdeal.main_arg6) = m' ((c.tc : Thread Cert.MixOutReferenceIdeal.nD Cert.MixOutReferenceIdeal.τ).loc Cert.MixOutReferenceIdeal.main_arg6)
          ∧ r.2.mem ((c.tc : Thread Cert.MixOutReferenceIdeal.nD Cert.MixOutReferenceIdeal.τ).loc Cert.MixOutReferenceIdeal.main_arg7) = m' ((c.tc : Thread Cert.MixOutReferenceIdeal.nD Cert.MixOutReferenceIdeal.τ).loc Cert.MixOutReferenceIdeal.main_arg7)
          ∧ r.2.mem ((c.tc : Thread Cert.MixOutReferenceIdeal.nD Cert.MixOutReferenceIdeal.τ).loc Cert.MixOutReferenceIdeal.main_arg8) = m' ((c.tc : Thread Cert.MixOutReferenceIdeal.nD Cert.MixOutReferenceIdeal.τ).loc Cert.MixOutReferenceIdeal.main_arg8)
          ∧ r.2.mem ((c.tc : Thread Cert.MixOutReferenceIdeal.nD Cert.MixOutReferenceIdeal.τ).loc Cert.MixOutReferenceIdeal.main_arg9) = m' ((c.tc : Thread Cert.MixOutReferenceIdeal.nD Cert.MixOutReferenceIdeal.τ).loc Cert.MixOutReferenceIdeal.main_arg9)
          ∧ r.2.mem ((c.tc : Thread Cert.MixOutReferenceIdeal.nD Cert.MixOutReferenceIdeal.τ).loc Cert.MixOutReferenceIdeal.main_arg10) = m' ((c.tc : Thread Cert.MixOutReferenceIdeal.nD Cert.MixOutReferenceIdeal.τ).loc Cert.MixOutReferenceIdeal.main_arg10)
          ∧ r.2.mem ((c.tc : Thread Cert.MixOutReferenceIdeal.nD Cert.MixOutReferenceIdeal.τ).loc Cert.MixOutReferenceIdeal.main_arg11) = m' ((c.tc : Thread Cert.MixOutReferenceIdeal.nD Cert.MixOutReferenceIdeal.τ).loc Cert.MixOutReferenceIdeal.main_arg11))

def preserves_ProjIn_ProjInIdeal : Prop :=
  True

def algebraic_ProjInIdeal_ProjInReferenceIdeal_pre_finite5 [hProjInIdeal : Cert.ProjInIdeal.Facts] [hProjInReferenceIdeal : Cert.ProjInReferenceIdeal.Facts] [hPre_finite5 : Cert.Pre_finite5.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInReferenceIdeal.nD Cert.ProjInReferenceIdeal.τ Cert.ProjInReferenceIdeal.sig) → Buf (Elt Ideal) ℓ) (g' : Dev Cert.ProjInReferenceIdeal.nD → PrngReg), Pre_ProjInIdeal_finite5 m →
    (∀ c : Dev Cert.ProjInIdeal.nD,
      m' ((c.tc : Thread Cert.ProjInReferenceIdeal.nD Cert.ProjInReferenceIdeal.τ).loc Cert.ProjInReferenceIdeal.main_arg0) = m ((c.tc : Thread Cert.ProjInIdeal.nD Cert.ProjInIdeal.τ).loc Cert.ProjInIdeal.main_arg0)
      ∧ m' ((c.tc : Thread Cert.ProjInReferenceIdeal.nD Cert.ProjInReferenceIdeal.τ).loc Cert.ProjInReferenceIdeal.main_arg1) = m ((c.tc : Thread Cert.ProjInIdeal.nD Cert.ProjInIdeal.τ).loc Cert.ProjInIdeal.main_arg1)
      ∧ m' ((c.tc : Thread Cert.ProjInReferenceIdeal.nD Cert.ProjInReferenceIdeal.τ).loc Cert.ProjInReferenceIdeal.main_arg2) = m ((c.tc : Thread Cert.ProjInIdeal.nD Cert.ProjInIdeal.τ).loc Cert.ProjInIdeal.main_arg2)
      ∧ m' ((c.tc : Thread Cert.ProjInReferenceIdeal.nD Cert.ProjInReferenceIdeal.τ).loc Cert.ProjInReferenceIdeal.main_arg3) = m ((c.tc : Thread Cert.ProjInIdeal.nD Cert.ProjInIdeal.τ).loc Cert.ProjInIdeal.main_arg3)
      ∧ m' ((c.tc : Thread Cert.ProjInReferenceIdeal.nD Cert.ProjInReferenceIdeal.τ).loc Cert.ProjInReferenceIdeal.main_arg4) = m ((c.tc : Thread Cert.ProjInIdeal.nD Cert.ProjInIdeal.τ).loc Cert.ProjInIdeal.main_arg4)
      ∧ m' ((c.tc : Thread Cert.ProjInReferenceIdeal.nD Cert.ProjInReferenceIdeal.τ).loc Cert.ProjInReferenceIdeal.main_arg5) = m ((c.tc : Thread Cert.ProjInIdeal.nD Cert.ProjInIdeal.τ).loc Cert.ProjInIdeal.main_arg5)
      ∧ m' ((c.tc : Thread Cert.ProjInReferenceIdeal.nD Cert.ProjInReferenceIdeal.τ).loc Cert.ProjInReferenceIdeal.main_arg6) = m ((c.tc : Thread Cert.ProjInIdeal.nD Cert.ProjInIdeal.τ).loc Cert.ProjInIdeal.main_arg6)
      ∧ m' ((c.tc : Thread Cert.ProjInReferenceIdeal.nD Cert.ProjInReferenceIdeal.τ).loc Cert.ProjInReferenceIdeal.main_arg7) = m ((c.tc : Thread Cert.ProjInIdeal.nD Cert.ProjInIdeal.τ).loc Cert.ProjInIdeal.main_arg7)
      ∧ m' ((c.tc : Thread Cert.ProjInReferenceIdeal.nD Cert.ProjInReferenceIdeal.τ).loc Cert.ProjInReferenceIdeal.main_arg8) = m ((c.tc : Thread Cert.ProjInIdeal.nD Cert.ProjInIdeal.τ).loc Cert.ProjInIdeal.main_arg8)) →
    ∃ (v0 : (c : Dev Cert.ProjInIdeal.nD) → Buf (Elt Ideal) ((c.tc : Thread Cert.ProjInIdeal.nD Cert.ProjInIdeal.τ).loc Cert.ProjInIdeal.main_v84_0)) (v1 : (c : Dev Cert.ProjInIdeal.nD) → Buf (Elt Ideal) ((c.tc : Thread Cert.ProjInIdeal.nD Cert.ProjInIdeal.τ).loc Cert.ProjInIdeal.main_v84_2)) (v2 : (c : Dev Cert.ProjInIdeal.nD) → Buf (Elt Ideal) ((c.tc : Thread Cert.ProjInIdeal.nD Cert.ProjInIdeal.τ).loc Cert.ProjInIdeal.main_v84_3)) (v3 : (c : Dev Cert.ProjInIdeal.nD) → Buf (Elt Ideal) ((c.tc : Thread Cert.ProjInIdeal.nD Cert.ProjInIdeal.τ).loc Cert.ProjInIdeal.main_v84_1)) (v4 : (c : Dev Cert.ProjInIdeal.nD) → Buf (Elt Ideal) ((c.tc : Thread Cert.ProjInIdeal.nD Cert.ProjInIdeal.τ).loc Cert.ProjInIdeal.main_v84_4)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v84_0) = v0 c
          ∧ r.2.mem ((c.tc : Thread Cert.ProjInIdeal.nD Cert.ProjInIdeal.τ).loc Cert.ProjInIdeal.main_v84_2) = v1 c
          ∧ r.2.mem ((c.tc : Thread Cert.ProjInIdeal.nD Cert.ProjInIdeal.τ).loc Cert.ProjInIdeal.main_v84_3) = v2 c
          ∧ r.2.mem ((c.tc : Thread Cert.ProjInIdeal.nD Cert.ProjInIdeal.τ).loc Cert.ProjInIdeal.main_v84_1) = v3 c
          ∧ r.2.mem ((c.tc : Thread Cert.ProjInIdeal.nD Cert.ProjInIdeal.τ).loc Cert.ProjInIdeal.main_v84_4) = v4 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3)
          ∧ r.2.mem ((c.tc : Thread Cert.ProjInIdeal.nD Cert.ProjInIdeal.τ).loc Cert.ProjInIdeal.main_arg4) = m ((c.tc : Thread Cert.ProjInIdeal.nD Cert.ProjInIdeal.τ).loc Cert.ProjInIdeal.main_arg4)
          ∧ r.2.mem ((c.tc : Thread Cert.ProjInIdeal.nD Cert.ProjInIdeal.τ).loc Cert.ProjInIdeal.main_arg5) = m ((c.tc : Thread Cert.ProjInIdeal.nD Cert.ProjInIdeal.τ).loc Cert.ProjInIdeal.main_arg5)
          ∧ r.2.mem ((c.tc : Thread Cert.ProjInIdeal.nD Cert.ProjInIdeal.τ).loc Cert.ProjInIdeal.main_arg6) = m ((c.tc : Thread Cert.ProjInIdeal.nD Cert.ProjInIdeal.τ).loc Cert.ProjInIdeal.main_arg6)
          ∧ r.2.mem ((c.tc : Thread Cert.ProjInIdeal.nD Cert.ProjInIdeal.τ).loc Cert.ProjInIdeal.main_arg7) = m ((c.tc : Thread Cert.ProjInIdeal.nD Cert.ProjInIdeal.τ).loc Cert.ProjInIdeal.main_arg7)
          ∧ r.2.mem ((c.tc : Thread Cert.ProjInIdeal.nD Cert.ProjInIdeal.τ).loc Cert.ProjInIdeal.main_arg8) = m ((c.tc : Thread Cert.ProjInIdeal.nD Cert.ProjInIdeal.τ).loc Cert.ProjInIdeal.main_arg8))
      ∧ θ_run (Cert.ProjInReferenceIdeal.defs (F := Ideal)) (onTc (τ := Cert.ProjInReferenceIdeal.τ) (Cert.ProjInReferenceIdeal.main (F := Ideal))) ⟨m', fun _ => 0, g'⟩ (fun r => ∀ c : Dev Cert.ProjInReferenceIdeal.nD,
          r.2.mem ((c.tc : Thread Cert.ProjInReferenceIdeal.nD Cert.ProjInReferenceIdeal.τ).loc Cert.ProjInReferenceIdeal.main_v178) = v0 c
          ∧ r.2.mem ((c.tc : Thread Cert.ProjInReferenceIdeal.nD Cert.ProjInReferenceIdeal.τ).loc Cert.ProjInReferenceIdeal.main_v183) = v1 c
          ∧ r.2.mem ((c.tc : Thread Cert.ProjInReferenceIdeal.nD Cert.ProjInReferenceIdeal.τ).loc Cert.ProjInReferenceIdeal.main_v184) = v2 c
          ∧ r.2.mem ((c.tc : Thread Cert.ProjInReferenceIdeal.nD Cert.ProjInReferenceIdeal.τ).loc Cert.ProjInReferenceIdeal.main_v185) = v3 c
          ∧ r.2.mem ((c.tc : Thread Cert.ProjInReferenceIdeal.nD Cert.ProjInReferenceIdeal.τ).loc Cert.ProjInReferenceIdeal.main_v24) = v4 c
          ∧ r.2.mem ((c.tc : Thread Cert.ProjInReferenceIdeal.nD Cert.ProjInReferenceIdeal.τ).loc Cert.ProjInReferenceIdeal.main_arg0) = m' ((c.tc : Thread Cert.ProjInReferenceIdeal.nD Cert.ProjInReferenceIdeal.τ).loc Cert.ProjInReferenceIdeal.main_arg0)
          ∧ r.2.mem ((c.tc : Thread Cert.ProjInReferenceIdeal.nD Cert.ProjInReferenceIdeal.τ).loc Cert.ProjInReferenceIdeal.main_arg1) = m' ((c.tc : Thread Cert.ProjInReferenceIdeal.nD Cert.ProjInReferenceIdeal.τ).loc Cert.ProjInReferenceIdeal.main_arg1)
          ∧ r.2.mem ((c.tc : Thread Cert.ProjInReferenceIdeal.nD Cert.ProjInReferenceIdeal.τ).loc Cert.ProjInReferenceIdeal.main_arg2) = m' ((c.tc : Thread Cert.ProjInReferenceIdeal.nD Cert.ProjInReferenceIdeal.τ).loc Cert.ProjInReferenceIdeal.main_arg2)
          ∧ r.2.mem ((c.tc : Thread Cert.ProjInReferenceIdeal.nD Cert.ProjInReferenceIdeal.τ).loc Cert.ProjInReferenceIdeal.main_arg3) = m' ((c.tc : Thread Cert.ProjInReferenceIdeal.nD Cert.ProjInReferenceIdeal.τ).loc Cert.ProjInReferenceIdeal.main_arg3)
          ∧ r.2.mem ((c.tc : Thread Cert.ProjInReferenceIdeal.nD Cert.ProjInReferenceIdeal.τ).loc Cert.ProjInReferenceIdeal.main_arg4) = m' ((c.tc : Thread Cert.ProjInReferenceIdeal.nD Cert.ProjInReferenceIdeal.τ).loc Cert.ProjInReferenceIdeal.main_arg4)
          ∧ r.2.mem ((c.tc : Thread Cert.ProjInReferenceIdeal.nD Cert.ProjInReferenceIdeal.τ).loc Cert.ProjInReferenceIdeal.main_arg5) = m' ((c.tc : Thread Cert.ProjInReferenceIdeal.nD Cert.ProjInReferenceIdeal.τ).loc Cert.ProjInReferenceIdeal.main_arg5)
          ∧ r.2.mem ((c.tc : Thread Cert.ProjInReferenceIdeal.nD Cert.ProjInReferenceIdeal.τ).loc Cert.ProjInReferenceIdeal.main_arg6) = m' ((c.tc : Thread Cert.ProjInReferenceIdeal.nD Cert.ProjInReferenceIdeal.τ).loc Cert.ProjInReferenceIdeal.main_arg6)
          ∧ r.2.mem ((c.tc : Thread Cert.ProjInReferenceIdeal.nD Cert.ProjInReferenceIdeal.τ).loc Cert.ProjInReferenceIdeal.main_arg7) = m' ((c.tc : Thread Cert.ProjInReferenceIdeal.nD Cert.ProjInReferenceIdeal.τ).loc Cert.ProjInReferenceIdeal.main_arg7)
          ∧ r.2.mem ((c.tc : Thread Cert.ProjInReferenceIdeal.nD Cert.ProjInReferenceIdeal.τ).loc Cert.ProjInReferenceIdeal.main_arg8) = m' ((c.tc : Thread Cert.ProjInReferenceIdeal.nD Cert.ProjInReferenceIdeal.τ).loc Cert.ProjInReferenceIdeal.main_arg8))

def Claim : Prop :=
  ∃ (hKernel : Cert.Kernel.Facts) (hKernelIdeal : Cert.KernelIdeal.Facts) (hReferenceIdeal : Cert.ReferenceIdeal.Facts) (hFinalNorm : Cert.FinalNorm.Facts) (hFinalNormIdeal : Cert.FinalNormIdeal.Facts) (hFinalNormReferenceIdeal : Cert.FinalNormReferenceIdeal.Facts) (hMixOut : Cert.MixOut.Facts) (hMixOutIdeal : Cert.MixOutIdeal.Facts) (hMixOutReferenceIdeal : Cert.MixOutReferenceIdeal.Facts) (hProjIn : Cert.ProjIn.Facts) (hProjInIdeal : Cert.ProjInIdeal.Facts) (hProjInReferenceIdeal : Cert.ProjInReferenceIdeal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FinalNorm (hFinalNorm := hFinalNorm)
    ∧ quiescent_FinalNormIdeal (hFinalNormIdeal := hFinalNormIdeal)
    ∧ quiescent_FinalNormReferenceIdeal (hFinalNormReferenceIdeal := hFinalNormReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_ProjIn (hProjIn := hProjIn)
    ∧ quiescent_ProjInIdeal (hProjInIdeal := hProjInIdeal)
    ∧ quiescent_ProjInIdeal_pre_finite5 (hProjInIdeal := hProjInIdeal) (hPre_finite5 := hPre_finite5)
    ∧ quiescent_ProjInReferenceIdeal (hProjInReferenceIdeal := hProjInReferenceIdeal)
    ∧ quiescent_ProjInReferenceIdeal_pre_finite5 (hProjInReferenceIdeal := hProjInReferenceIdeal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_FinalNorm_FinalNormIdeal
    ∧ algebraic_FinalNormIdeal_FinalNormReferenceIdeal (hFinalNormIdeal := hFinalNormIdeal) (hFinalNormReferenceIdeal := hFinalNormReferenceIdeal)
    ∧ preserves_MixOut_MixOutIdeal
    ∧ algebraic_MixOutIdeal_MixOutReferenceIdeal (hMixOutIdeal := hMixOutIdeal) (hMixOutReferenceIdeal := hMixOutReferenceIdeal)
    ∧ preserves_ProjIn_ProjInIdeal
    ∧ algebraic_ProjInIdeal_ProjInReferenceIdeal_pre_finite5 (hProjInIdeal := hProjInIdeal) (hProjInReferenceIdeal := hProjInReferenceIdeal) (hPre_finite5 := hPre_finite5)
-- ==== Pre_finite.lean ====
abbrev S8x4096x1024 : Shape := ⟨3, ![8, 4096, 1024]⟩
abbrev S8x4352x1024 : Shape := ⟨3, ![8, 4352, 1024]⟩
abbrev S8x4352x128 : Shape := ⟨3, ![8, 4352, 128]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x4352x1024 : S_.BroadcastsInDim S8x4352x1024 (![] : Fin 0 → Fin S8x4352x1024.rank)
  reducesTo_S8x4352x1024_S_d0_1_2 : S8x4352x1024.ReducesTo [0, 1, 2] S_
  bcast_S_S8x4352x128 : S_.BroadcastsInDim S8x4352x128 (![] : Fin 0 → Fin S8x4352x128.rank)
  reducesTo_S8x4352x128_S_d0_1_2 : S8x4352x128.ReducesTo [0, 1, 2] S_

variable [Facts]

def fn {F : FTy → Type} [FloatOps F] (main_arg0 : FVec F S8x4096x1024 .bf16) (main_arg1 : FVec F S8x4352x1024 .bf16) (main_arg2 : FVec F S8x4352x128 .bf16) : IVec S_ 1 :=
  let main_v0 : FVec F S8x4096x1024 .f32 := (extf .f32 · bitsLt_bf16_f32) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_c : IVec S_ 1 := constantI S_ 1 1#1
  let main_v4 : IVec S_ 1 := (fun x v => Host.reduce IntOp.andi x v reducesTo_S8x4096x1024_S_d0_1_2 h_S_) main_v3 main_c
  let main_v5 : FVec F S8x4352x1024 .f32 := (extf .f32 · bitsLt_bf16_f32) main_arg1
  let main_v6 : FVec F S8x4352x1024 .f32 := Host.absf main_v5
  let main_cst_0 : FVec F S_ .f32 := constant S_ .f32 0x7F800000#32
  let main_v7 : FVec F S8x4352x1024 .f32 := broadcastInDim S8x4352x1024 ![] bcast_S_S8x4352x1024 main_cst_0
  let main_v8 : IVec S8x4352x1024 1 := cmpf .olt main_v6 main_v7
  let main_c_1 : IVec S_ 1 := constantI S_ 1 1#1
  let main_v9 : IVec S_ 1 := (fun x v => Host.reduce IntOp.andi x v reducesTo_S8x4352x1024_S_d0_1_2 h_S_) main_v8 main_c_1
  let main_v10 : IVec S_ 1 := andi main_v4 main_v9
  let main_v11 : FVec F S8x4352x128 .f32 := (extf .f32 · bitsLt_bf16_f32) main_arg2
  let main_v12 : FVec F S8x4352x128 .f32 := Host.absf main_v11
  let main_cst_2 : FVec F S_ .f32 := constant S_ .f32 0x7F800000#32
  let main_v13 : FVec F S8x4352x128 .f32 := broadcastInDim S8x4352x128 ![] bcast_S_S8x4352x128 main_cst_2
  let main_v14 : IVec S8x4352x128 1 := cmpf .olt main_v12 main_v13
  let main_c_3 : IVec S_ 1 := constantI S_ 1 1#1
  let main_v15 : IVec S_ 1 := (fun x v => Host.reduce IntOp.andi x v reducesTo_S8x4352x128_S_d0_1_2 h_S_) main_v14 main_c_3
  let main_v16 : IVec S_ 1 := andi main_v10 main_v15
  main_v16
-- ==== Pre_finite5.lean ====
abbrev S8x4096x1024 : Shape := ⟨3, ![8, 4096, 1024]⟩
abbrev S1024 : Shape := ⟨1, ![1024]⟩
abbrev S8x1x1024 : Shape := ⟨3, ![8, 1, 1024]⟩
abbrev S1024x1696 : Shape := ⟨2, ![1024, 1696]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S8x1x1024 : S_.BroadcastsInDim S8x1x1024 (![] : Fin 0 → Fin S8x1x1024.rank)
  reducesTo_S8x1x1024_S_d0_1_2 : S8x1x1024.ReducesTo [0, 1, 2] S_
  bcast_S_S1024x1696 : S_.BroadcastsInDim S1024x1696 (![] : Fin 0 → Fin S1024x1696.rank)
  reducesTo_S1024x1696_S_d0_1 : S1024x1696.ReducesTo [0, 1] S_
  bcast_S_S384 : S_.BroadcastsInDim S384 (![] : Fin 0 → Fin S384.rank)
  reducesTo_S384_S_d0 : S384.ReducesTo [0] S_
  bcast_S_S384x768 : S_.BroadcastsInDim S384x768 (![] : Fin 0 → Fin S384x768.rank)
  reducesTo_S384x768_S_d0_1 : S384x768.ReducesTo [0, 1] S_

variable [Facts]

def fn_part1 {F : FTy → Type} [FloatOps F] (main_arg4 : FVec F S1024x1696 .f32) (main_arg5 : FVec F S384 .f32) (main_arg6 : FVec F S384x768 .f32) (main_v13 : IVec S_ 1) (main_v16 : IVec S8x1x1024 1) : IVec S_ 1 :=
  let main_c_5 : IVec S_ 1 := constantI S_ 1 1#1
  let main_v17 : IVec S_ 1 := (fun x v => Host.reduce IntOp.andi x v reducesTo_S8x1x1024_S_d0_1_2 h_S_) main_v16 main_c_5
  let main_v18 : IVec S_ 1 := andi main_v13 main_v17
  let main_v19 : FVec F S1024x1696 .f32 := Host.absf main_arg4
  let main_cst_6 : FVec F S_ .f32 := constant S_ .f32 0x7F800000#32
  let main_v20 : FVec F S1024x1696 .f32 := broadcastInDim S1024x1696 ![] bcast_S_S1024x1696 main_cst_6
  let main_v21 : IVec S1024x1696 1 := cmpf .olt main_v19 main_v20
  let main_c_7 : IVec S_ 1 := constantI S_ 1 1#1
  let main_v22 : IVec S_ 1 := (fun x v => Host.reduce IntOp.andi x v reducesTo_S1024x1696_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384x768 .f32 := Host.absf main_arg6
  let main_cst_10 : FVec F S_ .f32 := constant S_ .f32 0x7F800000#32
  let main_v30 : FVec F S384x768 .f32 := broadcastInDim S384x768 ![] bcast_S_S384x768 main_cst_10
  let main_v31 : IVec S384x768 1 := cmpf .olt main_v29 main_v30
  let main_c_11 : IVec S_ 1 := constantI S_ 1 1#1
  let main_v32 : IVec S_ 1 := (fun x v => Host.reduce IntOp.andi x v reducesTo_S384x768_S_d0_1 h_S_) main_v31 main_c_11
  let main_v33 : IVec S_ 1 := andi main_v28 main_v32
  main_v33

def fn {F : FTy → Type} [FloatOps F] (main_arg0 : FVec F S8x4096x1024 .f32) (main_arg1 : FVec F S1024 .f32) (main_arg2 : FVec F S8x1x1024 .f32) (main_arg3 : FVec F S8x1x1024 .f32) (main_arg4 : FVec F S1024x1696 .f32) (main_arg5 : FVec F S384 .f32) (main_arg6 : FVec F S384x768 .f32) (main_arg7 : FVec F S256 .f32) (main_arg8 : FVec F S256x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8x1x1024 .f32 := Host.absf main_arg2
  let main_cst_2 : FVec F S_ .f32 := constant S_ .f32 0x7F800000#32
  let main_v10 : FVec F S8x1x1024 .f32 := broadcastInDim S8x1x1024 ![] bcast_S_S8x1x1024 main_cst_2
  let main_v11 : IVec S8x1x1024 1 := cmpf .olt main_v9 main_v10
  let main_c_3 : IVec S_ 1 := constantI S_ 1 1#1
  let main_v12 : IVec S_ 1 := (fun x v => Host.reduce IntOp.andi x v reducesTo_S8x1x1024_S_d0_1_2 h_S_) main_v11 main_c_3
  let main_v13 : IVec S_ 1 := andi main_v8 main_v12
  let main_v14 : FVec F S8x1x1024 .f32 := Host.absf main_arg3
  let main_cst_4 : FVec F S_ .f32 := constant S_ .f32 0x7F800000#32
  let main_v15 : FVec F S8x1x1024 .f32 := broadcastInDim S8x1x1024 ![] bcast_S_S8x1x1024 main_cst_4
  let main_v16 : IVec S8x1x1024 1 := cmpf .olt main_v14 main_v15
  fn_part1 (F := F) main_arg4 main_arg5 main_arg6 main_v13 main_v16
-- ==== Kernel.lean ====
abbrev S8x4096x1024 : Shape := ⟨3, ![8, 4096, 1024]⟩
abbrev S8x4352x1024 : Shape := ⟨3, ![8, 4352, 1024]⟩
abbrev S8x4352x128 : Shape := ⟨3, ![8, 4352, 128]⟩
abbrev S8x4096x512 : Shape := ⟨3, ![8, 4096, 512]⟩
abbrev S1x256x512 : Shape := ⟨3, ![1, 256, 512]⟩
abbrev S1x4352x512 : Shape := ⟨3, ![1, 4352, 512]⟩
abbrev S1x4352x128 : Shape := ⟨3, ![1, 4352, 128]⟩
abbrev S1x256x256 : Shape := ⟨3, ![1, 256, 256]⟩
abbrev S4x4352x128 : Shape := ⟨3, ![4, 4352, 128]⟩
abbrev S4352x128 : Shape := ⟨2, ![4352, 128]⟩
abbrev S1x256x128 : Shape := ⟨3, ![1, 256, 128]⟩
abbrev S256x128 : Shape := ⟨2, ![256, 128]⟩
abbrev S256x4352 : Shape := ⟨2, ![256, 4352]⟩
abbrev S256 : Shape := ⟨1, ![256]⟩
abbrev S256x1 : Shape := ⟨2, ![256, 1]⟩
abbrev S256x64 : Shape := ⟨2, ![256, 64]⟩
abbrev S256x256 : Shape := ⟨2, ![256, 256]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x1024, .bf16⟩
  | .hbm, ⟨1, _⟩ => ⟨S8x4352x1024, .bf16⟩
  | .hbm, ⟨2, _⟩ => ⟨S8x4352x128, .bf16⟩
  | .hbm, ⟨3, _⟩ => ⟨S8x4096x512, .f32⟩
  | .local _ .vmem, ⟨0, _⟩ => ⟨S1x256x512, .bf16⟩
  | .local _ .vmem, ⟨1, _⟩ => ⟨S1x256x512, .bf16⟩
  | .local _ .vmem, ⟨2, _⟩ => ⟨S1x4352x512, .bf16⟩
  | .local _ .vmem, ⟨3, _⟩ => ⟨S1x4352x128, .bf16⟩
  | .local _ .vmem, ⟨4, _⟩ => ⟨S1x256x256, .f32⟩
  | .local _ .vmem, ⟨5, _⟩ => ⟨S1x256x256, .f32⟩
  | .local _ .vmem, ⟨6, _⟩ => ⟨S4x4352x128, .bf16⟩
  | .local _ .vmem, ⟨7, _⟩ => ⟨S4x4352x128, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x4352x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x4352x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4096x1024 : Shape := ⟨3, ![8, 4096, 1024]⟩
abbrev S8x4352x1024 : Shape := ⟨3, ![8, 4352, 1024]⟩
abbrev S8x4352x128 : Shape := ⟨3, ![8, 4352, 128]⟩
abbrev S8x4096x8x128 : Shape := ⟨4, ![8, 4096, 8, 128]⟩
abbrev S8x4352x8x128 : Shape := ⟨4, ![8, 4352, 8, 128]⟩
abbrev S8x4096x8x64 : Shape := ⟨4, ![8, 4096, 8, 64]⟩
abbrev S8x4352x8x64 : Shape := ⟨4, ![8, 4352, 8, 64]⟩
abbrev S8x4352x64 : Shape := ⟨3, ![8, 4352, 64]⟩
abbrev S8x8x4096x4352 : Shape := ⟨4, ![8, 8, 4096, 4352]⟩
abbrev S8x4352x4096x8 : Shape := ⟨4, ![8, 4352, 4096, 8]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4352x1024, .bf16⟩
  | .hbm, ⟨2, _⟩ => ⟨S8x4352x128, .bf16⟩
  | .hbm, ⟨3, _⟩ => ⟨S8x4096x1024, .f32⟩
  | .hbm, ⟨4, _⟩ => ⟨S8x4096x8x128, .f32⟩
  | .hbm, ⟨5, _⟩ => ⟨S8x4352x1024, .f32⟩
  | .hbm, ⟨6, _⟩ => ⟨S8x4352x8x128, .f32⟩
  | .hbm, ⟨7, _⟩ => ⟨S8x4096x8x64, .f32⟩
  | .hbm, ⟨8, _⟩ => ⟨S8x4096x8x64, .f32⟩
  | .hbm, ⟨9, _⟩ => ⟨S8x4352x8x64, .f32⟩
  | .hbm, ⟨10, _⟩ => ⟨S8x4352x8x64, .f32⟩
  | .hbm, ⟨11, _⟩ => ⟨S8x4352x128, .f32⟩
  | .hbm, ⟨12, _⟩ => ⟨S8x4352x64, .f32⟩
  | .hbm, ⟨13, _⟩ => ⟨S8x8x4096x4352, .f32⟩
  | .hbm, ⟨14, _⟩ => ⟨S8x4352x4096x8, .f32⟩
  | .hbm, ⟨15, _⟩ => ⟨S8x8x4096x4352, .f32⟩
  | .hbm, ⟨16, _⟩ => ⟨S8x8x4096x4352, .f32⟩
  | .hbm, ⟨17, _⟩ => ⟨S_, .f32⟩
  | .hbm, ⟨18, _⟩ => ⟨S8x8x4096, .f32⟩
  | .hbm, ⟨19, _⟩ => ⟨S_, .f32⟩
  | .hbm, ⟨20, _⟩ => ⟨S8x8x4096, .f32⟩
  | .hbm, ⟨21, _⟩ => ⟨S8x8x4096, .f32⟩
  | .hbm, ⟨22, _⟩ => ⟨S8x8x4096x1, .f32⟩
  | .hbm, ⟨23, _⟩ => ⟨S8x8x4096x4352, .f32⟩
  | .hbm, ⟨24, _⟩ => ⟨S8x8x4096x4352, .f32⟩
  | .hbm, ⟨25, _⟩ => ⟨S8x8x4096x4352, .f32⟩
  | .hbm, ⟨26, _⟩ => ⟨S_, .f32⟩
  | .hbm, ⟨27, _⟩ => ⟨S8x8x4096, .f32⟩
  | .hbm, ⟨28, _⟩ => ⟨S8x8x4096x1, .f32⟩
  | .hbm, ⟨29, _⟩ => ⟨S8x8x4096x4352, .f32⟩
  | .hbm, ⟨30, _⟩ => ⟨S8x8x4096x4352, .f32⟩
  | .hbm, ⟨31, _⟩ => ⟨S8x8x64x4096, .f32⟩
  | .hbm, ⟨32, _⟩ => ⟨S8x4096x8x64, .f32⟩
  | .hbm, ⟨33, _⟩ => ⟨S8x4096x512, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== FinalNorm.lean ====
abbrev S8x4096x1024 : Shape := ⟨3, ![8, 4096, 1024]⟩
abbrev S32768x1024 : Shape := ⟨2, ![32768, 1024]⟩
abbrev S8x1x1024 : Shape := ⟨3, ![8, 1, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S32768x1024, .f32⟩
  | .hbm, ⟨2, _⟩ => ⟨S32768x1024, .f32⟩
  | .hbm, ⟨3, _⟩ => ⟨S8x1x1024, .f32⟩
  | .hbm, ⟨4, _⟩ => ⟨S1024, .f32⟩
  | .hbm, ⟨5, _⟩ => ⟨S1x1024, .f32⟩
  | .hbm, ⟨6, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FinalNormReferenceIdeal.lean ====
abbrev S8x4096x1024 : Shape := ⟨3, ![8, 4096, 1024]⟩
abbrev S32768x1024 : Shape := ⟨2, ![32768, 1024]⟩
abbrev S8x1x1024 : Shape := ⟨3, ![8, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32768x1024, .f32⟩
  | .hbm, ⟨2, _⟩ => ⟨S32768x1024, .f32⟩
  | .hbm, ⟨3, _⟩ => ⟨S8x1x1024, .f32⟩
  | .hbm, ⟨4, _⟩ => ⟨S1024, .f32⟩
  | .hbm, ⟨5, _⟩ => ⟨S32768x1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S_, .f32⟩
  | .hbm, ⟨12, _⟩ => ⟨S8x4096, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x1, .f32⟩
  | .hbm, ⟨21, _⟩ => ⟨S8x4096x1024, .f32⟩
  | .hbm, ⟨22, _⟩ => ⟨S8x4096x1024, .f32⟩
  | .hbm, ⟨23, _⟩ => ⟨S1x1x1024, .f32⟩
  | .hbm, ⟨24, _⟩ => ⟨S8x4096x1024, .f32⟩
  | .hbm, ⟨25, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== MixOut.lean ====
abbrev S4352x2048 : Shape := ⟨2, ![4352, 2048]⟩
abbrev S8x4096x512 : Shape := ⟨3, ![8, 4096, 512]⟩
abbrev S8x4096x256 : Shape := ⟨3, ![8, 4096, 256]⟩
abbrev S8x4096x1024 : Shape := ⟨3, ![8, 4096, 1024]⟩
abbrev S1024 : Shape := ⟨1, ![1024]⟩
abbrev S1024x1024 : Shape := ⟨2, ![1024, 1024]⟩
abbrev S8x1x1024 : Shape := ⟨3, ![8, 1, 1024]⟩
abbrev S1024x4 : Shape := ⟨2, ![1024, 4]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S1x1024 : Shape := ⟨2, ![1, 1024]⟩
abbrev S32768x1024 : Shape := ⟨2, ![32768, 1024]⟩
abbrev S32768x128 : Shape := ⟨2, ![32768, 128]⟩
abbrev S512x256 : Shape := ⟨2, ![512, 256]⟩
abbrev S1x512x512 : Shape := ⟨3, ![1, 512, 512]⟩
abbrev S1x512x256 : Shape := ⟨3, ![1, 512, 256]⟩
abbrev S1x512x1024 : Shape := ⟨3, ![1, 512, 1024]⟩
abbrev S1x1x1024 : Shape := ⟨3, ![1, 1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x256 : Shape := ⟨2, ![1, 256]⟩
abbrev S256x1024 : Shape := ⟨2, ![256, 1024]⟩
abbrev S512x512 : Shape := ⟨2, ![512, 512]⟩
abbrev S1x512 : Shape := ⟨2, ![1, 512]⟩

abbrev nBuf : Space → Nat
  | .hbm => 23
  | .vmem => 24
  | .smem => 0
  | _ => 0

abbrev bufTy : (tb : Table) → Fin (tcTables nBuf tb) → BufTy
  | .hbm, ⟨0, _⟩ => ⟨S4352x2048, .f32⟩
  | .hbm, ⟨1, _⟩ => ⟨S8x4096x512, .f32⟩
  | .hbm, ⟨2, _⟩ => ⟨S8x4096x256, .f32⟩
  | .hbm, ⟨3, _⟩ => ⟨S8x4096x1024, .f32⟩
  | .hbm, ⟨4, _⟩ => ⟨S1024, .f32⟩
  | .hbm, ⟨5, _⟩ => ⟨S1024x1024, .f32⟩
  | .hbm, ⟨6, _⟩ => ⟨S8x1x1024, .f32⟩
  | .hbm, ⟨7, _⟩ => ⟨S1024, .f32⟩
  | .hbm, ⟨8, _⟩ => ⟨S8x1x1024, .f32⟩
  | .hbm, ⟨9, _⟩ => ⟨S8x1x1024, .f32⟩
  | .hbm, ⟨10, _⟩ => ⟨S1024x4, .f32⟩
  | .hbm, ⟨11, _⟩ => ⟨S1024x32, .f32⟩
  | .hbm, ⟨12, _⟩ => ⟨S1024x36, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1x1024, .f32⟩
  | .hbm, ⟨17, _⟩ => ⟨S1024x1024, .bf16⟩
  | .hbm, ⟨18, _⟩ => ⟨S1x1024, .f32⟩
  | .hbm, ⟨19, _⟩ => ⟨S1024x128, .bf16⟩
  | .hbm, ⟨20, _⟩ => ⟨S8x4096x1024, .f32⟩
  | .hbm, ⟨21, _⟩ => ⟨S32768x1024, .bf16⟩
  | .hbm, ⟨22, _⟩ => ⟨S32768x128, .f32⟩
  | .local _ .vmem, ⟨0, _⟩ => ⟨S512x256, .f32⟩
  | .local _ .vmem, ⟨1, _⟩ => ⟨S512x256, .f32⟩
  | .local _ .vmem, ⟨2, _⟩ => ⟨S1x512x512, .f32⟩
  | .local _ .vmem, ⟨3, _⟩ => ⟨S1x512x512, .f32⟩
  | .local _ .vmem, ⟨4, _⟩ => ⟨S1x512x256, .f32⟩
  | .local _ .vmem, ⟨5, _⟩ => ⟨S1x512x256, .f32⟩
  | .local _ .vmem, ⟨6, _⟩ => ⟨S1x512x1024, .f32⟩
  | .local _ .vmem, ⟨7, _⟩ => ⟨S1x512x1024, .f32⟩
  | .local _ .vmem, ⟨8, _⟩ => ⟨S1x1024, .f32⟩
  | .local _ .vmem, ⟨9, _⟩ => ⟨S1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1024x128, .bf16⟩
  | .local _ .vmem, ⟨18, _⟩ => ⟨S1x512x1024, .f32⟩
  | .local _ .vmem, ⟨19, _⟩ => ⟨S1x512x1024, .f32⟩
  | .local _ .vmem, ⟨20, _⟩ => ⟨S512x1024, .bf16⟩
  | .local _ .vmem, ⟨21, _⟩ => ⟨S512x1024, .bf16⟩
  | .local _ .vmem, ⟨22, _⟩ => ⟨S512x128, .f32⟩
  | .local _ .vmem, ⟨23, _⟩ => ⟨S512x128, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v6_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixOutReferenceIdeal.lean ====
abbrev S4352x2048 : Shape := ⟨2, ![4352, 2048]⟩
abbrev S8x4096x512 : Shape := ⟨3, ![8, 4096, 512]⟩
abbrev S8x4096x256 : Shape := ⟨3, ![8, 4096, 256]⟩
abbrev S8x4096x1024 : Shape := ⟨3, ![8, 4096, 1024]⟩
abbrev S1024 : Shape := ⟨1, ![1024]⟩
abbrev S1024x1024 : Shape := ⟨2, ![1024, 1024]⟩
abbrev S8x1x1024 : Shape := ⟨3, ![8, 1, 1024]⟩
abbrev S1024x4 : Shape := ⟨2, ![1024, 4]⟩
abbrev S1024x32 : Shape := ⟨2, ![1024, 32]⟩
abbrev S4096x2048 : Shape := ⟨2, ![4096, 2048]⟩
abbrev S4096x8x256 : Shape := ⟨3, ![4096, 8, 256]⟩
abbrev S256 : Shape := ⟨1, ![256]⟩
abbrev S_ : Shape := ⟨0, ![]⟩
abbrev S8x4096 : Shape := ⟨2, ![8, 4096]⟩
abbrev S8x4096x1 : Shape := ⟨3, ![8, 4096, 1]⟩
abbrev S1x1x256 : Shape := ⟨3, ![1, 1, 256]⟩
abbrev S512 : Shape := ⟨1, ![512]⟩
abbrev S1x1x512 : Shape := ⟨3, ![1, 1, 512]⟩
abbrev S1x1x1024 : Shape := ⟨3, ![1, 1, 1024]⟩
abbrev S32768x1024 : Shape := ⟨2, ![32768, 1024]⟩
abbrev S32768x4 : Shape := ⟨2, ![32768, 4]⟩
abbrev S32768x32 : Shape := ⟨2, ![32768, 32]⟩
abbrev S32768x36 : Shape := ⟨2, ![32768, 36]⟩
abbrev S32768x128 : Shape := ⟨2, ![32768, 128]⟩

abbrev nBuf : Space → Nat
  | .hbm => 102
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S8x4096x512, .f32⟩
  | .hbm, ⟨2, _⟩ => ⟨S8x4096x256, .f32⟩
  | .hbm, ⟨3, _⟩ => ⟨S8x4096x1024, .f32⟩
  | .hbm, ⟨4, _⟩ => ⟨S1024, .f32⟩
  | .hbm, ⟨5, _⟩ => ⟨S1024x1024, .f32⟩
  | .hbm, ⟨6, _⟩ => ⟨S8x1x1024, .f32⟩
  | .hbm, ⟨7, _⟩ => ⟨S1024, .f32⟩
  | .hbm, ⟨8, _⟩ => ⟨S8x1x1024, .f32⟩
  | .hbm, ⟨9, _⟩ => ⟨S8x1x1024, .f32⟩
  | .hbm, ⟨10, _⟩ => ⟨S1024x4, .f32⟩
  | .hbm, ⟨11, _⟩ => ⟨S1024x32, .f32⟩
  | .hbm, ⟨12, _⟩ => ⟨S4096x2048, .f32⟩
  | .hbm, ⟨13, _⟩ => ⟨S4096x8x256, .f32⟩
  | .hbm, ⟨14, _⟩ => ⟨S8x4096x256, .f32⟩
  | .hbm, ⟨15, _⟩ => ⟨S256, .f32⟩
  | .hbm, ⟨16, _⟩ => ⟨S8x4096x256, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x256, .f32⟩
  | .hbm, ⟨28, _⟩ => ⟨S8x4096x256, .f32⟩
  | .hbm, ⟨29, _⟩ => ⟨S1x1x256, .f32⟩
  | .hbm, ⟨30, _⟩ => ⟨S8x4096x256, .f32⟩
  | .hbm, ⟨31, _⟩ => ⟨S8x4096x256, .f32⟩
  | .hbm, ⟨32, _⟩ => ⟨S512, .f32⟩
  | .hbm, ⟨33, _⟩ => ⟨S8x4096x512, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S8x4096x1, .f32⟩
  | .hbm, ⟨44, _⟩ => ⟨S8x4096x512, .f32⟩
  | .hbm, ⟨45, _⟩ => ⟨S8x4096x512, .f32⟩
  | .hbm, ⟨46, _⟩ => ⟨S1x1x512, .f32⟩
  | .hbm, ⟨47, _⟩ => ⟨S8x4096x512, .f32⟩
  | .hbm, ⟨48, _⟩ => ⟨S8x4096x512, .f32⟩
  | .hbm, ⟨49, _⟩ => ⟨S256, .f32⟩
  | .hbm, ⟨50, _⟩ => ⟨S8x4096x256, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S_, .f32⟩
  | .hbm, ⟨55, _⟩ => ⟨S8x4096x1, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x4096x1, .f32⟩
  | .hbm, ⟨61, _⟩ => ⟨S8x4096x256, .f32⟩
  | .hbm, ⟨62, _⟩ => ⟨S8x4096x256, .f32⟩
  | .hbm, ⟨63, _⟩ => ⟨S1x1x256, .f32⟩
  | .hbm, ⟨64, _⟩ => ⟨S8x4096x256, .f32⟩
  | .hbm, ⟨65, _⟩ => ⟨S8x4096x256, .f32⟩
  | .hbm, ⟨66, _⟩ => ⟨S8x4096x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S_, .f32⟩
  | .hbm, ⟨73, _⟩ => ⟨S8x4096, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S_, .f32⟩
  | .hbm, ⟨79, _⟩ => ⟨S8x4096x1, .f32⟩
  | .hbm, ⟨80, _⟩ => ⟨S8x4096x1, .f32⟩
  | .hbm, ⟨81, _⟩ => ⟨S8x4096x1, .f32⟩
  | .hbm, ⟨82, _⟩ => ⟨S8x4096x1024, .f32⟩
  | .hbm, ⟨83, _⟩ => ⟨S8x4096x1024, .f32⟩
  | .hbm, ⟨84, _⟩ => ⟨S1x1x1024, .f32⟩
  | .hbm, ⟨85, _⟩ => ⟨S8x4096x1024, .f32⟩
  | .hbm, ⟨86, _⟩ => ⟨S8x4096x1024, .f32⟩
  | .hbm, ⟨87, _⟩ => ⟨S_, .f32⟩
  | .hbm, ⟨88, _⟩ => ⟨S8x1x1024, .f32⟩
  | .hbm, ⟨89, _⟩ => ⟨S8x1x1024, .f32⟩
  | .hbm, ⟨90, _⟩ => ⟨S8x4096x1024, .f32⟩
  | .hbm, ⟨91, _⟩ => ⟨S8x4096x1024, .f32⟩
  | .hbm, ⟨92, _⟩ => ⟨S8x4096x1024, .f32⟩
  | .hbm, ⟨93, _⟩ => ⟨S8x4096x1024, .f32⟩
  | .hbm, ⟨94, _⟩ => ⟨S32768x1024, .f32⟩
  | .hbm, ⟨95, _⟩ => ⟨S32768x4, .f32⟩
  | .hbm, ⟨96, _⟩ => ⟨S32768x32, .f32⟩
  | .hbm, ⟨97, _⟩ => ⟨S32768x36, .f32⟩
  | .hbm, ⟨98, _⟩ => ⟨S32768x1024, .bf16⟩
  | .hbm, ⟨99, _⟩ => ⟨S_, .i32⟩
  | .hbm, ⟨100, _⟩ => ⟨S_, .f32⟩
  | .hbm, ⟨101, _⟩ => ⟨S32768x128, .f32⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c : Ref sig .tc := ⟨.hbm, 99, rfl⟩
abbrev main_call0_v0 : Ref sig .tc := ⟨.hbm, 100, rfl⟩
abbrev main_v74 : Ref sig .tc := ⟨.hbm, 101, rfl⟩

abbrev nD : Nat := 1
abbrev τ : Topo := Topo.v7x

variable {F : FTy → Type} [FloatOps F]
-- ==== ProjIn.lean ====
abbrev S8x4096x1024 : Shape := ⟨3, ![8, 4096, 1024]⟩
abbrev S1024 : Shape := ⟨1, ![1024]⟩
abbrev S8x1x1024 : Shape := ⟨3, ![8, 1, 1024]⟩
abbrev S1024x1696 : Shape := ⟨2, ![1024, 1696]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x32 : Shape := ⟨2, ![4096, 32]⟩
abbrev S4096x64 : Shape := ⟨2, ![4096, 64]⟩
abbrev S4096x128 : Shape := ⟨2, ![4096, 128]⟩
abbrev S256x128 : Shape := ⟨2, ![256, 128]⟩
abbrev S4352x128 : Shape := ⟨2, ![4352, 128]⟩
abbrev S1024x32 : Shape := ⟨2, ![1024, 32]⟩
abbrev S1024x896 : Shape := ⟨2, ![1024, 896]⟩
abbrev S1024x768 : Shape := ⟨2, ![1024, 768]⟩
abbrev S1024x128 : Shape := ⟨2, ![1024, 128]⟩
abbrev S1024x8 : Shape := ⟨2, ![1024, 8]⟩
abbrev S1024x1920 : Shape := ⟨2, ![1024, 1920]⟩
abbrev S384x8x96 : Shape := ⟨3, ![384, 8, 96]⟩
abbrev S384x8x64 : Shape := ⟨3, ![384, 8, 64]⟩
abbrev S384x8x32 : Shape := ⟨3, ![384, 8, 32]⟩
abbrev S384x8x8 : Shape := ⟨3, ![384, 8, 8]⟩
abbrev S384x8x128 : Shape := ⟨3, ![384, 8, 128]⟩
abbrev S384x1024 : Shape := ⟨2, ![384, 1024]⟩
abbrev S384x2048 : Shape := ⟨2, ![384, 2048]⟩
abbrev S4352x2048 : Shape := ⟨2, ![4352, 2048]⟩
abbrev S8x4352x1024 : Shape := ⟨3, ![8, 4352, 1024]⟩
abbrev S8x4352x128 : Shape := ⟨3, ![8, 4352, 128]⟩
abbrev S1x1024 : Shape := ⟨2, ![1, 1024]⟩
abbrev S1x384 : Shape := ⟨2, ![1, 384]⟩
abbrev S1x256 : Shape := ⟨2, ![1, 256]⟩
abbrev S8x4096x768 : Shape := ⟨3, ![8, 4096, 768]⟩
abbrev S1x512x1024 : Shape := ⟨3, ![1, 512, 1024]⟩
abbrev S1x1x1024 : Shape := ⟨3, ![1, 1, 1024]⟩
abbrev S512x128 : Shape := ⟨2, ![512, 128]⟩
abbrev S512x256 : Shape := ⟨2, ![512, 256]⟩
abbrev S1x512x128 : Shape := ⟨3, ![1, 512, 128]⟩
abbrev S1x512x768 : Shape := ⟨3, ![1, 512, 768]⟩
abbrev S512x1024 : Shape := ⟨2, ![512, 1024]⟩
abbrev S512 : Shape := ⟨1, ![512]⟩
abbrev S512x1 : Shape := ⟨2, ![512, 1]⟩
abbrev S512x1920 : Shape := ⟨2, ![512, 1920]⟩
abbrev S512x768 : Shape := ⟨2, ![512, 768]⟩
abbrev S512x384 : Shape := ⟨2, ![512, 384]⟩
abbrev S512x2048 : Shape := ⟨2, ![512, 2048]⟩

abbrev nBuf : Space → Nat
  | .hbm => 120
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x1696, .f32⟩
  | .hbm, ⟨5, _⟩ => ⟨S384, .f32⟩
  | .hbm, ⟨6, _⟩ => ⟨S384x768, .f32⟩
  | .hbm, ⟨7, _⟩ => ⟨S256, .f32⟩
  | .hbm, ⟨8, _⟩ => ⟨S256x1024, .f32⟩
  | .hbm, ⟨9, _⟩ => ⟨S64, .i32⟩
  | .hbm, ⟨10, _⟩ => ⟨S64x64, .i32⟩
  | .hbm, ⟨11, _⟩ => ⟨S4096, .i32⟩
  | .hbm, ⟨12, _⟩ => ⟨S4096, .f32⟩
  | .hbm, ⟨13, _⟩ => ⟨S64, .i32⟩
  | .hbm, ⟨14, _⟩ => ⟨S1x64, .i32⟩
  | .hbm, ⟨15, _⟩ => ⟨S64x64, .i32⟩
  | .hbm, ⟨16, _⟩ => ⟨S4096, .i32⟩
  | .hbm, ⟨17, _⟩ => ⟨S4096, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S4096x1, .f32⟩
  | .hbm, ⟨33, _⟩ => ⟨S1x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S4096x1, .f32⟩
  | .hbm, ⟨38, _⟩ => ⟨S1x8, .f32⟩
  | .hbm, ⟨39, _⟩ => ⟨S4096x8, .f32⟩
  | .hbm, ⟨40, _⟩ => ⟨S4096x8, .f32⟩
  | .hbm, ⟨41, _⟩ => ⟨S4096x8, .f32⟩
  | .hbm, ⟨42, _⟩ => ⟨S4096x8, .f32⟩
  | .hbm, ⟨43, _⟩ => ⟨S4096x8, .f32⟩
  | .hbm, ⟨44, _⟩ => ⟨S4096x32, .f32⟩
  | .hbm, ⟨45, _⟩ => ⟨S4096x8, .f32⟩
  | .hbm, ⟨46, _⟩ => ⟨S4096x8, .f32⟩
  | .hbm, ⟨47, _⟩ => ⟨S4096x32, .f32⟩
  | .hbm, ⟨48, _⟩ => ⟨S_, .f32⟩
  | .hbm, ⟨49, _⟩ => ⟨S4096x64, .f32⟩
  | .hbm, ⟨50, _⟩ => ⟨S_, .f32⟩
  | .hbm, ⟨51, _⟩ => ⟨S4096x32, .f32⟩
  | .hbm, ⟨52, _⟩ => ⟨S4096x128, .f32⟩
  | .hbm, ⟨53, _⟩ => ⟨S_, .f32⟩
  | .hbm, ⟨54, _⟩ => ⟨S4096x64, .f32⟩
  | .hbm, ⟨55, _⟩ => ⟨S_, .f32⟩
  | .hbm, ⟨56, _⟩ => ⟨S4096x32, .f32⟩
  | .hbm, ⟨57, _⟩ => ⟨S4096x128, .f32⟩
  | .hbm, ⟨58, _⟩ => ⟨S_, .f32⟩
  | .hbm, ⟨59, _⟩ => ⟨S256x128, .f32⟩
  | .hbm, ⟨60, _⟩ => ⟨S4352x128, .f32⟩
  | .hbm, ⟨61, _⟩ => ⟨S_, .f32⟩
  | .hbm, ⟨62, _⟩ => ⟨S256x128, .f32⟩
  | .hbm, ⟨63, _⟩ => ⟨S4352x128, .f32⟩
  | .hbm, ⟨64, _⟩ => ⟨S1024x32, .f32⟩
  | .hbm, ⟨65, _⟩ => ⟨S1024x896, .f32⟩
  | .hbm, ⟨66, _⟩ => ⟨S1024x768, .f32⟩
  | .hbm, ⟨67, _⟩ => ⟨S_, .i32⟩
  | .hbm, ⟨68, _⟩ => ⟨S_, .f32⟩
  | .hbm, ⟨69, _⟩ => ⟨S1024x128, .f32⟩
  | .hbm, ⟨70, _⟩ => ⟨S1024x8, .f32⟩
  | .hbm, ⟨71, _⟩ => ⟨S1024x8, .f32⟩
  | .hbm, ⟨72, _⟩ => ⟨S1024x8, .f32⟩
  | .hbm, ⟨73, _⟩ => ⟨S1024x8, .f32⟩
  | .hbm, ⟨74, _⟩ => ⟨S1024x8, .f32⟩
  | .hbm, ⟨75, _⟩ => ⟨S1024x8, .f32⟩
  | .hbm, ⟨76, _⟩ => ⟨S1024x32, .f32⟩
  | .hbm, ⟨77, _⟩ => ⟨S_, .i32⟩
  | .hbm, ⟨78, _⟩ => ⟨S_, .f32⟩
  | .hbm, ⟨79, _⟩ => ⟨S1024x128, .f32⟩
  | .hbm, ⟨80, _⟩ => ⟨S1024x1920, .f32⟩
  | .hbm, ⟨81, _⟩ => ⟨S384x8x96, .f32⟩
  | .hbm, ⟨82, _⟩ => ⟨S384x8x64, .f32⟩
  | .hbm, ⟨83, _⟩ => ⟨S_, .f32⟩
  | .hbm, ⟨84, _⟩ => ⟨S384x8x64, .f32⟩
  | .hbm, ⟨85, _⟩ => ⟨S384x8x32, .f32⟩
  | .hbm, ⟨86, _⟩ => ⟨S384x8x8, .f32⟩
  | .hbm, ⟨87, _⟩ => ⟨S384x8x8, .f32⟩
  | .hbm, ⟨88, _⟩ => ⟨S384x8x8, .f32⟩
  | .hbm, ⟨89, _⟩ => ⟨S384x8x8, .f32⟩
  | .hbm, ⟨90, _⟩ => ⟨S384x8x8, .f32⟩
  | .hbm, ⟨91, _⟩ => ⟨S384x8x8, .f32⟩
  | .hbm, ⟨92, _⟩ => ⟨S384x8x32, .f32⟩
  | .hbm, ⟨93, _⟩ => ⟨S384x8x96, .f32⟩
  | .hbm, ⟨94, _⟩ => ⟨S_, .i32⟩
  | .hbm, ⟨95, _⟩ => ⟨S_, .f32⟩
  | .hbm, ⟨96, _⟩ => ⟨S384x8x128, .f32⟩
  | .hbm, ⟨97, _⟩ => ⟨S384x1024, .f32⟩
  | .hbm, ⟨98, _⟩ => ⟨S_, .i32⟩
  | .hbm, ⟨99, _⟩ => ⟨S_, .f32⟩
  | .hbm, ⟨100, _⟩ => ⟨S384x8x128, .f32⟩
  | .hbm, ⟨101, _⟩ => ⟨S384x1024, .f32⟩
  | .hbm, ⟨102, _⟩ => ⟨S384x2048, .f32⟩
  | .hbm, ⟨103, _⟩ => ⟨S1024x1920, .bf16⟩
  | .hbm, ⟨104, _⟩ => ⟨S384x2048, .bf16⟩
  | .hbm, ⟨105, _⟩ => ⟨S_, .f32⟩
  | .hbm, ⟨106, _⟩ => ⟨S4352x2048, .f32⟩
  | .hbm, ⟨107, _⟩ => ⟨S_, .bf16⟩
  | .hbm, ⟨108, _⟩ => ⟨S8x4352x1024, .bf16⟩
  | .hbm, ⟨109, _⟩ => ⟨S_, .bf16⟩
  | .hbm, ⟨110, _⟩ => ⟨S8x4352x128, .bf16⟩
  | .hbm, ⟨111, _⟩ => ⟨S1x1024, .f32⟩
  | .hbm, ⟨112, _⟩ => ⟨S1x384, .f32⟩
  | .hbm, ⟨113, _⟩ => ⟨S1x256, .f32⟩
  | .hbm, ⟨114, _⟩ => ⟨S256x1024, .bf16⟩
  | .hbm, ⟨115, _⟩ => ⟨S4352x2048, .f32⟩
  | .hbm, ⟨116, _⟩ => ⟨S8x4096x1024, .bf16⟩
  | .hbm, ⟨117, _⟩ => ⟨S8x4352x1024, .bf16⟩
  | .hbm, ⟨118, _⟩ => ⟨S8x4352x128, .bf16⟩
  | .hbm, ⟨119, _⟩ => ⟨S8x4096x768, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1920, .bf16⟩
  | .local _ .vmem, ⟨8, _⟩ => ⟨S1x384, .f32⟩
  | .local _ .vmem, ⟨9, _⟩ => ⟨S384x2048, .bf16⟩
  | .local _ .vmem, ⟨10, _⟩ => ⟨S1x256, .f32⟩
  | .local _ .vmem, ⟨11, _⟩ => ⟨S256x1024, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x256, .f32⟩
  | .local _ .vmem, ⟨17, _⟩ => ⟨S512x256, .f32⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x128, .bf16⟩
  | .local _ .vmem, ⟨23, _⟩ => ⟨S1x512x128, .bf16⟩
  | .local _ .vmem, ⟨24, _⟩ => ⟨S1x512x768, .f32⟩
  | .local _ .vmem, ⟨25, _⟩ => ⟨S1x512x768, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_9 : Ref sig .tc := ⟨.hbm, 77, rfl⟩
abbrev main_call1_v0 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_11 : Ref sig .tc := ⟨.hbm, 94, rfl⟩
abbrev main_call2_v0 : Ref sig .tc := ⟨.hbm, 95, rfl⟩
abbrev main_v70 : Ref sig .tc := ⟨.hbm, 96, rfl⟩
abbrev main_v71 : Ref sig .tc := ⟨.hbm, 97, rfl⟩
abbrev main_c_12 : Ref sig .tc := ⟨.hbm, 98, rfl⟩
abbrev main_call3_v0 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_13 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84_0 : Ref sig .tc := ⟨.hbm, 115, rfl⟩
abbrev main_v84_1 : Ref sig .tc := ⟨.hbm, 116, rfl⟩
abbrev main_v84_2 : Ref sig .tc := ⟨.hbm, 117, rfl⟩
abbrev main_v84_3 : Ref sig .tc := ⟨.hbm, 118, rfl⟩
abbrev main_v84_4 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1920 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ProjInReferenceIdeal.lean ====
abbrev S8x4096x1024 : Shape := ⟨3, ![8, 4096, 1024]⟩
abbrev S1024 : Shape := ⟨1, ![1024]⟩
abbrev S8x1x1024 : Shape := ⟨3, ![8, 1, 1024]⟩
abbrev S1024x1696 : Shape := ⟨2, ![1024, 1696]⟩
abbrev S384 : Shape := ⟨1, ![384]⟩
abbrev S384x768 : Shape := ⟨2, ![384, 768]⟩
abbrev S256 : Shape := ⟨1, ![256]⟩
abbrev S256x1024 : Shape := ⟨2, ![256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x1696 : Shape := ⟨3, ![8, 4096, 1696]⟩
abbrev S8x4096x256 : Shape := ⟨3, ![8, 4096, 256]⟩
abbrev S8x4096x384 : Shape := ⟨3, ![8, 4096, 384]⟩
abbrev S8x4096x32 : Shape := ⟨3, ![8, 4096, 32]⟩
abbrev S8x4096x768 : Shape := ⟨3, ![8, 4096, 768]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S8x4096x1x32 : Shape := ⟨4, ![8, 4096, 1, 32]⟩
abbrev S4096x1x8 : Shape := ⟨3, ![4096, 1, 8]⟩
abbrev S8x4096x1x16 : Shape := ⟨4, ![8, 4096, 1, 16]⟩
abbrev S8x4096x1x8 : Shape := ⟨4, ![8, 4096, 1, 8]⟩
abbrev S1x4096x1x8 : Shape := ⟨4, ![1, 4096, 1, 8]⟩
abbrev S1x1x384 : Shape := ⟨3, ![1, 1, 384]⟩
abbrev S8x4096x8x96 : Shape := ⟨4, ![8, 4096, 8, 96]⟩
abbrev S8x4096x8x64 : Shape := ⟨4, ![8, 4096, 8, 64]⟩
abbrev S8x4096x8x32 : Shape := ⟨4, ![8, 4096, 8, 32]⟩
abbrev S8x4096x8x16 : Shape := ⟨4, ![8, 4096, 8, 16]⟩
abbrev S8x4096x8x8 : Shape := ⟨4, ![8, 4096, 8, 8]⟩
abbrev S1x1x256 : Shape := ⟨3, ![1, 1, 256]⟩
abbrev S4096x8x256 : Shape := ⟨3, ![4096, 8, 256]⟩
abbrev S4096x2048 : Shape := ⟨2, ![4096, 2048]⟩
abbrev S4352x2048 : Shape := ⟨2, ![4352, 2048]⟩
abbrev S8x4096x8x128 : Shape := ⟨4, ![8, 4096, 8, 128]⟩
abbrev S8x4352x1024 : Shape := ⟨3, ![8, 4352, 1024]⟩
abbrev S8x4352x128 : Shape := ⟨3, ![8, 4352, 128]⟩

abbrev nBuf : Space → Nat
  | .hbm => 218
  | .vmem => 0
  | .smem => 0
  | _ => 0

abbrev hbmTy0_0 (i : Nat) : BufTy := match i % 128 with
  | 0 => ⟨S8x4096x1024, .f32⟩
  | 1 => ⟨S1024, .f32⟩
  | 2 => ⟨S8x1x1024, .f32⟩
  | 3 => ⟨S8x1x1024, .f32⟩
  | 4 => ⟨S1024x1696, .f32⟩
  | 5 => ⟨S384, .f32⟩
  | 6 => ⟨S384x768, .f32⟩
  | 7 => ⟨S256, .f32⟩
  | 8 => ⟨S256x1024, .f32⟩
  | 9 => ⟨S8x4096x1024, .f32⟩
  | 10 => ⟨S_, .f32⟩
  | 11 => ⟨S8x4096, .f32⟩
  | 12 => ⟨S8x4096x1, .f32⟩
  | 13 => ⟨S_, .f32⟩
  | 14 => ⟨S8x4096x1, .f32⟩
  | 15 => ⟨S8x4096x1, .f32⟩
  | 16 => ⟨S_, .f32⟩
  | 17 => ⟨S8x4096x1, .f32⟩
  | 18 => ⟨S8x4096x1, .f32⟩
  | 19 => ⟨S8x4096x1, .f32⟩
  | 20 => ⟨S8x4096x1024, .f32⟩
  | 21 => ⟨S8x4096x1024, .f32⟩
  | 22 => ⟨S1x1x1024, .f32⟩
  | 23 => ⟨S8x4096x1024, .f32⟩
  | 24 => ⟨S8x4096x1024, .f32⟩
  | 25 => ⟨S_, .f32⟩
  | 26 => ⟨S8x1x1024, .f32⟩
  | 27 => ⟨S8x1x1024, .f32⟩
  | 28 => ⟨S8x4096x1024, .f32⟩
  | 29 => ⟨S8x4096x1024, .f32⟩
  | 30 => ⟨S8x4096x1024, .f32⟩
  | 31 => ⟨S8x4096x1024, .f32⟩
  | 32 => ⟨S8x4096x1696, .f32⟩
  | 33 => ⟨S8x4096x256, .f32⟩
  | 34 => ⟨S8x4096x384, .f32⟩
  | 35 => ⟨S8x4096x256, .f32⟩
  | 36 => ⟨S8x4096x32, .f32⟩
  | 37 => ⟨S8x4096x768, .f32⟩
  | 38 => ⟨S64, .i32⟩
  | 39 => ⟨S64x64, .i32⟩
  | 40 => ⟨S4096, .i32⟩
  | 41 => ⟨S4096, .f32⟩
  | 42 => ⟨S64, .i32⟩
  | 43 => ⟨S1x64, .i32⟩
  | 44 => ⟨S64x64, .i32⟩
  | 45 => ⟨S4096, .i32⟩
  | 46 => ⟨S4096, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S4096x1, .f32⟩
  | 62 => ⟨S1x8, .f32⟩
  | 63 => ⟨S4096x8, .f32⟩
  | 64 => ⟨S4096x8, .f32⟩
  | 65 => ⟨S4096x8, .f32⟩
  | 66 => ⟨S4096x1, .f32⟩
  | 67 => ⟨S1x8, .f32⟩
  | 68 => ⟨S4096x8, .f32⟩
  | 69 => ⟨S4096x8, .f32⟩
  | 70 => ⟨S4096x8, .f32⟩
  | 71 => ⟨S4096x8, .f32⟩
  | 72 => ⟨S4096x8, .f32⟩
  | 73 => ⟨S4096x8, .f32⟩
  | 74 => ⟨S4096x8, .f32⟩
  | 75 => ⟨S8x4096x1x32, .f32⟩
  | 76 => ⟨S4096x1x8, .f32⟩
  | 77 => ⟨S4096x1x8, .f32⟩
  | 78 => ⟨S4096x1x8, .f32⟩
  | 79 => ⟨S4096x1x8, .f32⟩
  | 80 => ⟨S8x4096x1x16, .f32⟩
  | 81 => ⟨S8x4096x1x8, .f32⟩
  | 82 => ⟨S8x4096x1x8, .f32⟩
  | 83 => ⟨S1x4096x1x8, .f32⟩
  | 84 => ⟨S8x4096x1x8, .f32⟩
  | 85 => ⟨S8x4096x1x8, .f32⟩
  | 86 => ⟨S1x4096x1x8, .f32⟩
  | 87 => ⟨S8x4096x1x8, .f32⟩
  | 88 => ⟨S8x4096x1x8, .f32⟩
  | 89 => ⟨S8x4096x1x8, .f32⟩
  | 90 => ⟨S1x4096x1x8, .f32⟩
  | 91 => ⟨S8x4096x1x8, .f32⟩
  | 92 => ⟨S8x4096x1x8, .f32⟩
  | 93 => ⟨S1x4096x1x8, .f32⟩
  | 94 => ⟨S8x4096x1x8, .f32⟩
  | 95 => ⟨S8x4096x1x8, .f32⟩
  | 96 => ⟨S8x4096x1x8, .f32⟩
  | 97 => ⟨S8x4096x1x16, .f32⟩
  | 98 => ⟨S8x4096x1x16, .f32⟩
  | 99 => ⟨S8x4096x1x8, .f32⟩
  | 100 => ⟨S8x4096x1x8, .f32⟩
  | 101 => ⟨S1x4096x1x8, .f32⟩
  | 102 => ⟨S8x4096x1x8, .f32⟩
  | 103 => ⟨S8x4096x1x8, .f32⟩
  | 104 => ⟨S1x4096x1x8, .f32⟩
  | 105 => ⟨S8x4096x1x8, .f32⟩
  | 106 => ⟨S8x4096x1x8, .f32⟩
  | 107 => ⟨S8x4096x1x8, .f32⟩
  | 108 => ⟨S1x4096x1x8, .f32⟩
  | 109 => ⟨S8x4096x1x8, .f32⟩
  | 110 => ⟨S8x4096x1x8, .f32⟩
  | 111 => ⟨S1x4096x1x8, .f32⟩
  | 112 => ⟨S8x4096x1x8, .f32⟩
  | 113 => ⟨S8x4096x1x8, .f32⟩
  | 114 => ⟨S8x4096x1x8, .f32⟩
  | 115 => ⟨S8x4096x1x16, .f32⟩
  | 116 => ⟨S8x4096x1x32, .f32⟩
  | 117 => ⟨S8x4096x32, .f32⟩
  | 118 => ⟨S8x4096x384, .f32⟩
  | 119 => ⟨S_, .f32⟩
  | 120 => ⟨S8x4096, .f32⟩
  | 121 => ⟨S8x4096x1, .f32⟩
  | 122 => ⟨S_, .f32⟩
  | 123 => ⟨S8x4096x1, .f32⟩
  | 124 => ⟨S8x4096x1, .f32⟩
  | 125 => ⟨S_, .f32⟩
  | 126 => ⟨S8x4096x1, .f32⟩
  | 127 => ⟨S8x4096x1, .f32⟩
  | _ => ⟨S8x4096x1024, .f32⟩

abbrev hbmTy0_1 (i : Nat) : BufTy := match i % 128 with
  | 0 => ⟨S8x4096x1, .f32⟩
  | 1 => ⟨S8x4096x384, .f32⟩
  | 2 => ⟨S8x4096x384, .f32⟩
  | 3 => ⟨S1x1x384, .f32⟩
  | 4 => ⟨S8x4096x384, .f32⟩
  | 5 => ⟨S8x4096x384, .f32⟩
  | 6 => ⟨S8x4096x768, .f32⟩
  | 7 => ⟨S8x4096x8x96, .f32⟩
  | 8 => ⟨S8x4096x8x64, .f32⟩
  | 9 => ⟨S8x4096x8x32, .f32⟩
  | 10 => ⟨S4096x1x8, .f32⟩
  | 11 => ⟨S4096x1x8, .f32⟩
  | 12 => ⟨S4096x1x8, .f32⟩
  | 13 => ⟨S4096x1x8, .f32⟩
  | 14 => ⟨S8x4096x8x16, .f32⟩
  | 15 => ⟨S8x4096x8x8, .f32⟩
  | 16 => ⟨S8x4096x8x8, .f32⟩
  | 17 => ⟨S1x4096x1x8, .f32⟩
  | 18 => ⟨S8x4096x8x8, .f32⟩
  | 19 => ⟨S8x4096x8x8, .f32⟩
  | 20 => ⟨S1x4096x1x8, .f32⟩
  | 21 => ⟨S8x4096x8x8, .f32⟩
  | 22 => ⟨S8x4096x8x8, .f32⟩
  | 23 => ⟨S8x4096x8x8, .f32⟩
  | 24 => ⟨S1x4096x1x8, .f32⟩
  | 25 => ⟨S8x4096x8x8, .f32⟩
  | 26 => ⟨S8x4096x8x8, .f32⟩
  | 27 => ⟨S1x4096x1x8, .f32⟩
  | 28 => ⟨S8x4096x8x8, .f32⟩
  | 29 => ⟨S8x4096x8x8, .f32⟩
  | 30 => ⟨S8x4096x8x8, .f32⟩
  | 31 => ⟨S8x4096x8x16, .f32⟩
  | 32 => ⟨S8x4096x8x16, .f32⟩
  | 33 => ⟨S8x4096x8x8, .f32⟩
  | 34 => ⟨S8x4096x8x8, .f32⟩
  | 35 => ⟨S1x4096x1x8, .f32⟩
  | 36 => ⟨S8x4096x8x8, .f32⟩
  | 37 => ⟨S8x4096x8x8, .f32⟩
  | 38 => ⟨S1x4096x1x8, .f32⟩
  | 39 => ⟨S8x4096x8x8, .f32⟩
  | 40 => ⟨S8x4096x8x8, .f32⟩
  | 41 => ⟨S8x4096x8x8, .f32⟩
  | 42 => ⟨S1x4096x1x8, .f32⟩
  | 43 => ⟨S8x4096x8x8, .f32⟩
  | 44 => ⟨S8x4096x8x8, .f32⟩
  | 45 => ⟨S1x4096x1x8, .f32⟩
  | 46 => ⟨S8x4096x8x8, .f32⟩
  | 47 => ⟨S8x4096x8x8, .f32⟩
  | 48 => ⟨S8x4096x8x8, .f32⟩
  | 49 => ⟨S8x4096x8x16, .f32⟩
  | 50 => ⟨S8x4096x8x32, .f32⟩
  | 51 => ⟨S8x4096x8x96, .f32⟩
  | 52 => ⟨S_, .f32⟩
  | 53 => ⟨S8x4096x8x96, .f32⟩
  | 54 => ⟨S8x4096x8x96, .f32⟩
  | 55 => ⟨S8x4096x256, .f32⟩
  | 56 => ⟨S_, .f32⟩
  | 57 => ⟨S8x4096, .f32⟩
  | 58 => ⟨S8x4096x1, .f32⟩
  | 59 => ⟨S_, .f32⟩
  | 60 => ⟨S8x4096x1, .f32⟩
  | 61 => ⟨S8x4096x1, .f32⟩
  | 62 => ⟨S_, .f32⟩
  | 63 => ⟨S8x4096x1, .f32⟩
  | 64 => ⟨S8x4096x1, .f32⟩
  | 65 => ⟨S8x4096x1, .f32⟩
  | 66 => ⟨S8x4096x256, .f32⟩
  | 67 => ⟨S8x4096x256, .f32⟩
  | 68 => ⟨S1x1x256, .f32⟩
  | 69 => ⟨S8x4096x256, .f32⟩
  | 70 => ⟨S8x4096x256, .f32⟩
  | 71 => ⟨S8x4096x1024, .f32⟩
  | 72 => ⟨S4096x8x256, .f32⟩
  | 73 => ⟨S4096x2048, .f32⟩
  | 74 => ⟨S_, .i32⟩
  | 75 => ⟨S_, .f32⟩
  | 76 => ⟨S4352x2048, .f32⟩
  | 77 => ⟨S_, .i32⟩
  | 78 => ⟨S_, .f32⟩
  | 79 => ⟨S8x4096x8x128, .f32⟩
  | 80 => ⟨S8x4096x1024, .f32⟩
  | 81 => ⟨S_, .i32⟩
  | 82 => ⟨S_, .f32⟩
  | 83 => ⟨S8x4352x1024, .f32⟩
  | 84 => ⟨S_, .i32⟩
  | 85 => ⟨S_, .f32⟩
  | 86 => ⟨S8x4352x128, .f32⟩
  | 87 => ⟨S8x4352x1024, .bf16⟩
  | 88 => ⟨S8x4352x128, .bf16⟩
  | 89 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_3 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_7 : Ref sig .tc := ⟨.hbm, 119, rfl⟩
abbrev main_v102 : Ref sig .tc := ⟨.hbm, 120, rfl⟩
abbrev main_v103 : Ref sig .tc := ⟨.hbm, 121, rfl⟩
abbrev main_cst_8 : Ref sig .tc := ⟨.hbm, 122, rfl⟩
abbrev main_v104 : Ref sig .tc := ⟨.hbm, 123, rfl⟩
abbrev main_v105 : Ref sig .tc := ⟨.hbm, 124, rfl⟩
abbrev main_cst_9 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_cst_10 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_cst_11 : Ref sig .tc := ⟨.hbm, 184, rfl⟩
abbrev main_v163 : Ref sig .tc := ⟨.hbm, 185, rfl⟩
abbrev main_v164 : Ref sig .tc := ⟨.hbm, 186, rfl⟩
abbrev main_cst_12 : Ref sig .tc := ⟨.hbm, 187, rfl⟩
abbrev main_v165 : Ref sig .tc := ⟨.hbm, 188, rfl⟩
abbrev main_v166 : Ref sig .tc := ⟨.hbm, 189, rfl⟩
abbrev main_cst_13 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_c : Ref sig .tc := ⟨.hbm, 202, rfl⟩
abbrev main_call0_v0 : Ref sig .tc := ⟨.hbm, 203, rfl⟩
abbrev main_v178 : Ref sig .tc := ⟨.hbm, 204, rfl⟩
abbrev main_c_14 : Ref sig .tc := ⟨.hbm, 205, rfl⟩
abbrev main_call1_v0 : Ref sig .tc := ⟨.hbm, 206, rfl⟩
abbrev main_v179 : Ref sig .tc := ⟨.hbm, 207, rfl⟩
abbrev main_v180 : Ref sig .tc := ⟨.hbm, 208, rfl⟩
abbrev main_c_15 : Ref sig .tc := ⟨.hbm, 209, rfl⟩
abbrev main_call2_v0 : Ref sig .tc := ⟨.hbm, 210, rfl⟩
abbrev main_v181 : Ref sig .tc := ⟨.hbm, 211, rfl⟩
abbrev main_c_16 : Ref sig .tc := ⟨.hbm, 212, rfl⟩
abbrev main_call3_v0 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩

abbrev nD : Nat := 1
abbrev τ : Topo := Topo.v7x

variable {F : FTy → Type} [FloatOps F]
-- ==== Proof.AttnHead.lean ====
/-
  ONE HEAD OF ONE BLOCK. What the attention body computes for a head from the head's 128 query lanes and its two
  scratch slabs, read at a row and a value lane, over the extended reals; and the block of four heads it stores.
-/
module

public import proofs.«01_k».proof.Proof.Gen.KernelIdeal.Skeleton
public import Idealize.ShloMosaic.PureOps.Ideal.Laws
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pointwise

@[expose] public section

set_option maxRecDepth 16384

noncomputable section

namespace Cert.KernelIdeal.Attn

open Idealize.ShloMosaic hiding ix1 ix2 ix3 constant_apply
open Idealize.ShloMosaic.ValueIdx
open Cert.KernelIdeal Cert.KernelIdeal.Gen
open scoped BigOperators

/-- The greatest of the scores of a row (`⊥` of none). -/
def rowMax {n : ℕ} (s : Fin n → EReal) : EReal := Finset.univ.fold max ⊥ s

/-- The weight of key `k` before it is normalised: `exp (s k - max s)`. -/
def weight {n : ℕ} (s : Fin n → EReal) (k : Fin n) : EReal := Ideal.exp (s k - rowMax s)

/-- The score of query row `r` against key `k`: the product over the 128 lanes of a head. -/
def score (q : Vec Ideal S1x256x128 .bf16) (kc : Vec Ideal S1x4352x128 .bf16) (r : Fin 256) (k : Fin 4352) : EReal :=
  ∑ l : Fin 128, q (ix3 (0 : Fin 1) r l) * kc (ix3 (0 : Fin 1) k l)

/-- The weighted sum of lane `l` of the second slab. -/
def mixed (q : Vec Ideal S1x256x128 .bf16) (kc va : Vec Ideal S1x4352x128 .bf16) (r : Fin 256) (l : Fin 128) : EReal :=
  ∑ k : Fin 4352, weight (score q kc r) k * va (ix3 (0 : Fin 1) k l)

/-- A head's output at a row and a value lane: the weighted sum of the value lane over the weighted sum of lane 0. -/
def headOut (q : Vec Ideal S1x256x128 .bf16) (kc va : Vec Ideal S1x4352x128 .bf16) (r : Fin 256) (d : Fin 64) : EReal :=
  Ideal.div (mixed q kc va r ⟨64 + d.val, by omega⟩) (mixed q kc va r ⟨0, by omega⟩)

theorem dims_scores : dot_S256x128_S4352x128_S256x4352_1_1_0_0_n_n = DotDims.transposedRhs 256 128 4352 := rfl
theorem dims_values : dot_S256x4352_S4352x128_S256x128_1_0_0_1_n_n = DotDims.plain 256 4352 128 := rfl

theorem zeroBits : Ideal.ofBits .f32 0x00000000#32 = 0 := by simp [Ideal.ofBits, Ideal.ieee]
theorem negInfBits : Ideal.ofBits .f32 0xFF800000#32 = ⊥ := by simp [Ideal.ofBits, Ideal.ieee]

/-- The product of a query block with the first slab, at a row and a key. -/
theorem scores_apply (q : Vec Ideal S1x256x128 .bf16) (kc : Vec Ideal S1x4352x128 .bf16) (r : Fin 256) (k : Fin 4352) :
    matmul (φ₁ := .bf16) (φ₂ := .bf16) dot_S256x128_S4352x128_S256x4352_1_1_0_0_n_n none
        (shapeCast S256x128 q shapeCasts_S1x256x128_S256x128) (shapeCast S4352x128 kc shapeCasts_S1x4352x128_S4352x128)
        (constant (F := Ideal) S256x4352 .f32 0x00000000#32) (ix2 r k) = score q kc r k := by
  unfold matmul
  rw [dims_scores, Ideal.matmul_transposedRhs_apply, constant_apply, zeroBits, zero_add]
  refine Finset.sum_congr rfl fun l _ => ?_
  rw [shapeCast_1ab_ab_apply, shapeCast_1ab_ab_apply]

/-- The row maximum, broadcast along the row, at a row and a key. -/
theorem max_apply (s : FVec Ideal S256x4352 .f32) (hφ : FKind.Formats .f32) (hacc) (r : Fin 256) (k : Fin 4352) :
    broadcastTo S256x4352 (shapeCast S256x1 (multiReduction .maximumf [1] S256 s 0xFF800000#32 reduces_S256x4352_S256 hφ hacc)
        shapeCasts_S256_S256x1) broadcasts_S256x1_S256x4352 (ix2 r k) = rowMax fun k' => s (ix2 r k') := by
  have hb := Pointwise.broadcastTo_apply (shapeCast S256x1 (multiReduction .maximumf [1] S256 s 0xFF800000#32 reduces_S256x4352_S256 hφ hacc)
        shapeCasts_S256_S256x1) broadcasts_S256x1_S256x4352 (ix2 r k)
  rw [hb]
  trans shapeCast S256x1 (multiReduction .maximumf [1] S256 s 0xFF800000#32 reduces_S256x4352_S256 hφ hacc)
        shapeCasts_S256_S256x1 (ix2 r (0 : Fin 1))
  · refine congrArg _ (funext fun a => Fin.ext ?_)
    match a with
    | ⟨0, _⟩ => rfl
    | ⟨1, _⟩ => rfl
  rw [shapeCast_a_a1_apply]
  refine (Ideal.multiReduction_maximumf_single s 0xFF800000#32 reduces_S256x4352_S256 hφ hacc (ix1 r)).trans ?_
  unfold rowMax
  show Finset.univ.fold max (Ideal.ofBits .f32 0xFF800000#32) _ = _
  rw [negInfBits]
  refine congrArg (fun f : Fin 4352 → EReal => Finset.univ.fold max ⊥ f) (funext fun k' => congrArg s (funext fun a => Fin.ext ?_))
  match a with
  | ⟨0, _⟩ => rfl
  | ⟨1, _⟩ => rfl

/-- The weights a head computes, at a row and a key. -/
theorem weights_apply (q : Vec Ideal S1x256x128 .bf16) (kc : Vec Ideal S1x4352x128 .bf16) (r : Fin 256) (k : Fin 4352) :
    k0_pay18 (F := Ideal) q kc (ix2 r k) = weight (score q kc r) k := by
  unfold k0_pay18 weight
  show Ideal.exp (_ - _) = _
  refine congrArg Ideal.exp (congrArg₂ (· - ·) (scores_apply q kc r k) ((max_apply _ _ _ r k).trans ?_))
  exact congrArg rowMax (funext fun k' => scores_apply q kc r k')

/-- The product of the weights with the second slab, at a row and a lane. -/
theorem mixed_apply (q : Vec Ideal S1x256x128 .bf16) (kc va : Vec Ideal S1x4352x128 .bf16) (r : Fin 256) (l : Fin 128) :
    matmul (φ₂ := .bf16) dot_S256x4352_S4352x128_S256x128_1_0_0_1_n_n none (k0_pay18 (F := Ideal) q kc)
        (shapeCast S4352x128 va shapeCasts_S1x4352x128_S4352x128)
        (constant (F := Ideal) S256x128 .f32 0x00000000#32) (ix2 r l) = mixed q kc va r l := by
  unfold matmul
  rw [dims_values, Ideal.matmul_plain_apply, constant_apply, zeroBits, zero_add]
  refine Finset.sum_congr rfl fun k _ => ?_
  rw [shapeCast_1ab_ab_apply, weights_apply]

/-- **One head at a row and a value lane.** -/
theorem head_apply (q : Vec Ideal S1x256x128 .bf16) (kc va : Vec Ideal S1x4352x128 .bf16) (r : Fin 256) (d : Fin 64) :
    k0_pay19 (F := Ideal) (k0_pay18 q kc) va (ix2 r d) = headOut q kc va r d := by
  unfold k0_pay19 headOut
  show Ideal.div _ _ = _
  have hb := fun v : FVec Ideal S256x1 .f32 => Pointwise.broadcastTo_apply v broadcasts_S256x1_S256x64 (ix2 r d)
  congr 1
  · rw [slice2_axis1_apply 64 _ _ r d ⟨64 + d.val, by omega⟩ rfl, mixed_apply]
  · rw [hb]
    trans extractStridedSlice S256x1 ![0, 0] (matmul (φ₂ := .bf16) dot_S256x4352_S4352x128_S256x128_1_0_0_1_n_n none (k0_pay18 (F := Ideal) q kc)
        (shapeCast S4352x128 va shapeCasts_S1x4352x128_S4352x128)
        (constant (F := Ideal) S256x128 .f32 0x00000000#32)) slices_S256x128_o0_0_S256x1 (ix2 r (0 : Fin 1))
    · refine congrArg _ (funext fun a => Fin.ext ?_)
      match a with
      | ⟨0, _⟩ => rfl
      | ⟨1, _⟩ => rfl
    rw [slice2_axis1_apply 0 _ _ r (0 : Fin 1) (⟨0, by omega⟩ : Fin 128) rfl, mixed_apply]

/-- The first and the third head are the same expression. -/
theorem head0_apply (q : Vec Ideal S1x256x128 .bf16) (kc va : Vec Ideal S1x4352x128 .bf16) (r : Fin 256) (d : Fin 64) :
    k0_pay17 (F := Ideal) q kc va (ix2 r d) = headOut q kc va r d := head_apply q kc va r d

theorem head2_apply (q : Vec Ideal S1x256x128 .bf16) (kc va : Vec Ideal S1x4352x128 .bf16) (r : Fin 256) (d : Fin 64) :
    k0_pay20 (F := Ideal) q kc va (ix2 r d) = headOut q kc va r d := head_apply q kc va r d

/-- Four 64-lane pieces side by side, read at a lane. -/
theorem four_apply (a b c d : FVec Ideal S256x64 .f32) (r : Fin 256) (l : Fin 256) :
    concatenate S256x256 1 [⟨S256x64, a⟩, ⟨S256x64, b⟩, ⟨S256x64, c⟩, ⟨S256x64, d⟩] concatenates_S256x64_S256x64_S256x64_S256x64_S256x256_d1 (ix2 r l)
      = (![a, b, c, d] ⟨l.val / 64, by omega⟩) (ix2 r ⟨l.val % 64, by omega⟩) := by
  rw [concatenate_apply]
  simp only [concatenateAt_cons, concatenateAt_singleton]
  have hl := l.isLt
  obtain hh | hh | hh | hh : l.val / 64 = 0 ∨ l.val / 64 = 1 ∨ l.val / 64 = 2 ∨ l.val / 64 = 3 := by omega
  · rw [show (⟨l.val / 64, by omega⟩ : Fin 4) = 0 from Fin.ext hh]
    refine (dif_pos (show l.val < 64 by omega)).trans ?_
    refine congrArg a (funext fun x => Fin.ext ?_)
    match x with
    | ⟨0, _⟩ => rfl
    | ⟨1, _⟩ => show l.val = l.val % 64; omega
  · rw [show (⟨l.val / 64, by omega⟩ : Fin 4) = 1 from Fin.ext hh]
    refine (dif_neg (show ¬ l.val < 64 by omega)).trans ((dif_pos (show l.val - 64 < 64 by omega)).trans ?_)
    refine congrArg b (funext fun x => Fin.ext ?_)
    match x with
    | ⟨0, _⟩ => rfl
    | ⟨1, _⟩ => show l.val - 64 = l.val % 64; omega
  · rw [show (⟨l.val / 64, by omega⟩ : Fin 4) = 2 from Fin.ext hh]
    refine (dif_neg (show ¬ l.val < 64 by omega)).trans ((dif_neg (show ¬ l.val - 64 < 64 by omega)).trans ((dif_pos (show l.val - 64 - 64 < 64 by omega)).trans ?_))
    refine congrArg c (funext fun x => Fin.ext ?_)
    match x with
    | ⟨0, _⟩ => rfl
    | ⟨1, _⟩ => show l.val - 64 - 64 = l.val % 64; omega
  · rw [show (⟨l.val / 64, by omega⟩ : Fin 4) = 3 from Fin.ext hh]
    refine (dif_neg (show ¬ l.val < 64 by omega)).trans ((dif_neg (show ¬ l.val - 64 < 64 by omega)).trans ((dif_neg (show ¬ l.val - 64 - 64 < 64 by omega)).trans ?_))
    refine congrArg d (funext fun x => Fin.ext ?_)
    match x with
    | ⟨0, _⟩ => rfl
    | ⟨1, _⟩ => show l.val - 64 - 64 - 64 = l.val % 64; omega

end Cert.KernelIdeal.Attn

end
-- ==== Proof.AttnBlock.lean ====
/-
  THE BLOCK. What one grid point leaves: the two scratch slabs it fills from its keys, values and rotary keys, and
  the four heads it stores. `outBlk`, `kcatBlk` and `vaugBlk` say it index by index; the theorems `out_A`, `out_B`,
  `sout_A_0`, `sout_A_1` say the generated terms are these.
-/
module

public import proofs.«01_k».proof.Proof.AttnHead
public import proofs.«01_k».proof.Proof.Gen.KernelIdeal.Value
public import Idealize.ShloMosaic.Lib.Pipeline.ReadBack
public import Idealize.ShloMosaic.Lib.Pipeline.ValueKit.Tiles

@[expose] public section

set_option maxRecDepth 16384

noncomputable section

namespace Cert.KernelIdeal.Attn

open Idealize.ShloMosaic hiding ix1 ix2 ix3 eq_ix2 eq_ix3 constant_apply
open Idealize.ShloMosaic.ValueIdx
open Cert.KernelIdeal Cert.KernelIdeal.Gen
open scoped BigOperators

/-! ### The blocks -/

/-- Lane `l` of head `h` among the 512 lanes of four heads. -/
def laneOf (h : Fin 4) (l : Fin 128) : Fin 512 := ⟨h.val * 128 + l.val, by omega⟩

/-- The head of an output lane. -/
def headOf (l : Fin 256) : Fin 4 := ⟨l.val / 64, by omega⟩

/-- The value lane of an output lane. -/
def valueOf (l : Fin 256) : Fin 64 := ⟨l.val % 64, by omega⟩

/-- Head `h`'s 128 query lanes. -/
def qHead (x : Vec Ideal S1x256x512 .bf16) (h : Fin 4) : Vec Ideal S1x256x128 .bf16 :=
  fun i => x (ix3 (0 : Fin 1) (i 1 : Fin 256) (laneOf h (i 2 : Fin 128)))

/-- Head `h`'s 128 key and value lanes. -/
def kvHead (x : Vec Ideal S1x4352x512 .bf16) (h : Fin 4) : Vec Ideal S1x4352x128 .bf16 :=
  fun i => x (ix3 (0 : Fin 1) (i 1 : Fin 4352) (laneOf h (i 2 : Fin 128)))

/-- Head `h`'s slab of a scratch. -/
def slab (a : Vec Ideal S4x4352x128 .bf16) (h : Fin 4) : Vec Ideal S1x4352x128 .bf16 :=
  fun i => a (ix3 h (i 1 : Fin 4352) (i 2 : Fin 128))

/-- A head's keys: the first 64 lanes from the head's own, the others from the rotary keys all heads share. -/
def kcat (v kr : Vec Ideal S1x4352x128 .bf16) : Vec Ideal S1x4352x128 .bf16 :=
  fun i => if (i 2 : Fin 128).val < 64 then v i else kr i

/-- A head's values: lane 0 is one, lanes 1 to 63 are zero, the others are the head's values. -/
def vaug (v : Vec Ideal S1x4352x128 .bf16) : Vec Ideal S1x4352x128 .bf16 :=
  fun i => if 64 ≤ (i 2 : Fin 128).val then v i else if (i 2 : Fin 128).val = 0 then 1 else 0

/-- The first scratch as it is filled: head by head the keys. -/
def kcatBlk (x1 : Vec Ideal S1x4352x512 .bf16) (x2 : Vec Ideal S1x4352x128 .bf16) : Vec Ideal S4x4352x128 .bf16 :=
  fun i => kcat (kvHead x1 (i 0 : Fin 4)) x2 (ix3 (0 : Fin 1) (i 1 : Fin 4352) (i 2 : Fin 128))

/-- The second scratch as it is filled: head by head the values. -/
def vaugBlk (x1 : Vec Ideal S1x4352x512 .bf16) : Vec Ideal S4x4352x128 .bf16 :=
  fun i => vaug (kvHead x1 (i 0 : Fin 4)) (ix3 (0 : Fin 1) (i 1 : Fin 4352) (i 2 : Fin 128))

/-- The block stored: head `l / 64`'s output at value lane `l % 64`. -/
def outBlk (x0 : Vec Ideal S1x256x512 .bf16) (k v : Vec Ideal S4x4352x128 .bf16) : Vec Ideal S1x256x256 .f32 :=
  fun i => headOut (qHead x0 (headOf (i 2 : Fin 256))) (slab k (headOf (i 2 : Fin 256))) (slab v (headOf (i 2 : Fin 256)))
    (i 1 : Fin 256) (valueOf (i 2 : Fin 256))

/-! ### The fill -/

theorem lane_lt : ∀ l : Fin 128, IntOp.cmpi .slt (BitVec.ofNat 32 l.val) 64#32 = if l.val < 64 then 1#1 else 0#1 := by
  decide +kernel
theorem lane_ge : ∀ l : Fin 128, IntOp.cmpi .sge (BitVec.ofNat 32 l.val) 64#32 = if 64 ≤ l.val then 1#1 else 0#1 := by
  decide +kernel
theorem lane_eq : ∀ l : Fin 128, IntOp.cmpi .eq (BitVec.ofNat 32 l.val) 0#32 = if l.val = 0 then 1#1 else 0#1 := by
  decide +kernel

theorem oneBits : Ideal.ofBits .f32 0x3F800000#32 = 1 := by
  simp [Ideal.ofBits, Ideal.ieee]
  rw [← EReal.coe_one, ← EReal.coe_mul]
  norm_num

theorem lane_apply (k : Fin 4352) (l : Fin 128) :
    iota .tc S4352x128 32 [1] iota_S4352x128_d1_w32 (ix2 k l) = BitVec.ofNat 32 l.val := by
  rw [iota_apply]
  exact congrArg (BitVec.ofNat 32) (by show 0 * 128 + l.val = l.val; omega)

/-- The column of ones beside zeros. -/
theorem ones_apply (k : Fin 4352) (l : Fin 128) : k0_pay2 (F := Ideal) (ix2 k l) = if l.val = 0 then 1 else 0 := by
  have e : cmpi .eq (iota .tc S4352x128 32 [1] iota_S4352x128_d1_w32) (broadcast S4352x128 0#32) (ix2 k l)
      = if l.val = 0 then 1#1 else 0#1 := (congrArg (fun b => IntOp.cmpi .eq b 0#32) (lane_apply k l)).trans (lane_eq l)
  unfold k0_pay2
  show (if _ = 1#1 then Ideal.ofBits .f32 0x3F800000#32 else Ideal.ofBits .f32 0x00000000#32) = _
  rw [e, oneBits, zeroBits]
  by_cases h : l.val = 0
  · simp [h]
  · simp [h]

/-- The keys a fill stores. -/
theorem keys_eq (v kr : Vec Ideal S1x4352x128 .bf16) : k0_pay4 (F := Ideal) v kr = kcat v kr := by
  funext i
  obtain ⟨u, k, l, rfl⟩ : ∃ (u : Fin 1) (k : Fin 4352) (l : Fin 128), i = ix3 u k l := ⟨_, _, _, eq_ix3 i⟩
  obtain rfl : u = 0 := Subsingleton.elim _ _
  unfold k0_pay4 k0_pay3 kcat
  dsimp only
  rw [shapeCast_ab_1ab_apply, select_apply, shapeCast_1ab_ab_apply, shapeCast_1ab_ab_apply]
  have e : cmpi .slt (iota .tc S4352x128 32 [1] iota_S4352x128_d1_w32) (broadcast S4352x128 64#32) (ix2 k l)
      = if l.val < 64 then 1#1 else 0#1 := (congrArg (fun b => IntOp.cmpi .slt b 64#32) (lane_apply k l)).trans (lane_lt l)
  show (if _ = 1#1 then _ else _) = if l.val < 64 then _ else _
  rw [e]
  by_cases h : l.val < 64
  · simp [h]
  · simp [h]

/-- The values a fill stores. -/
theorem values_eq (v : Vec Ideal S1x4352x128 .bf16) : k0_pay5 (F := Ideal) v = vaug v := by
  funext i
  obtain ⟨u, k, l, rfl⟩ : ∃ (u : Fin 1) (k : Fin 4352) (l : Fin 128), i = ix3 u k l := ⟨_, _, _, eq_ix3 i⟩
  obtain rfl : u = 0 := Subsingleton.elim _ _
  unfold k0_pay5 k0_pay3 vaug
  dsimp only
  rw [shapeCast_ab_1ab_apply, select_apply, shapeCast_1ab_ab_apply]
  have e : cmpi .sge (iota .tc S4352x128 32 [1] iota_S4352x128_d1_w32) (broadcast S4352x128 64#32) (ix2 k l)
      = if 64 ≤ l.val then 1#1 else 0#1 := (congrArg (fun b => IntOp.cmpi .sge b 64#32) (lane_apply k l)).trans (lane_ge l)
  rw [e, ones_apply]
  show (if _ = 1#1 then _ else _) = if 64 ≤ l.val then _ else if l.val = 0 then _ else _
  by_cases h : 64 ≤ l.val
  · simp [h]
  · by_cases h' : l.val = 0
    · simp [h']
    · simp [h, h']

/-! ### The store -/

/-- The four heads side by side are the block. -/
theorem store_eq (x0 : Vec Ideal S1x256x512 .bf16) (k v : Vec Ideal S4x4352x128 .bf16) :
    k0_pay1 (F := Ideal) (k0_pay17 (qHead x0 0) (slab k 0) (slab v 0))
      (k0_pay19 (k0_pay18 (qHead x0 1) (slab k 1)) (slab v 1)) (k0_pay20 (qHead x0 2) (slab k 2) (slab v 2))
      (k0_pay21 (qHead x0 3) (slab k 3)) (slab v 3) = outBlk x0 k v := by
  funext i
  obtain ⟨u, r, l, rfl⟩ : ∃ (u : Fin 1) (r : Fin 256) (l : Fin 256), i = ix3 u r l := ⟨_, _, _, eq_ix3 i⟩
  have hl := l.isLt
  have e : k0_pay1 (F := Ideal) (k0_pay17 (qHead x0 0) (slab k 0) (slab v 0))
      (k0_pay19 (k0_pay18 (qHead x0 1) (slab k 1)) (slab v 1)) (k0_pay20 (qHead x0 2) (slab k 2) (slab v 2))
      (k0_pay21 (qHead x0 3) (slab k 3)) (slab v 3)
    = shapeCast S1x256x256 (concatenate S256x256 1 [⟨S256x64, k0_pay17 (F := Ideal) (qHead x0 0) (slab k 0) (slab v 0)⟩,
        ⟨S256x64, k0_pay17 (F := Ideal) (qHead x0 1) (slab k 1) (slab v 1)⟩,
        ⟨S256x64, k0_pay17 (F := Ideal) (qHead x0 2) (slab k 2) (slab v 2)⟩,
        ⟨S256x64, k0_pay17 (F := Ideal) (qHead x0 3) (slab k 3) (slab v 3)⟩]
        concatenates_S256x64_S256x64_S256x64_S256x64_S256x256_d1) shapeCasts_S256x256_S1x256x256 := rfl
  rw [e, shapeCast_ab_1ab_apply, four_apply]
  show _ = headOut (qHead x0 (headOf l)) (slab k (headOf l)) (slab v (headOf l)) r (valueOf l)
  rw [← head0_apply]
  obtain hh | hh | hh | hh : l.val / 64 = 0 ∨ l.val / 64 = 1 ∨ l.val / 64 = 2 ∨ l.val / 64 = 3 := by omega
  · rw [show headOf l = 0 from Fin.ext hh, show (⟨l.val / 64, by omega⟩ : Fin 4) = 0 from Fin.ext hh]; rfl
  · rw [show headOf l = 1 from Fin.ext hh, show (⟨l.val / 64, by omega⟩ : Fin 4) = 1 from Fin.ext hh]; rfl
  · rw [show headOf l = 2 from Fin.ext hh, show (⟨l.val / 64, by omega⟩ : Fin 4) = 2 from Fin.ext hh]; rfl
  · rw [show headOf l = 3 from Fin.ext hh, show (⟨l.val / 64, by omega⟩ : Fin 4) = 3 from Fin.ext hh]; rfl

/-! ### Loads of a head's lanes and of a head's slab -/

theorem ld_q (x : Vec Ideal S1x256x512 .bf16) (h : Fin 4) (o : ℕ) (ho : o = h.val * 128) (inb) :
    View.ld x (Rect.unit (s := S1x256x512) ![0, 0, o] ![1, 256, 128] inb) = qHead x h := by
  subst ho
  funext i
  refine View.ld_unit_apply_of _ _ _ inb i _ fun a => ?_
  match a with
  | ⟨0, _⟩ => show 0 = 0 + (i 0).val; have : (i 0).val < 1 := (i 0).isLt; omega
  | ⟨1, _⟩ => show (i 1).val = 0 + (i 1).val; omega
  | ⟨2, _⟩ => rfl

theorem ld_kv (x : Vec Ideal S1x4352x512 .bf16) (h : Fin 4) (o : ℕ) (ho : o = h.val * 128) (inb) :
    View.ld x (Rect.unit (s := S1x4352x512) ![0, 0, o] ![1, 4352, 128] inb) = kvHead x h := by
  subst ho
  funext i
  refine View.ld_unit_apply_of _ _ _ inb i _ fun a => ?_
  match a with
  | ⟨0, _⟩ => show 0 = 0 + (i 0).val; have : (i 0).val < 1 := (i 0).isLt; omega
  | ⟨1, _⟩ => show (i 1).val = 0 + (i 1).val; omega
  | ⟨2, _⟩ => rfl

theorem ld_slab (x : Vec Ideal S4x4352x128 .bf16) (h : Fin 4) (o : ℕ) (ho : o = h.val) (inb) :
    View.ld x (Rect.unit (s := S4x4352x128) ![o, 0, 0] ![1, 4352, 128] inb) = slab x h := by
  subst ho
  funext i
  refine View.ld_unit_apply_of _ _ _ inb i _ fun a => ?_
  match a with
  | ⟨0, _⟩ => show h.val = h.val + (i 0).val; have : (i 0).val < 1 := (i 0).isLt; omega
  | ⟨1, _⟩ => show (i 1).val = 0 + (i 1).val; omega
  | ⟨2, _⟩ => show (i 2).val = 0 + (i 2).val; omega

theorem ld_kr (x : Vec Ideal S1x4352x128 .bf16) (inb) :
    View.ld x (Rect.unit (s := S1x4352x128) ![0, 0, 0] ![1, 4352, 128] inb) = x := by
  funext i
  refine View.ld_unit_apply_of _ _ _ inb i _ fun a => ?_
  match a with
  | ⟨0, _⟩ => show (i 0).val = 0 + (i 0).val; omega
  | ⟨1, _⟩ => show (i 1).val = 0 + (i 1).val; omega
  | ⟨2, _⟩ => show (i 2).val = 0 + (i 2).val; omega

/-! ### The four stores of a fill -/

/-- Head `o`'s slab as a rectangle of a scratch. -/
abbrev slabRect (o : ℕ) (inb : ∀ a, (![o, 0, 0] : Fin 3 → ℕ) a + (![1, 4352, 128] : Fin 3 → ℕ) a ≤ S4x4352x128.size a) : Rect S4x4352x128 :=
  Rect.unit (s := S4x4352x128) ![o, 0, 0] ![1, 4352, 128] inb

theorem mem_slabRect (h : Fin 4) (o : ℕ) (ho : o = h.val) (inb) (y : S4x4352x128.Idx) (hy : (y 0).val = h.val) :
    y ∈ (slabRect o inb).set := by
  subst ho
  refine (Rect.mem_set_unit ..).2 fun a => ?_
  match a with
  | ⟨0, _⟩ => exact ⟨le_of_eq hy.symm, by show (y 0).val < h.val + 1; omega⟩
  | ⟨1, _⟩ => exact ⟨Nat.zero_le _, by show (y 1).val < 0 + 4352; have : (y 1).val < 4352 := (y 1).isLt; omega⟩
  | ⟨2, _⟩ => exact ⟨Nat.zero_le _, by show (y 2).val < 0 + 128; have : (y 2).val < 128 := (y 2).isLt; omega⟩

/-- A slab of a scratch is what its rectangle places. -/
theorem slab_emb (a : Vec Ideal S4x4352x128 .bf16) (h : Fin 4) (o : ℕ) (ho : o = h.val) (inb) (x : S1x4352x128.Idx) :
    slab a h x = a ((slabRect o inb).emb x) :=
  (congrFun (ld_slab a h o ho inb) x).symm

/-- Four stores, one per slab, leave the array whose slabs they store. -/
theorem canon_slabs (a : Vec Ideal S4x4352x128 .bf16) (w0 w1 w2 w3 : Vec Ideal S1x4352x128 .bf16) (i0) (i1) (i2) (i3)
    (h0 : w0 = slab a 0) (h1 : w1 = slab a 1) (h2 : w2 = slab a 2) (h3 : w3 = slab a 3) :
    View.canon (Val := Elt Ideal) (e := .bf16) [⟨slabRect 3 i3, w3⟩, ⟨slabRect 2 i2, w2⟩, ⟨slabRect 1 i1, w1⟩, ⟨slabRect 0 i0, w0⟩] = a := by
  subst h0 h1 h2 h3
  funext y
  refine View.canon_apply_of_pieces (Val := Elt Ideal) (e := .bf16) a _ ?_ y ?_
  · intro p hp x
    simp only [List.mem_cons, List.not_mem_nil, or_false] at hp
    obtain rfl | rfl | rfl | rfl := hp
    · exact slab_emb a 3 3 rfl i3 x
    · exact slab_emb a 2 2 rfl i2 x
    · exact slab_emb a 1 1 rfl i1 x
    · exact slab_emb a 0 0 rfl i0 x
  · have hy : (y 0).val < 4 := (y 0).isLt
    obtain hh | hh | hh | hh : (y 0).val = 3 ∨ (y 0).val = 2 ∨ (y 0).val = 1 ∨ (y 0).val = 0 := by omega
    · exact ⟨⟨slabRect 3 i3, slab a 3⟩, by simp, mem_slabRect 3 3 rfl i3 y hh⟩
    · exact ⟨⟨slabRect 2 i2, slab a 2⟩, by simp, mem_slabRect 2 2 rfl i2 y hh⟩
    · exact ⟨⟨slabRect 1 i1, slab a 1⟩, by simp, mem_slabRect 1 1 rfl i1 y hh⟩
    · exact ⟨⟨slabRect 0 i0, slab a 0⟩, by simp, mem_slabRect 0 0 rfl i0 y hh⟩

/-- A slab read back after stores that leave `a`. -/
theorem read_slab {κ sp} (v : View sig κ sp S4x4352x128 .bf16) (L : List (View.Piece (Elt Ideal) S4x4352x128 .bf16))
    (a : Vec Ideal S4x4352x128 .bf16) (hL : View.canon L = a) (h : Fin 4) (o : ℕ) (ho : o = h.val) (inb) :
    v.readCov L (slabRect o inb).toLoadRect = slab a h := by
  rw [View.readCov_eq_canon', hL]
  exact ld_slab a h o ho inb

/-- The keys' four stores. -/
theorem keys_fill (x1 : Vec Ideal S1x4352x512 .bf16) (x2 : Vec Ideal S1x4352x128 .bf16) (i0) (i1) (i2) (i3) :
    View.canon (Val := Elt Ideal) (e := .bf16) [⟨slabRect 3 i3, k0_pay4 (F := Ideal) (kvHead x1 3) x2⟩, ⟨slabRect 2 i2, k0_pay4 (F := Ideal) (kvHead x1 2) x2⟩,
      ⟨slabRect 1 i1, k0_pay4 (F := Ideal) (kvHead x1 1) x2⟩, ⟨slabRect 0 i0, k0_pay4 (F := Ideal) (kvHead x1 0) x2⟩] = kcatBlk x1 x2 := by
  have e : ∀ h : Fin 4, k0_pay4 (F := Ideal) (kvHead x1 h) x2 = slab (kcatBlk x1 x2) h := fun h => by
    rw [keys_eq]
    funext i
    obtain ⟨u, k, l, rfl⟩ : ∃ (u : Fin 1) (k : Fin 4352) (l : Fin 128), i = ix3 u k l := ⟨_, _, _, eq_ix3 i⟩
    obtain rfl : u = 0 := Subsingleton.elim _ _
    rfl
  exact canon_slabs _ _ _ _ _ i0 i1 i2 i3 (e 0) (e 1) (e 2) (e 3)

/-- The values' four stores. -/
theorem values_fill (x1 : Vec Ideal S1x4352x512 .bf16) (i0) (i1) (i2) (i3) :
    View.canon (Val := Elt Ideal) (e := .bf16) [⟨slabRect 3 i3, k0_pay5 (F := Ideal) (kvHead x1 3)⟩, ⟨slabRect 2 i2, k0_pay5 (F := Ideal) (kvHead x1 2)⟩,
      ⟨slabRect 1 i1, k0_pay5 (F := Ideal) (kvHead x1 1)⟩, ⟨slabRect 0 i0, k0_pay5 (F := Ideal) (kvHead x1 0)⟩] = vaugBlk x1 := by
  have e : ∀ h : Fin 4, k0_pay5 (F := Ideal) (kvHead x1 h) = slab (vaugBlk x1) h := fun h => by
    rw [values_eq]
    funext i
    obtain ⟨u, k, l, rfl⟩ : ∃ (u : Fin 1) (k : Fin 4352) (l : Fin 128), i = ix3 u k l := ⟨_, _, _, eq_ix3 i⟩
    obtain rfl : u = 0 := Subsingleton.elim _ _
    rfl
  exact canon_slabs _ _ _ _ _ i0 i1 i2 i3 (e 0) (e 1) (e 2) (e 3)

/-! ### The generated terms -/

/-- A point that does not fill stores the block of the scratch it finds. -/
theorem out_B (c : Dev nD) (i : grid0.Coords) (arg3 : Memref sig .tc .vmem S1x256x512 .bf16) (harg3 : arg3.IsWhole) (arg4 : Memref sig .tc .vmem S1x4352x512 .bf16) (harg4 : arg4.IsWhole) (arg5 : Memref sig .tc .vmem S1x4352x128 .bf16) (harg5 : arg5.IsWhole) (arg6 : Memref sig .tc .vmem S1x256x256 .f32) (harg6 : arg6.IsWhole) (arg7 : Memref sig .tc .vmem S4x4352x128 .bf16) (harg7 : arg7.IsWhole) (arg8 : Memref sig .tc .vmem S4x4352x128 .bf16) (harg8 : arg8.IsWhole) (hc0 : ¬cond0_0 i)
    (x0 : Vec Ideal S1x256x512 .bf16) (x1 : Vec Ideal S1x4352x512 .bf16) (x2 : Vec Ideal S1x4352x128 .bf16) (xs0 : Vec Ideal S4x4352x128 .bf16) (xs1 : Vec Ideal S4x4352x128 .bf16) :
    out0_B_3 c i arg3 harg3 arg4 harg4 arg5 harg5 arg6 harg6 arg7 harg7 arg8 harg8 hc0 x0 x1 x2 xs0 xs1 = outBlk x0 xs0 xs1 := by
  unfold out0_B_3
  rw [View.read_writes_eq_canon _ _ _ (cover0_B_3 c i arg3 harg3 arg4 harg4 arg5 harg5 arg6 harg6 arg7 harg7 arg8 harg8 hc0 x0 x1 x2 xs0 xs1)]
  unfold kernelRun0_B
  dsimp only
  sl_unfold_words
  simp only [View.readAt_eq_ld, harg3.read_unread, harg7.read_unread, harg8.read_unread]
  rw [View.canon_unit_zero (by funext a; match a with | ⟨0, _⟩ => rfl | ⟨1, _⟩ => rfl | ⟨2, _⟩ => rfl)]
  rw [ld_q x0 0 0 rfl, ld_q x0 1 128 rfl, ld_q x0 2 256 rfl, ld_q x0 3 384 rfl]
  rw [ld_slab xs0 0 0 rfl, ld_slab xs0 1 1 rfl, ld_slab xs0 2 2 rfl, ld_slab xs0 3 3 rfl]
  rw [ld_slab xs1 0 0 rfl, ld_slab xs1 1 1 rfl, ld_slab xs1 2 2 rfl, ld_slab xs1 3 3 rfl]
  exact store_eq x0 xs0 xs1

/-- A point that fills leaves the keys in the first scratch. -/
theorem sout_A_0 (c : Dev nD) (i : grid0.Coords) (arg3 : Memref sig .tc .vmem S1x256x512 .bf16) (harg3 : arg3.IsWhole) (arg4 : Memref sig .tc .vmem S1x4352x512 .bf16) (harg4 : arg4.IsWhole) (arg5 : Memref sig .tc .vmem S1x4352x128 .bf16) (harg5 : arg5.IsWhole) (arg6 : Memref sig .tc .vmem S1x256x256 .f32) (harg6 : arg6.IsWhole) (arg7 : Memref sig .tc .vmem S4x4352x128 .bf16) (harg7 : arg7.IsWhole) (arg8 : Memref sig .tc .vmem S4x4352x128 .bf16) (harg8 : arg8.IsWhole) (hc0 : cond0_0 i)
    (x0 : Vec Ideal S1x256x512 .bf16) (x1 : Vec Ideal S1x4352x512 .bf16) (x2 : Vec Ideal S1x4352x128 .bf16) :
    sout0_A_0 c i arg3 harg3 arg4 harg4 arg5 harg5 arg6 harg6 arg7 harg7 arg8 harg8 hc0 x0 x1 x2 = kcatBlk x1 x2 := by
  unfold sout0_A_0
  rw [View.read_writes_eq_canon _ _ _ (scover0_A_0 c i arg3 harg3 arg4 harg4 arg5 harg5 arg6 harg6 arg7 harg7 arg8 harg8 hc0 x0 x1 x2)]
  unfold kernelRun0_A
  dsimp only
  sl_unfold_words
  simp only [View.readAt_eq_ld, harg4.read_unread, harg5.read_unread]
  rw [ld_kv x1 0 0 rfl, ld_kv x1 1 128 rfl, ld_kv x1 2 256 rfl, ld_kv x1 3 384 rfl, ld_kr x2]
  exact keys_fill x1 x2 _ _ _ _

/-- A point that fills leaves the values in the second scratch. -/
theorem sout_A_1 (c : Dev nD) (i : grid0.Coords) (arg3 : Memref sig .tc .vmem S1x256x512 .bf16) (harg3 : arg3.IsWhole) (arg4 : Memref sig .tc .vmem S1x4352x512 .bf16) (harg4 : arg4.IsWhole) (arg5 : Memref sig .tc .vmem S1x4352x128 .bf16) (harg5 : arg5.IsWhole) (arg6 : Memref sig .tc .vmem S1x256x256 .f32) (harg6 : arg6.IsWhole) (arg7 : Memref sig .tc .vmem S4x4352x128 .bf16) (harg7 : arg7.IsWhole) (arg8 : Memref sig .tc .vmem S4x4352x128 .bf16) (harg8 : arg8.IsWhole) (hc0 : cond0_0 i)
    (x0 : Vec Ideal S1x256x512 .bf16) (x1 : Vec Ideal S1x4352x512 .bf16) (x2 : Vec Ideal S1x4352x128 .bf16) :
    sout0_A_1 c i arg3 harg3 arg4 harg4 arg5 harg5 arg6 harg6 arg7 harg7 arg8 harg8 hc0 x0 x1 x2 = vaugBlk x1 := by
  unfold sout0_A_1
  rw [View.read_writes_eq_canon _ _ _ (scover0_A_1 c i arg3 harg3 arg4 harg4 arg5 harg5 arg6 harg6 arg7 harg7 arg8 harg8 hc0 x0 x1 x2)]
  unfold kernelRun0_A
  dsimp only
  sl_unfold_words
  simp only [View.readAt_eq_ld, harg4.read_unread, harg5.read_unread]
  rw [ld_kv x1 0 0 rfl, ld_kv x1 1 128 rfl, ld_kv x1 2 256 rfl, ld_kv x1 3 384 rfl]
  exact values_fill x1 _ _ _ _

/-- A point that fills stores the block of the scratch it has just filled. -/
theorem out_A (c : Dev nD) (i : grid0.Coords) (arg3 : Memref sig .tc .vmem S1x256x512 .bf16) (harg3 : arg3.IsWhole) (arg4 : Memref sig .tc .vmem S1x4352x512 .bf16) (harg4 : arg4.IsWhole) (arg5 : Memref sig .tc .vmem S1x4352x128 .bf16) (harg5 : arg5.IsWhole) (arg6 : Memref sig .tc .vmem S1x256x256 .f32) (harg6 : arg6.IsWhole) (arg7 : Memref sig .tc .vmem S4x4352x128 .bf16) (harg7 : arg7.IsWhole) (arg8 : Memref sig .tc .vmem S4x4352x128 .bf16) (harg8 : arg8.IsWhole) (hc0 : cond0_0 i)
    (x0 : Vec Ideal S1x256x512 .bf16) (x1 : Vec Ideal S1x4352x512 .bf16) (x2 : Vec Ideal S1x4352x128 .bf16) :
    out0_A_3 c i arg3 harg3 arg4 harg4 arg5 harg5 arg6 harg6 arg7 harg7 arg8 harg8 hc0 x0 x1 x2 = outBlk x0 (kcatBlk x1 x2) (vaugBlk x1) := by
  unfold out0_A_3
  rw [View.read_writes_eq_canon _ _ _ (cover0_A_3 c i arg3 harg3 arg4 harg4 arg5 harg5 arg6 harg6 arg7 harg7 arg8 harg8 hc0 x0 x1 x2)]
  unfold kernelRun0_A
  dsimp only
  sl_unfold_words
  simp only [View.readAt_eq_ld, harg3.read_unread, harg4.read_unread, harg5.read_unread]
  rw [View.canon_unit_zero (by funext a; match a with | ⟨0, _⟩ => rfl | ⟨1, _⟩ => rfl | ⟨2, _⟩ => rfl)]
  rw [ld_q x0 0 0 rfl, ld_q x0 1 128 rfl, ld_q x0 2 256 rfl, ld_q x0 3 384 rfl]
  rw [ld_kv x1 0 0 rfl, ld_kv x1 1 128 rfl, ld_kv x1 2 256 rfl, ld_kv x1 3 384 rfl, ld_kr x2]
  have hk := fun h o ho inb => read_slab arg7.view _ _ (keys_fill x1 x2 (by decide) (by decide) (by decide) (by decide)) h o ho inb
  have hv := fun h o ho inb => read_slab arg8.view _ _ (values_fill x1 (by decide) (by decide) (by decide) (by decide)) h o ho inb
  rw [← store_eq, ← hk 0 0 rfl (by decide), ← hk 1 1 rfl (by decide), ← hk 2 2 rfl (by decide), ← hk 3 3 rfl (by decide),
    ← hv 0 0 rfl (by decide), ← hv 1 1 rfl (by decide), ← hv 2 2 rfl (by decide), ← hv 3 3 rfl (by decide)]
  rfl

end Cert.KernelIdeal.Attn

end
-- ==== Proof.AttnArray.lean ====
/-
  THE ARRAY. What the kernel's result array ends holding, as one function of the query, key/value and rotary-key
  arrays: `attnArr`. Every grid point writes its block of it, and the blocks cover the array.
-/
module

public import proofs.«01_k».proof.Proof.AttnBlock

@[expose] public section

set_option maxRecDepth 16384

noncomputable section

namespace Cert.KernelIdeal.Attn

open Idealize.ShloMosaic hiding ix1 ix2 ix3 eq_ix2 eq_ix3 constant_apply
open Idealize.ShloMosaic.ValueIdx Idealize.ShloMosaic.TcCoe Idealize.SL.Sem
open Cert.KernelIdeal Cert.KernelIdeal.Gen
open scoped BigOperators

/-- Value lane `d` among the 128 lanes of a head. -/
def valueLane (d : Fin 64) : Fin 128 := ⟨64 + d.val, by omega⟩

/-! ### One block, at an index -/

/-- The block a point stores, at a row and a lane, from the point's input blocks: the values of the lane's head weighted
    by that head's scores, over the sum of the weights. -/
theorem outBlk_apply (x0 : Vec Ideal S1x256x512 .bf16) (x1 : Vec Ideal S1x4352x512 .bf16) (x2 : Vec Ideal S1x4352x128 .bf16)
    (r l : Fin 256) : outBlk x0 (kcatBlk x1 x2) (vaugBlk x1) (ix3 (0 : Fin 1) r l)
      = Ideal.div
          (∑ k : Fin 4352, weight (fun k' => ∑ e : Fin 128, x0 (ix3 (0 : Fin 1) r (laneOf (headOf l) e))
              * (if e.val < 64 then x1 (ix3 (0 : Fin 1) k' (laneOf (headOf l) e)) else x2 (ix3 (0 : Fin 1) k' e))) k
            * x1 (ix3 (0 : Fin 1) k (laneOf (headOf l) (valueLane (valueOf l)))))
          (∑ k : Fin 4352, weight (fun k' => ∑ e : Fin 128, x0 (ix3 (0 : Fin 1) r (laneOf (headOf l) e))
              * (if e.val < 64 then x1 (ix3 (0 : Fin 1) k' (laneOf (headOf l) e)) else x2 (ix3 (0 : Fin 1) k' e))) k) := by
  refine congrArg₂ Ideal.div (Finset.sum_congr rfl fun k _ => ?_) (Finset.sum_congr rfl fun k _ => ?_)
  · refine congrArg₂ (· * ·) rfl ?_
    exact if_pos (Nat.le_add_right 64 _)
  · refine Eq.trans (congrArg₂ (· * ·) rfl ?_) (mul_one _)
    show (if 64 ≤ (0 : ℕ) then x1 (ix3 (0 : Fin 1) k (laneOf (headOf l) (0 : Fin 128))) else if (0 : ℕ) = 0 then (1 : EReal) else 0) = 1
    simp

/-! ### The array -/

/-- Lane `e` of head `h` among the 1024 lanes of eight heads. -/
def lane8 (h : Fin 8) (e : Fin 128) : Fin 1024 := ⟨h.val * 128 + e.val, by omega⟩

/-- The score of query `n` against key `k` in head `h` of batch `b`. -/
def arrScore (q : Vec Ideal S8x4096x1024 .bf16) (kv : Vec Ideal S8x4352x1024 .bf16) (kr : Vec Ideal S8x4352x128 .bf16)
    (b : Fin 8) (n : Fin 4096) (h : Fin 8) (k : Fin 4352) : EReal :=
  ∑ e : Fin 128, q (ix3 b n (lane8 h e)) * (if e.val < 64 then kv (ix3 b k (lane8 h e)) else kr (ix3 b k e))

/-- The attention of query `n` in head `h` of batch `b`, at value lane `d`. -/
def arrHead (q : Vec Ideal S8x4096x1024 .bf16) (kv : Vec Ideal S8x4352x1024 .bf16) (kr : Vec Ideal S8x4352x128 .bf16)
    (b : Fin 8) (n : Fin 4096) (h : Fin 8) (d : Fin 64) : EReal :=
  Ideal.div (∑ k : Fin 4352, weight (arrScore q kv kr b n h) k * kv (ix3 b k (lane8 h (valueLane d))))
    (∑ k : Fin 4352, weight (arrScore q kv kr b n h) k)

/-- The whole result: lane `j` is value lane `j % 64` of head `j / 64`. -/
def attnArr (q : Vec Ideal S8x4096x1024 .bf16) (kv : Vec Ideal S8x4352x1024 .bf16) (kr : Vec Ideal S8x4352x128 .bf16) :
    Vec Ideal S8x4096x512 .f32 :=
  fun i => arrHead q kv kr (i 0 : Fin 8) (i 1 : Fin 4096)
    ⟨(i 2 : Fin 512).val / 64, by have : (i 2 : Fin 512).val < 512 := (i 2).isLt; omega⟩ ⟨(i 2 : Fin 512).val % 64, by omega⟩

variable (m : (ℓ : Loc nD τ sig) → Buf (Elt Ideal) ℓ) (ρ : Dev nD → PrngReg)

/-! ### Where a point's blocks lie -/

theorem index0 : ∀ t : Fin grid0.N, win0_0.index t 0 = t.val / 32 ∧ win0_0.index t 1 = t.val % 16 ∧ win0_0.index t 2 = t.val / 16 % 2 := by
  decide +kernel
theorem index1 : ∀ t : Fin grid0.N, win0_1.index t 0 = t.val / 32 ∧ win0_1.index t 1 = 0 ∧ win0_1.index t 2 = t.val / 16 % 2 := by
  decide +kernel
theorem index2 : ∀ t : Fin grid0.N, win0_2.index t 0 = t.val / 32 ∧ win0_2.index t 1 = 0 ∧ win0_2.index t 2 = 0 := by
  decide +kernel
theorem index3 : ∀ t : Fin grid0.N, win0_3.index t 0 = t.val / 32 ∧ win0_3.index t 1 = t.val % 16 ∧ win0_3.index t 2 = t.val / 16 % 2 := by
  decide +kernel

theorem point_lt (t : Fin cfg0.N) : t.val < 256 := lt_of_lt_of_eq t.isLt N_0

/-- A point's batch, -/
def batchOf (t : Fin cfg0.N) : Fin 8 := ⟨t.val / 32, by have := point_lt t; omega⟩
/-- its query row of the array, -/
def rowAt (t : Fin cfg0.N) (r : Fin 256) : Fin 4096 := ⟨t.val % 16 * 256 + r.val, by omega⟩
/-- and its lane of the query and key/value arrays. -/
def laneAt (t : Fin cfg0.N) (l : Fin 512) : Fin 1024 := ⟨t.val / 16 % 2 * 512 + l.val, by omega⟩

theorem queries_apply (c : Dev nD) (t : Fin cfg0.N) (r : Fin 256) (l : Fin 512) :
    (iblk m c 0 t : Vec Ideal S1x256x512 .bf16) (ix3 (0 : Fin 1) r l)
      = m ((c : Thread nD τ).loc main_arg0) (ix3 (batchOf t) (rowAt t r) (laneAt t l)) := by
  obtain ⟨h0, h1, h2⟩ := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 32; rw [h0]; omega
  | ⟨1, _⟩ => show win0_0.index t 1 * 256 + 1 * r.val = t.val % 16 * 256 + r.val; rw [h1]; omega
  | ⟨2, _⟩ => show win0_0.index t 2 * 512 + 1 * l.val = t.val / 16 % 2 * 512 + l.val; rw [h2]; omega

theorem keys_apply (c : Dev nD) (t : Fin cfg0.N) (k : Fin 4352) (l : Fin 512) :
    (iblk m c 1 t : Vec Ideal S1x4352x512 .bf16) (ix3 (0 : Fin 1) k l)
      = m ((c : Thread nD τ).loc main_arg1) (ix3 (batchOf t) k (laneAt t l)) := by
  obtain ⟨h0, h1, h2⟩ := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 32; rw [h0]; omega
  | ⟨1, _⟩ => show win0_1.index t 1 * 4352 + 1 * k.val = k.val; rw [h1]; omega
  | ⟨2, _⟩ => show win0_1.index t 2 * 512 + 1 * l.val = t.val / 16 % 2 * 512 + l.val; rw [h2]; omega

theorem rotary_apply (c : Dev nD) (t : Fin cfg0.N) (k : Fin 4352) (l : Fin 128) :
    (iblk m c 2 t : Vec Ideal S1x4352x128 .bf16) (ix3 (0 : Fin 1) k l)
      = m ((c : Thread nD τ).loc main_arg2) (ix3 (batchOf t) k l) := by
  obtain ⟨h0, h1, h2⟩ := index2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 32; rw [h0]; omega
  | ⟨1, _⟩ => show win0_2.index t 1 * 4352 + 1 * k.val = k.val; rw [h1]; omega
  | ⟨2, _⟩ => show win0_2.index t 2 * 128 + 1 * l.val = l.val; rw [h2]; omega

/-! ### The scratch -/

/-- Two points of one batch and one group of heads have the same keys and values, -/
theorem keys_same (c : Dev nD) (t u : Fin cfg0.N) (h : t.val / 16 = u.val / 16) :
    (iblk m c 1 t : Vec Ideal S1x4352x512 .bf16) = iblk m c 1 u := by
  funext i
  obtain ⟨z, k, l, rfl⟩ : ∃ (z : Fin 1) (k : Fin 4352) (l : Fin 512), i = ix3 z k l := ⟨_, _, _, eq_ix3 i⟩
  obtain rfl : z = 0 := Subsingleton.elim _ _
  rw [keys_apply, keys_apply, show batchOf t = batchOf u from Fin.ext (by show t.val / 32 = u.val / 32; omega),
    show laneAt t l = laneAt u l from Fin.ext (by show t.val / 16 % 2 * 512 + l.val = u.val / 16 % 2 * 512 + l.val; omega)]

/-- and the same rotary keys. -/
theorem rotary_same (c : Dev nD) (t u : Fin cfg0.N) (h : t.val / 16 = u.val / 16) :
    (iblk m c 2 t : Vec Ideal S1x4352x128 .bf16) = iblk m c 2 u := by
  funext i
  obtain ⟨z, k, l, rfl⟩ : ∃ (z : Fin 1) (k : Fin 4352) (l : Fin 128), i = ix3 z k l := ⟨_, _, _, eq_ix3 i⟩
  obtain rfl : z = 0 := Subsingleton.elim _ _
  rw [rotary_apply, rotary_apply, show batchOf t = batchOf u from Fin.ext (by show t.val / 32 = u.val / 32; omega)]

/-- After every point the scratch holds the keys and values of the point's own batch and group. -/
theorem scratch_eq (c : Dev nD) : ∀ (n : ℕ) (hn : n < cfg0.N), (outsAt0 m c n hn).2
    = (kcatBlk (iblk m c 1 ⟨n, hn⟩) (iblk m c 2 ⟨n, hn⟩), vaugBlk (iblk m c 1 ⟨n, hn⟩))
  | n, hn => by
    by_cases h : n % 16 = 0
    · rw [outsAt0_A m c ⟨n, hn⟩ h]
      dsimp only
      rw [sout_A_0, sout_A_1]
    · have ih := scratch_eq c (n - 1) (Nat.lt_of_le_of_lt (Nat.sub_le _ _) hn)
      rw [outsAt0_B m c ⟨n, hn⟩ h]
      show ((outsAt0 m c (n - 1) _).2.1, (outsAt0 m c (n - 1) _).2.2) = _
      rw [ih, keys_same m c ⟨n, hn⟩ ⟨n - 1, Nat.lt_of_le_of_lt (Nat.sub_le _ _) hn⟩ (by show n / 16 = (n - 1) / 16; omega),
        rotary_same m c ⟨n, hn⟩ ⟨n - 1, Nat.lt_of_le_of_lt (Nat.sub_le _ _) hn⟩ (by show n / 16 = (n - 1) / 16; omega)]
  termination_by n => n
  decreasing_by omega

/-- So every point stores the block of its own inputs. -/
theorem stored_eq (c : Dev nD) (t : Fin cfg0.N) : (outsAt0 m c t.val t.isLt).1
    = outBlk (iblk m c 0 t) (kcatBlk (iblk m c 1 t) (iblk m c 2 t)) (vaugBlk (iblk m c 1 t)) := by
  by_cases h : t.val % 16 = 0
  · rw [outsAt0_A m c t h]
    dsimp only
    rw [out_A]
  · rw [outsAt0_B m c t h]
    dsimp only
    rw [out_B, scratch_eq m c (t.val - 1)]
    dsimp only
    rw [keys_same m c t ⟨t.val - 1, Nat.lt_of_le_of_lt (Nat.sub_le _ _) t.isLt⟩ (by show t.val / 16 = (t.val - 1) / 16; omega),
        rotary_same m c t ⟨t.val - 1, Nat.lt_of_le_of_lt (Nat.sub_le _ _) t.isLt⟩ (by show t.val / 16 = (t.val - 1) / 16; omega)]

/-! ### The result array -/

/-- The result the kernel leaves. -/
abbrev result (c : Dev nD) : Buf (Elt Ideal) ((c : Thread nD τ).loc main_v0) :=
  attnArr (m ((c : Thread nD τ).loc main_arg0)) (m ((c : Thread nD τ).loc main_arg1)) (m ((c : Thread nD τ).loc main_arg2))

/-- What a point stores is its block of the result. -/
theorem block_eq (c : Dev nD) (t : Fin cfg0.N) (r l : Fin 256) :
    outBlk (iblk m c 0 t) (kcatBlk (iblk m c 1 t) (iblk m c 2 t)) (vaugBlk (iblk m c 1 t)) (ix3 (0 : Fin 1) r l)
      = result m c (ix3 (batchOf t) (rowAt t r) ⟨t.val / 16 % 2 * 256 + l.val, by omega⟩) := by
  have hlane : ∀ e : Fin 128, laneAt t (laneOf (headOf l) e) = lane8 ⟨(t.val / 16 % 2 * 256 + l.val) / 64, by omega⟩ e := fun e =>
    Fin.ext (by
      show t.val / 16 % 2 * 512 + (l.val / 64 * 128 + e.val) = (t.val / 16 % 2 * 256 + l.val) / 64 * 128 + e.val
      omega)
  have hvalue : valueOf l = ⟨(t.val / 16 % 2 * 256 + l.val) % 64, by omega⟩ := Fin.ext (by
      show l.val % 64 = (t.val / 16 % 2 * 256 + l.val) % 64
      omega)
  rw [outBlk_apply, hvalue]
  simp only [queries_apply, keys_apply, rotary_apply, hlane]
  rfl

/-- What a point writes back is the result's block there. -/
theorem flushed_eq (c : Dev nD) (t : Fin cfg0.N) :
    (dats m 0 c).flushed 3 t = ((cfg0.win 3).blk t).view.read (Elt Ideal) (result m c) := by
  obtain ⟨h0, h1, h2⟩ := index3 t
  rw [Value.flushed3, stored_eq]
  funext i
  rw [View.read_apply]
  obtain ⟨z, r, l, hi⟩ : ∃ (z : Fin 1) (r : Fin 256) (l : Fin 256), i = ix3 z r l := ⟨_, _, _, eq_ix3 i⟩
  obtain rfl : z = 0 := Subsingleton.elim _ _
  subst hi
  refine (block_eq m c t r l).trans (congrArg (result m c) (funext fun a => Fin.ext ?_))
  match a with
  | ⟨0, _⟩ => show t.val / 32 = win0_3.index t 0 * 1 + 1 * 0; rw [h0]; omega
  | ⟨1, _⟩ => show t.val % 16 * 256 + r.val = win0_3.index t 1 * 256 + 1 * r.val; rw [h1]; omega
  | ⟨2, _⟩ => show t.val / 16 % 2 * 256 + l.val = win0_3.index t 2 * 256 + 1 * l.val; rw [h2]; omega

/-- The point that writes an index. -/
theorem covered (i : S8x4096x512.Idx) : ∃ t : Fin cfg0.N, (cfg0.win 3).flush t = true ∧ i ∈ ((cfg0.win 3).blk t).view.set := by
  have b0 : (i 0 : Nat) < 8 := (i 0).isLt
  have b1 : (i 1 : Nat) < 4096 := (i 1).isLt
  have b2 : (i 2 : Nat) < 512 := (i 2).isLt
  obtain ⟨t, ht⟩ : ∃ t : Fin grid0.N, t.val = (i 0 : Nat) * 32 + (i 2 : Nat) / 256 * 16 + (i 1 : Nat) / 256 :=
    ⟨⟨(i 0 : Nat) * 32 + (i 2 : Nat) / 256 * 16 + (i 1 : Nat) / 256, by rw [N_0]; omega⟩, rfl⟩
  refine ⟨t, flush0_3 t, ?_⟩
  obtain ⟨h0, h1, h2⟩ := index3 t
  show i ∈ ((View.whole main_v0).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + 1; rw [h0]; omega
  | ⟨1, _⟩ => show win0_3.index t 1 * 256 ≤ (i 1 : Nat) ∧ (i 1 : Nat) < win0_3.index t 1 * 256 + 256; rw [h1]; omega
  | ⟨2, _⟩ => show win0_3.index t 2 * 256 ≤ (i 2 : Nat) ∧ (i 2 : Nat) < win0_3.index t 2 * 256 + 256; rw [h2]; omega

/-- The result array after the run. -/
theorem final_eq (c : Dev nD) : (dats m 0 c).arrAt 3 cfg0.N = result m c :=
  (dats m 0 c).arrAt_eq_of_cover 3 (result m c) (fun t _ => flushed_eq m c t) covered

/-- The run: the result array at `result`, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_eq m c), (h c).2⟩) (Value.run_blocks m ρ)

end Cert.KernelIdeal.Attn

end
-- ==== Proof.AttnRef.lean ====
/-
  THE REFERENCE. What the reference's result is at an index: `refHead`, the values weighted by the normalised weights,
  each score a product over the 64 key lanes plus a product over the 64 rotary lanes.
-/
module

public import proofs.«01_k».proof.Proof.AttnArray
public import proofs.«01_k».proof.Proof.Gen.ReferenceIdeal.Read
public import Idealize.ShloMosaic.Lib.KernelVsHost

@[expose] public section

set_option maxRecDepth 16384

noncomputable section

namespace Cert.ReferenceIdeal.Attn

open Idealize.ShloMosaic hiding ix1 ix2 ix3 ix4 eq_ix2 eq_ix3 constant_apply
open Idealize.ShloMosaic.ValueIdx Idealize.ShloMosaic.TcCoe Idealize.SL.Sem
open Cert.ReferenceIdeal Cert.ReferenceIdeal.Gen Cert.ReferenceIdeal.Read
open Cert.KernelIdeal.Attn (rowMax weight lane8 valueLane arrScore arrHead attnArr zeroBits negInfBits)
open scoped BigOperators

variable (q : Vec Ideal S8x4096x1024 .bf16) (kv : Vec Ideal S8x4352x1024 .bf16) (kr : Vec Ideal S8x4352x128 .bf16)

/-- The score of query `n` against key `k`: 64 key lanes, then 64 rotary lanes. -/
def refScore (b : Fin 8) (n : Fin 4096) (h : Fin 8) (k : Fin 4352) : EReal :=
  (∑ e : Fin 64, q (ix3 b n (lane8 h ⟨e.val, by omega⟩)) * kv (ix3 b k (lane8 h ⟨e.val, by omega⟩)))
    + ∑ e : Fin 64, kr (ix3 b k ⟨64 + e.val, by omega⟩) * q (ix3 b n (lane8 h (valueLane e)))

/-- The reference's result in head `h`, at value lane `d`. -/
def refHead (b : Fin 8) (n : Fin 4096) (h : Fin 8) (d : Fin 64) : EReal :=
  ∑ k : Fin 4352, kv (ix3 b k (lane8 h (valueLane d)))
    * Ideal.div (weight (refScore q kv kr b n h) k) (∑ k' : Fin 4352, weight (refScore q kv kr b n h) k')

theorem q_apply (b : Fin 8) (n : Fin 4096) (h : Fin 8) (e : Fin 128) :
    val_main_v1 (F := Ideal) q (ix4 b n h e) = q (ix3 b n (lane8 h e)) := by
  rw [val_main_v1_apply, val_main_v0_apply]
  refine congrArg q (funext fun a => Fin.ext ?_)
  match a with
  | ⟨0, _⟩ => show (((b.val * 4096 + n.val) * 8 + h.val) * 128 + e.val) / 4194304 = b.val; omega
  | ⟨1, _⟩ => show (((b.val * 4096 + n.val) * 8 + h.val) * 128 + e.val) / 1024 % 4096 = n.val; omega
  | ⟨2, _⟩ => show (((b.val * 4096 + n.val) * 8 + h.val) * 128 + e.val) % 1024 = h.val * 128 + e.val; omega

theorem kv_apply (b : Fin 8) (k : Fin 4352) (h : Fin 8) (e : Fin 128) :
    val_main_v3 (F := Ideal) kv (ix4 b k h e) = kv (ix3 b k (lane8 h e)) := by
  rw [val_main_v3_apply, val_main_v2_apply]
  refine congrArg kv (funext fun a => Fin.ext ?_)
  match a with
  | ⟨0, _⟩ => show (((b.val * 4352 + k.val) * 8 + h.val) * 128 + e.val) / 4456448 = b.val; omega
  | ⟨1, _⟩ => show (((b.val * 4352 + k.val) * 8 + h.val) * 128 + e.val) / 1024 % 4352 = k.val; omega
  | ⟨2, _⟩ => show (((b.val * 4352 + k.val) * 8 + h.val) * 128 + e.val) % 1024 = h.val * 128 + e.val; omega

theorem key_apply (b : Fin 8) (k : Fin 4352) (h : Fin 8) (e : Fin 64) :
    val_main_v6 (F := Ideal) kv (ix4 b k h e) = kv (ix3 b k (lane8 h ⟨e.val, by omega⟩)) := by
  rw [val_main_v6_apply, ← kv_apply kv]
  refine congrArg _ (funext fun a => Fin.ext ?_)
  match a with
  | ⟨0, _⟩ => rfl
  | ⟨1, _⟩ => rfl
  | ⟨2, _⟩ => rfl
  | ⟨3, _⟩ => rfl

theorem value_apply (b : Fin 8) (k : Fin 4352) (h : Fin 8) (e : Fin 64) :
    val_main_v7 (F := Ideal) kv (ix4 b k h e) = kv (ix3 b k (lane8 h (valueLane e))) := by
  rw [val_main_v7_apply, ← kv_apply kv]
  refine congrArg _ (funext fun a => Fin.ext ?_)
  match a with
  | ⟨0, _⟩ => rfl
  | ⟨1, _⟩ => rfl
  | ⟨2, _⟩ => rfl
  | ⟨3, _⟩ => rfl

theorem qkey_apply (b : Fin 8) (n : Fin 4096) (h : Fin 8) (e : Fin 64) :
    val_main_v4 (F := Ideal) q (ix4 b n h e) = q (ix3 b n (lane8 h ⟨e.val, by omega⟩)) := by
  rw [val_main_v4_apply, ← q_apply q]
  refine congrArg _ (funext fun a => Fin.ext ?_)
  match a with
  | ⟨0, _⟩ => rfl
  | ⟨1, _⟩ => rfl
  | ⟨2, _⟩ => rfl
  | ⟨3, _⟩ => rfl

theorem qrot_apply (b : Fin 8) (n : Fin 4096) (h : Fin 8) (e : Fin 64) :
    val_main_v5 (F := Ideal) q (ix4 b n h e) = q (ix3 b n (lane8 h (valueLane e))) := by
  rw [val_main_v5_apply, ← q_apply q]
  refine congrArg _ (funext fun a => Fin.ext ?_)
  match a with
  | ⟨0, _⟩ => rfl
  | ⟨1, _⟩ => rfl
  | ⟨2, _⟩ => rfl
  | ⟨3, _⟩ => rfl

theorem rot_apply (b : Fin 8) (k : Fin 4352) (e : Fin 64) :
    val_main_v9 (F := Ideal) kr (ix3 b k e) = kr (ix3 b k ⟨64 + e.val, by omega⟩) := by
  rw [val_main_v9_apply, val_main_v8_apply]
  refine congrArg kr (funext fun a => Fin.ext ?_)
  match a with
  | ⟨0, _⟩ => rfl
  | ⟨1, _⟩ => rfl
  | ⟨2, _⟩ => rfl

/-- The scores, at an index. -/
theorem score_apply (b h : Fin 8) (n : Fin 4096) (k : Fin 4352) :
    val_main_v13 (F := Ideal) q kv kr (ix4 b h n k) = refScore q kv kr b n h k := by
  rw [val_main_v13_apply, val_main_v10_apply, val_main_v12_apply, val_main_v11_apply]
  refine congrArg₂ (· + ·) (Finset.sum_congr rfl fun e _ => ?_) (Finset.sum_congr rfl fun e _ => ?_)
  · rw [← qkey_apply q, ← key_apply kv]
    refine congrArg₂ (· * ·) (congrArg _ (funext fun a => ?_)) (congrArg _ (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl
  · rw [← qrot_apply q, ← rot_apply kr]
    refine congrArg₂ (· * ·) (congrArg _ (funext fun a => ?_)) (congrArg _ (funext fun a => ?_))
    · match a with
      | ⟨0, _⟩ => rfl
      | ⟨1, _⟩ => rfl
      | ⟨2, _⟩ => rfl
    · match a with
      | ⟨0, _⟩ => rfl
      | ⟨1, _⟩ => rfl
      | ⟨2, _⟩ => rfl
      | ⟨3, _⟩ => rfl

theorem reduces_scores : S8x8x4096x4352.Reduces [3] S8x8x4096 := by decide

/-- A maximum over the keys, at an index: the greatest element of the row. -/
theorem hostMax_apply (x : FVec Ideal S8x8x4096x4352 .f32) (j : S8x8x4096.Idx) :
    Host.reduce (FloatOps.maximumf (F := Ideal) (φ := .f32)) x (constant (F := Ideal) S_ .f32 0xFF800000#32)
        reducesTo_S8x8x4096x4352_S8x8x4096_d3 h_S_ j
      = Finset.univ.fold max ⊥ (x ∘ reduces_scores.lift j) := by
  have hφ : FKind.Formats .f32 := .inl rfl
  have hacc : 0xFF800000#32 = FKind.maximumf.neutral .f32 hφ := rfl
  rw [hostReduce_maximumf_eq_multiReduction x 0xFF800000#32 reducesTo_S8x8x4096x4352_S8x8x4096_d3 h_S_ reduces_scores hφ hacc]
  refine (Ideal.multiReduction_maximumf_single x 0xFF800000#32 reduces_scores hφ hacc j).trans ?_
  show Finset.univ.fold max (Ideal.ofBits .f32 0xFF800000#32) _ = _
  rw [negInfBits]

/-- The row maximum, at an index. -/
theorem max_apply (b h : Fin 8) (n : Fin 4096) :
    val_main_v14 (F := Ideal) q kv kr (ix3 b h n) = rowMax (refScore q kv kr b n h) := by
  refine (hostMax_apply (val_main_v13 (F := Ideal) q kv kr) (ix3 b h n)).trans ?_
  unfold rowMax
  refine congrArg (fun f : Fin 4352 → EReal => Finset.univ.fold max ⊥ f) (funext fun k => ?_)
  refine Eq.trans ?_ (score_apply q kv kr b h n k)
  refine congrArg (val_main_v13 (F := Ideal) q kv kr) (funext fun a => Fin.ext ?_)
  match a with
  | ⟨0, _⟩ => rfl
  | ⟨1, _⟩ => rfl
  | ⟨2, _⟩ => rfl
  | ⟨3, _⟩ => rfl

/-- The weights, at an index. -/
theorem weight_apply (b h : Fin 8) (n : Fin 4096) (k : Fin 4352) :
    val_main_v20 (F := Ideal) q kv kr (ix4 b h n k) = weight (refScore q kv kr b n h) k := by
  rw [val_main_v20_apply, val_main_v19_apply, val_main_v18_apply, val_main_v17_apply, val_main_v16_apply, val_main_v15_apply,
    score_apply]
  have e : idx_main_v17 (idx_main_v18 (ix4 b h n k)) = ix3 b h n := funext fun a => by
    match a with
    | ⟨0, _⟩ => rfl
    | ⟨1, _⟩ => rfl
    | ⟨2, _⟩ => rfl
  rw [e, max_apply]
  show Ideal.exp (refScore q kv kr b n h k - max (Ideal.ofBits .f32 0xFF800000#32) (rowMax (refScore q kv kr b n h))) = _
  rw [negInfBits, max_eq_right bot_le]
  rfl

/-- The sum of the weights, at an index. -/
theorem total_apply (b h : Fin 8) (n : Fin 4096) :
    val_main_v21 (F := Ideal) q kv kr (ix3 b h n) = ∑ k : Fin 4352, weight (refScore q kv kr b n h) k := by
  rw [val_main_v21_apply]
  have e : (val_main_cst_1 (F := Ideal) (Shape.Idx.first h_S_) : EReal) = 0 := zeroBits
  rw [e, zero_add]
  refine Finset.sum_congr rfl fun k _ => ?_
  rw [← weight_apply]
  refine congrArg _ (funext fun a => ?_)
  match a with
  | ⟨0, _⟩ => rfl
  | ⟨1, _⟩ => rfl
  | ⟨2, _⟩ => rfl
  | ⟨3, _⟩ => rfl

/-- The normalised weights, at an index. -/
theorem prob_apply (b h : Fin 8) (n : Fin 4096) (k : Fin 4352) :
    val_main_v24 (F := Ideal) q kv kr (ix4 b h n k)
      = Ideal.div (weight (refScore q kv kr b n h) k) (∑ k' : Fin 4352, weight (refScore q kv kr b n h) k') := by
  rw [val_main_v24_apply, val_main_v23_apply, val_main_v22_apply, weight_apply]
  have e : idx_main_v22 (idx_main_v23 (ix4 b h n k)) = ix3 b h n := funext fun a => by
    match a with
    | ⟨0, _⟩ => rfl
    | ⟨1, _⟩ => rfl
    | ⟨2, _⟩ => rfl
  rw [e, total_apply]
  rfl

/-- The weighted values, at an index. -/
theorem head_apply (b h : Fin 8) (d : Fin 64) (n : Fin 4096) :
    val_main_v25 (F := Ideal) q kv kr (ix4 b h d n) = refHead q kv kr b n h d := by
  rw [val_main_v25_apply]
  refine Finset.sum_congr rfl fun k _ => ?_
  rw [← value_apply kv, ← prob_apply]
  refine congrArg₂ (· * ·) (congrArg _ (funext fun a => ?_)) (congrArg _ (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
    | ⟨3, _⟩ => rfl

/-- **The reference's result, at an index.** -/
theorem result_apply (b : Fin 8) (n : Fin 4096) (j : Fin 512) :
    val_main_v27 (F := Ideal) q kv kr (ix3 b n j) = refHead q kv kr b n ⟨j.val / 64, by omega⟩ ⟨j.val % 64, by omega⟩ := by
  rw [val_main_v27_apply, val_main_v26_apply, ← head_apply]
  refine congrArg _ (funext fun a => Fin.ext ?_)
  match a with
  | ⟨0, _⟩ => show ((b.val * 4096 + n.val) * 512 + j.val) / 2097152 = b.val; omega
  | ⟨1, _⟩ => show ((b.val * 4096 + n.val) * 512 + j.val) / 64 % 8 = j.val / 64; omega
  | ⟨2, _⟩ => show ((b.val * 4096 + n.val) * 512 + j.val) % 64 = j.val % 64; omega
  | ⟨3, _⟩ => show ((b.val * 4096 + n.val) * 512 + j.val) / 512 % 4096 = n.val; omega

end Cert.ReferenceIdeal.Attn

end
-- ==== Proof.AttnSoftmax.lean ====
/-
  SOFTMAX OVER THE REALS. Where the scores and the values are real numbers, weighting by normalised weights is dividing
  the weighted sum by the sum of the weights.
-/
module

public import proofs.«01_k».proof.Proof.AttnHead

@[expose] public section

noncomputable section

namespace Cert.KernelIdeal.Attn

open Idealize.ShloMosaic hiding ix1 ix2 ix3 constant_apply
open scoped BigOperators

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A sum of real numbers, taken over the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem IsReal.sum {ι : Type} (t : Finset ι) {f : ι → EReal} (h : ∀ i, IsReal (f i)) : IsReal (∑ i ∈ t, f i) := by
  choose g hg using h
  exact ⟨∑ i ∈ t, g i, by rw [coe_sum]; exact Finset.sum_congr rfl fun i _ => hg i⟩

/-- Below `⊤` in absolute value is real. -/
theorem isReal_of_abs_lt {x : EReal} (h : max x (-x) < ⊤) : IsReal x := by
  induction x using EReal.rec with
  | bot => simp at h
  | coe r => exact ⟨r, rfl⟩
  | top => simp at h

/-- The greatest of finitely many real numbers, at least one, is real. -/
theorem rowMax_real {n : ℕ} (hn : 0 < n) (s : Fin n → EReal) (hs : ∀ k, IsReal (s k)) : IsReal (rowMax s) := by
  have hne : (Finset.univ : Finset (Fin n)).Nonempty := ⟨⟨0, hn⟩, Finset.mem_univ _⟩
  obtain ⟨k, -, hk⟩ := Finset.exists_mem_eq_sup Finset.univ hne s
  have e : rowMax s = Finset.univ.sup s := rfl
  rw [e, hk]
  exact hs k

/-- The values weighted by the normalised weights, and the weighted sum over the sum of the weights: equal where the
    scores and the values are real. -/
theorem softmax_mix {n : ℕ} (hn : 0 < n) (s v : Fin n → EReal) (hs : ∀ k, IsReal (s k)) (hv : ∀ k, IsReal (v k)) :
    ∑ k, v k * Ideal.div (weight s k) (∑ k', weight s k')
      = Ideal.div (∑ k, weight s k * v k) (∑ k, weight s k) := by
  obtain ⟨M, hM⟩ := rowMax_real hn s hs
  choose a ha using hs
  choose w hw using hv
  have hwt (k : Fin n) : weight s k = ((Real.exp (a k - M) : ℝ) : EReal) := by
    unfold weight
    rw [hM, ha k, ← EReal.coe_sub]
    rfl
  have htot : ∑ k, weight s k = ((∑ k, Real.exp (a k - M) : ℝ) : EReal) := by
    rw [coe_sum]
    exact Finset.sum_congr rfl fun k _ => hwt k
  have hpos : (∑ k, Real.exp (a k - M)) ≠ 0 :=
    (Finset.sum_pos (fun k _ => Real.exp_pos _) ⟨⟨0, hn⟩, Finset.mem_univ _⟩).ne'
  rw [htot, Ideal.div_coe hpos]
  have hl : ∑ k, v k * Ideal.div (weight s k) ((∑ k, Real.exp (a k - M) : ℝ) : EReal)
      = ((∑ k, w k * (Real.exp (a k - M) * (1 / ∑ k, Real.exp (a k - M))) : ℝ) : EReal) := by
    refine Eq.trans (Finset.sum_congr rfl fun k _ => ?_) (coe_sum _ _).symm
    rw [Ideal.div_coe hpos, hwt k, hw k, ← EReal.coe_mul, ← EReal.coe_mul]
  have hr : ∑ k, weight s k * v k = ((∑ k, Real.exp (a k - M) * w k : ℝ) : EReal) := by
    rw [coe_sum]
    exact Finset.sum_congr rfl fun k _ => by rw [hwt k, hw k, EReal.coe_mul]
  rw [hl, hr, ← EReal.coe_mul, Finset.sum_mul]
  exact congrArg (fun r : ℝ => (r : EReal)) (Finset.sum_congr rfl fun k _ => by ring)

end Cert.KernelIdeal.Attn

end
-- ==== Proof.AttnEq.lean ====
/-
  THE EQUATION. Where no query, key or value is an infinity, the reference's result is the kernel's array.
-/
module

public import proofs.«01_k».proof.Proof.AttnRef
public import proofs.«01_k».proof.Proof.AttnSoftmax
public import proofs.«01_k».proof.Pre_finite
public import Idealize.ShloMosaic.Lib.ReduceAll

@[expose] public section

set_option maxRecDepth 16384

noncomputable section

namespace Cert.ReferenceIdeal.Attn

open Idealize.ShloMosaic hiding ix1 ix2 ix3 ix4 eq_ix2 eq_ix3 constant_apply
open Idealize.ShloMosaic.ValueIdx
open Cert.ReferenceIdeal Cert.ReferenceIdeal.Gen Cert.ReferenceIdeal.Read
open Cert.KernelIdeal.Attn
open scoped BigOperators

variable (q : Vec Ideal S8x4096x1024 .bf16) (kv : Vec Ideal S8x4352x1024 .bf16) (kr : Vec Ideal S8x4352x128 .bf16)

/-- The two halves of a head's lanes, summed apart, are the sum over its 128 lanes. -/
theorem score_eq (b : Fin 8) (n : Fin 4096) (h : Fin 8) (k : Fin 4352) :
    refScore q kv kr b n h k = arrScore q kv kr b n h k := by
  have hs := Fin.sum_univ_add (a := 64) (b := 64) fun e : Fin (64 + 64) =>
    q (ix3 b n (lane8 h e)) * (if e.val < 64 then kv (ix3 b k (lane8 h e)) else kr (ix3 b k e))
  refine Eq.trans ?_ hs.symm
  refine congrArg₂ (· + ·) (Finset.sum_congr rfl fun e _ => ?_) (Finset.sum_congr rfl fun e _ => ?_)
  · have he : (Fin.castAdd 64 e).val < 64 := e.isLt
    rw [if_pos he]
    rfl
  · have he : ¬ (Fin.natAdd 64 e).val < 64 := by simp
    rw [if_neg he]
    exact mul_comm _ _

/-- A score of real queries and keys is real. -/
theorem score_real (hq : ∀ i, IsReal (q i)) (hkv : ∀ i, IsReal (kv i)) (hkr : ∀ i, IsReal (kr i))
    (b : Fin 8) (n : Fin 4096) (h : Fin 8) (k : Fin 4352) : IsReal (arrScore q kv kr b n h k) := by
  refine IsReal.sum _ fun e => (hq _).mul ?_
  split
  · exact hkv _
  · exact hkr _

/-- **The reference's result is the kernel's array**, where the arguments are real. -/
theorem result_eq (hq : ∀ i, IsReal (q i)) (hkv : ∀ i, IsReal (kv i)) (hkr : ∀ i, IsReal (kr i)) :
    val_main_v27 (F := Ideal) q kv kr = attnArr q kv kr := by
  funext i
  obtain ⟨b, n, j, rfl⟩ : ∃ (b : Fin 8) (n : Fin 4096) (j : Fin 512), i = ix3 b n j := ⟨i 0, i 1, i 2, eq_ix3 i⟩
  rw [result_apply]
  have hsc (h : Fin 8) : refScore q kv kr b n h = arrScore q kv kr b n h := funext fun k => score_eq q kv kr b n h k
  unfold refHead
  rw [hsc]
  exact softmax_mix (by norm_num) _ (fun k => kv (ix3 b k (lane8 _ (valueLane _))))
    (fun k => score_real q kv kr hq hkv hkr b n _ k) (fun k => hkv _)

/-! ### The precondition -/

theorem finiteFacts : Cert.Pre_finite.Facts where
  bitsLt_bf16_f32 := by decide
  bcast_S_S8x4096x1024 := by decide
  reducesTo_S8x4096x1024_S_d0_1_2 := by decide
  h_S_ := by decide
  bcast_S_S8x4352x1024 := by decide
  reducesTo_S8x4352x1024_S_d0_1_2 := by decide
  bcast_S_S8x4352x128 := by decide
  reducesTo_S8x4352x128_S_d0_1_2 := by decide

theorem infBits : Ideal.ofBits .f32 0x7F800000#32 = ⊤ := by simp [Ideal.ofBits, Ideal.ieee]

instance : Subsingleton Cert.Pre_finite.S_.Idx := ⟨fun a b => funext fun d => d.elim0⟩

/-- The comparison `|x| < ∞` answering 1 says `x` is real. -/
theorem isReal_of_cmp {x : EReal} (h : BitVec.ofBool (decide (max x (-x) < Ideal.ofBits .f32 0x7F800000#32)) = 1#1) :
    IsReal x := by
  rw [infBits] at h
  refine isReal_of_abs_lt ?_
  by_contra hn
  rw [decide_eq_false hn] at h
  exact absurd h (by decide)

/-- `finite` says every query, every key and value and every rotary key is real. -/
theorem real_of_finite [Cert.Pre_finite.Facts] (h : Cert.Pre_finite.fn (F := Ideal) q kv kr = fun _ => 1#1) :
    (∀ i, IsReal (q i)) ∧ (∀ i, IsReal (kv i)) ∧ (∀ i, IsReal (kr i)) := by
  have h0 := congrFun h (fun d : Fin 0 => d.elim0)
  obtain ⟨h12, h3⟩ := IntOp.andi_eq_one.mp h0
  obtain ⟨h1, h2⟩ := IntOp.andi_eq_one.mp h12
  exact ⟨fun i => isReal_of_cmp (Host.reduce_andi_all _ _ _ _ _ h1 i),
    fun i => isReal_of_cmp (Host.reduce_andi_all _ _ _ _ _ h2 i),
    fun i => isReal_of_cmp (Host.reduce_andi_all _ _ _ _ _ h3 i)⟩

end Cert.ReferenceIdeal.Attn

end
-- ==== Proof.Rms.lean ====
/-
  THE NORMALISATION OF A ROW, which every call but the attention applies: each entry over the root of the mean square.
  `rmsRow` is that row over the extended reals; `rms_apply` reads the kernels' normalisation of a block at an index, and
  `product_apply` a matrix product of theirs.
-/
module

public import Idealize.ShloMosaic.PureOps.Ideal.Laws
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pointwise
public import Idealize.ShloMosaic.Lib.Pipeline.Value

@[expose] public section

noncomputable section

namespace Cert.Rms

open Idealize.ShloMosaic hiding ix1 ix2 ix3 eq_ix2 eq_ix3 constant_apply
open Idealize.ShloMosaic.ValueIdx
open scoped BigOperators

/-- One over the root of the mean square of a row, `len` its length as a 32-bit float word, a millionth added. -/
def scale {N : ℕ} (len : BitVec 32) (v : Fin N → EReal) : EReal :=
  Ideal.rsqrt (Ideal.div (∑ k : Fin N, v k * v k) (Ideal.ofBits .f32 len) + Ideal.ofBits .f32 0x358637BD#32)

/-- A row normalised, at `k`. -/
def rmsRow {N : ℕ} (len : BitVec 32) (v : Fin N → EReal) (k : Fin N) : EReal := v k * scale len v

variable {R N : ℕ}

/-- A column repeated along the rows, at an index. -/
theorem column_apply (x : FVec Ideal ⟨2, ![R, 1]⟩ .f32) (hb : (⟨2, ![R, 1]⟩ : Shape).Broadcasts ⟨2, ![R, N]⟩) (r : Fin R)
    (k : Fin N) : broadcastTo ⟨2, ![R, N]⟩ x hb (ix2 r k) = x (ix2 r (0 : Fin 1)) :=
  Idealize.ShloMosaic.broadcastTo_apply x hb (ix2 r k) (ix2 r (0 : Fin 1)) fun a => by
    match a with
    | ⟨0, _⟩ =>
      show r.val = if R = 1 then 0 else r.val
      have := r.isLt
      split <;> omega
    | ⟨1, _⟩ => show 0 = if (1 : ℕ) = 1 then 0 else k.val; rw [if_pos rfl]

/-- The sum along a row, as a column. -/
theorem sum_apply (x : FVec Ideal ⟨2, ![R, N]⟩ .f32) (hr : (⟨2, ![R, N]⟩ : Shape).Reduces [1] ⟨1, ![R]⟩) (hφ : FKind.Formats .f32) (hacc)
    (hs : (⟨1, ![R]⟩ : Shape).ShapeCasts ⟨2, ![R, 1]⟩) (r : Fin R) :
    shapeCast ⟨2, ![R, 1]⟩ (multiReduction .add [1] ⟨1, ![R]⟩ x 0x00000000#32 hr hφ hacc) hs (ix2 r (0 : Fin 1))
      = ∑ k : Fin N, x (ix2 r k) := by
  rw [shapeCast_a_a1_apply]
  refine (Ideal.multiReduction_add_single x 0x00000000#32 hr hφ hacc (ix1 r)).trans ?_
  refine Finset.sum_congr rfl fun k _ => congrArg x (funext fun a => Fin.ext ?_)
  match a with
  | ⟨0, _⟩ => rfl
  | ⟨1, _⟩ => rfl

/-- **The kernels' normalisation of a block, at an index.** -/
theorem rms_apply (len : BitVec 32) (x : FVec Ideal ⟨2, ![R, N]⟩ .f32) (hr : (⟨2, ![R, N]⟩ : Shape).Reduces [1] ⟨1, ![R]⟩)
    (hφ : FKind.Formats .f32) (hacc) (hs : (⟨1, ![R]⟩ : Shape).ShapeCasts ⟨2, ![R, 1]⟩)
    (hb : (⟨2, ![R, 1]⟩ : Shape).Broadcasts ⟨2, ![R, N]⟩) (r : Fin R) (k : Fin N) :
    mulf x (broadcastTo ⟨2, ![R, N]⟩ (rsqrt (addf (divf
        (shapeCast ⟨2, ![R, 1]⟩ (multiReduction .add [1] ⟨1, ![R]⟩ (mulf x x) 0x00000000#32 hr hφ hacc) hs)
        (broadcast ⟨2, ![R, 1]⟩ (Scalar.ofBits .f32 len))) (broadcast ⟨2, ![R, 1]⟩ (Scalar.ofBits .f32 0x358637BD#32)))) hb) (ix2 r k)
      = rmsRow len (fun k' => x (ix2 r k')) k := by
  show x (ix2 r k) * _ = _
  refine congrArg (x (ix2 r k) * ·) ((column_apply _ hb r k).trans ?_)
  exact congrArg (fun s => Ideal.rsqrt (Ideal.div s (Ideal.ofBits .f32 len) + Ideal.ofBits .f32 0x358637BD#32))
    (sum_apply (mulf x x) hr hφ hacc hs r)

theorem zeroBits : Ideal.ofBits .f32 0x00000000#32 = 0 := by simp [Ideal.ofBits, Ideal.ieee]

/-- A matrix product added to zeros, at an index. -/
theorem product_apply {a b c : ℕ} (d : DotDims ⟨2, ![a, b]⟩ ⟨2, ![b, c]⟩ ⟨2, ![a, c]⟩) (hd : d = DotDims.plain a b c)
    (x : FVec Ideal ⟨2, ![a, b]⟩ .bf16) (y : FVec Ideal ⟨2, ![b, c]⟩ .bf16) (r : Fin a) (k : Fin c) :
    matmul (φ₁ := .bf16) (φ₂ := .bf16) d none x y (constant ⟨2, ![a, c]⟩ .f32 0x00000000#32) (ix2 r k)
      = ∑ j : Fin b, x (ix2 r j) * y (ix2 j k) := by
  subst hd
  unfold matmul
  rw [Ideal.matmul_plain_apply, constant_apply, zeroBits, zero_add]

end Cert.Rms

end
-- ==== Proof.NormArray.lean ====
/-
  THE FINAL NORMALISATION: the kernel. What a grid point stores (`block_apply`), what the result array ends holding
  (`normArr`), and the run that leaves it (`run`).
-/
module

public import proofs.«01_k».proof.Proof.Rms
public import proofs.«01_k».proof.Proof.Gen.FinalNormIdeal.Value
public import Idealize.ShloMosaic.Lib.Pipeline.ReadBack
public import Idealize.ShloMosaic.Lib.Pipeline.ValueKit.Tiles

@[expose] public section

set_option maxRecDepth 16384

noncomputable section

namespace Cert.FinalNormIdeal.Norm

open Idealize.ShloMosaic hiding ix1 ix2 ix3 eq_ix1 eq_ix2 eq_ix3 constant_apply
open Idealize.ShloMosaic.ValueIdx Idealize.ShloMosaic.TcCoe Idealize.SL.Sem
open Cert.FinalNormIdeal Cert.FinalNormIdeal.Gen
open Cert.Rms
open scoped BigOperators

/-! ### One block -/

/-- What a point stores, at a row and a lane, from its blocks of the tokens, the gate, the two expert rows and the gains. -/
theorem block_apply (x : Vec Ideal S1x512x1024 .f32) (gate : Vec Ideal S1x1x1024 .f32) (y0 y1 : Vec Ideal S512x1024 .f32)
    (g : Vec Ideal S1x1024 .f32) (r : Fin 512) (k : Fin 1024) :
    k0_pay1 (F := Ideal) x gate y0 y1 g (ix3 (0 : Fin 1) r k)
      = rmsRow 0x44800000#32 (fun k' : Fin 1024 => x (ix3 (0 : Fin 1) r k') + gate (ix3 (0 : Fin 1) (0 : Fin 1) k')
          * (y0 (ix2 r k') + y1 (ix2 r k'))) k * g (ix2 (0 : Fin 1) k) := by
  unfold k0_pay1
  dsimp only
  rw [shapeCast_ab_1ab_apply]
  show _ * _ = _ * _
  refine congrArg₂ (· * ·) ((rms_apply 0x44800000#32 _ reduces_S512x1024_S512 (.inl rfl) rfl shapeCasts_S512_S512x1
    broadcasts_S512x1_S512x1024 r k).trans ?_) ((broadcastTo_1b_ab_apply _ _ r k).trans ?_)
  · refine congrArg (fun v => rmsRow 0x44800000#32 v k) (funext fun k' => ?_)
    show shapeCast _ x _ (ix2 r k') + broadcastTo _ _ _ (ix2 r k') * (y0 (ix2 r k') + y1 (ix2 r k')) = _
    rw [shapeCast_1ab_ab_apply, broadcastTo_1b_ab_apply, shapeCast_1ab_ab_apply]
  · rw [shapeCast_self]

/-! ### The array -/

/-- Row `n` of batch `b` among the rows of all batches. -/
def tokenRow (b : Fin 8) (n : Fin 4096) : Fin 32768 := ⟨b.val * 4096 + n.val, by omega⟩

/-- A token after the experts: the token, and the gate times the sum of its two expert rows. -/
def token (x : Vec Ideal S8x4096x1024 .f32) (y0 y1 : Vec Ideal S32768x1024 .f32) (gate : Vec Ideal S8x1x1024 .f32)
    (b : Fin 8) (n : Fin 4096) (k : Fin 1024) : EReal :=
  x (ix3 b n k) + gate (ix3 b (0 : Fin 1) k) * (y0 (ix2 (tokenRow b n) k) + y1 (ix2 (tokenRow b n) k))

/-- The whole result: every token normalised, times the gains. -/
def normArr (x : Vec Ideal S8x4096x1024 .f32) (y0 y1 : Vec Ideal S32768x1024 .f32) (gate : Vec Ideal S8x1x1024 .f32)
    (g : Vec Ideal S1024 .f32) : Vec Ideal S8x4096x1024 .f32 :=
  fun i => rmsRow 0x44800000#32 (token x y0 y1 gate (i 0 : Fin 8) (i 1 : Fin 4096)) (i 2 : Fin 1024) * g (ix1 (i 2 : Fin 1024))

variable (m : (ℓ : Loc nD τ sig) → Buf (Elt Ideal) ℓ) (ρ : Dev nD → PrngReg)

/-! ### Where a point's blocks lie -/

theorem index0 : ∀ t : Fin grid0.N, win0_0.index t 0 = t.val / 8 ∧ win0_0.index t 1 = t.val % 8 ∧ win0_0.index t 2 = 0 := by
  decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val / 8 ∧ win0_3.index t 1 = 0 ∧ win0_3.index t 2 = 0 := by
  decide +kernel
theorem index4 : ∀ t : Fin grid0.N, win0_4.index t 0 = 0 ∧ win0_4.index t 1 = 0 := by decide +kernel
theorem index5 : ∀ t : Fin grid0.N, win0_5.index t 0 = t.val / 8 ∧ win0_5.index t 1 = t.val % 8 ∧ win0_5.index t 2 = 0 := by
  decide +kernel

theorem point_lt (t : Fin cfg0.N) : t.val < 64 := lt_of_lt_of_eq t.isLt N_0

/-- A point's batch, -/
def batchOf (t : Fin cfg0.N) : Fin 8 := ⟨t.val / 8, by have := point_lt t; omega⟩
/-- and its row of the batch. -/
def rowAt (t : Fin cfg0.N) (r : Fin 512) : Fin 4096 := ⟨t.val % 8 * 512 + r.val, by omega⟩

theorem tokens_apply (c : Dev nD) (t : Fin cfg0.N) (r : Fin 512) (k : Fin 1024) :
    (iblk m c 0 t : Vec Ideal S1x512x1024 .f32) (ix3 (0 : Fin 1) r k)
      = m ((c : Thread nD τ).loc main_arg0) (ix3 (batchOf t) (rowAt t r) k) := by
  obtain ⟨h0, h1, h2⟩ := index0 t
  unfold iblk
  rw [View.read_apply]
  refine (congrFun (V_main_arg0 m c) _).trans (congrArg _ (funext fun a => Fin.ext ?_))
  match a with
  | ⟨0, _⟩ => show win0_0.index t 0 * 1 + 1 * 0 = t.val / 8; rw [h0]; omega
  | ⟨1, _⟩ => show win0_0.index t 1 * 512 + 1 * r.val = t.val % 8 * 512 + r.val; rw [h1]; omega
  | ⟨2, _⟩ => show win0_0.index t 2 * 1024 + 1 * k.val = k.val; rw [h2]; omega

theorem first_apply (c : Dev nD) (t : Fin cfg0.N) (r : Fin 512) (k : Fin 1024) :
    (iblk m c 1 t : Vec Ideal S512x1024 .f32) (ix2 r k)
      = m ((c : Thread nD τ).loc main_arg1) (ix2 (tokenRow (batchOf t) (rowAt t r)) k) := by
  obtain ⟨h0, h1⟩ := index1 t
  unfold iblk
  rw [View.read_apply]
  refine (congrFun (V_main_arg1 m c) _).trans (congrArg _ (funext fun a => Fin.ext ?_))
  match a with
  | ⟨0, _⟩ => show win0_1.index t 0 * 512 + 1 * r.val = t.val / 8 * 4096 + (t.val % 8 * 512 + r.val); rw [h0]; omega
  | ⟨1, _⟩ => show win0_1.index t 1 * 1024 + 1 * k.val = k.val; rw [h1]; omega

theorem second_apply (c : Dev nD) (t : Fin cfg0.N) (r : Fin 512) (k : Fin 1024) :
    (iblk m c 2 t : Vec Ideal S512x1024 .f32) (ix2 r k)
      = m ((c : Thread nD τ).loc main_arg2) (ix2 (tokenRow (batchOf t) (rowAt t r)) k) := by
  obtain ⟨h0, h1⟩ := index2 t
  unfold iblk
  rw [View.read_apply]
  refine (congrFun (V_main_arg2 m c) _).trans (congrArg _ (funext fun a => Fin.ext ?_))
  match a with
  | ⟨0, _⟩ => show win0_2.index t 0 * 512 + 1 * r.val = t.val / 8 * 4096 + (t.val % 8 * 512 + r.val); rw [h0]; omega
  | ⟨1, _⟩ => show win0_2.index t 1 * 1024 + 1 * k.val = k.val; rw [h1]; omega

theorem gate_apply (c : Dev nD) (t : Fin cfg0.N) (k : Fin 1024) :
    (iblk m c 3 t : Vec Ideal S1x1x1024 .f32) (ix3 (0 : Fin 1) (0 : Fin 1) k)
      = m ((c : Thread nD τ).loc main_arg3) (ix3 (batchOf t) (0 : Fin 1) k) := by
  obtain ⟨h0, h1, h2⟩ := index3 t
  unfold iblk
  rw [View.read_apply]
  refine (congrFun (V_main_arg3 m c) _).trans (congrArg _ (funext fun a => Fin.ext ?_))
  match a with
  | ⟨0, _⟩ => show win0_3.index t 0 * 1 + 1 * 0 = t.val / 8; rw [h0]; omega
  | ⟨1, _⟩ => show win0_3.index t 1 * 1 + 1 * 0 = 0; rw [h1]
  | ⟨2, _⟩ => show win0_3.index t 2 * 1024 + 1 * k.val = k.val; rw [h2]; omega

/-- The gains the region finds: the last argument, as one row. -/
theorem gains_eq (c : Dev nD) : (V m c main_v0 : Vec Ideal S1x1024 .f32)
    = shapeCast S1x1024 (m ((c : Thread nD τ).loc main_arg4)) shapeCasts_S1024_S1x1024 := by
  unfold_abbrev_sides
  after_results
  rfl

theorem gains_apply (c : Dev nD) (t : Fin cfg0.N) (k : Fin 1024) :
    (iblk m c 4 t : Vec Ideal S1x1024 .f32) (ix2 (0 : Fin 1) k) = m ((c : Thread nD τ).loc main_arg4) (ix1 k) := by
  obtain ⟨h0, h1⟩ := index4 t
  unfold iblk
  rw [View.read_apply]
  refine (congrFun (gains_eq m c) _).trans ?_
  refine (congrArg _ (funext fun a => Fin.ext ?_)).trans (shapeCast_a_1a_apply _ _ (0 : Fin 1) k)
  match a with
  | ⟨0, _⟩ => show win0_4.index t 0 * 1 + 1 * 0 = 0; rw [h0]
  | ⟨1, _⟩ => show win0_4.index t 1 * 1024 + 1 * k.val = k.val; rw [h1]; omega

/-! ### The result array -/

/-- The result the kernel leaves. -/
abbrev result (c : Dev nD) : Buf (Elt Ideal) ((c : Thread nD τ).loc main_v1) :=
  normArr (m ((c : Thread nD τ).loc main_arg0)) (m ((c : Thread nD τ).loc main_arg1)) (m ((c : Thread nD τ).loc main_arg2))
    (m ((c : Thread nD τ).loc main_arg3)) (m ((c : Thread nD τ).loc main_arg4))

/-- The store of a whole block leaves what is stored. -/
theorem stored_eq (x0 : Vec Ideal S1x512x1024 .f32) (x1 x2 : Vec Ideal S512x1024 .f32) (x3 : Vec Ideal S1x1x1024 .f32)
    (x4 : Vec Ideal S1x1024 .f32) : out0_5 x0 x1 x2 x3 x4 = k0_pay1 x0 x3 x1 x2 x4 := by
  unfold out0_5
  have e3 : (![0, 0, 0] : Fin 3 → ℕ) = fun _ => 0 := by decide
  have e2 : (![0, 0] : Fin 2 → ℕ) = fun _ => 0 := by decide
  refine (View.canon_cons_unit_zero e3 _ _ []).trans ?_
  refine (congr (congr (congr (congrArg₂ k0_pay1 ?_ ?_) ?_) ?_) ?_)
  · exact View.ld_unit_zero e3 _ x0
  · exact View.ld_unit_zero e3 _ x3
  · exact View.ld_unit_zero e2 _ x1
  · exact View.ld_unit_zero e2 _ x2
  · exact View.ld_unit_zero e2 _ x4

/-- What a point writes back is the result's block there. -/
theorem flushed_eq (c : Dev nD) (t : Fin cfg0.N) :
    (dats m 0 c).flushed 5 t = ((cfg0.win 5).blk t).view.read (Elt Ideal) (result m c) := by
  obtain ⟨h0, h1, h2⟩ := index5 t
  rw [Value.flushed5, stored_eq]
  funext i
  rw [View.read_apply]
  obtain ⟨z, r, k, hi⟩ : ∃ (z : Fin 1) (r : Fin 512) (k : Fin 1024), i = ix3 z r k := ⟨_, _, _, eq_ix3 i⟩
  obtain rfl : z = 0 := Subsingleton.elim _ _
  subst hi
  refine (block_apply _ _ _ _ _ r k).trans ?_
  simp only [tokens_apply, first_apply, second_apply, gate_apply, gains_apply]
  refine Eq.trans ?_ (congrArg (result m c) (?_ : ix3 (batchOf t) (rowAt t r) k = _))
  · rfl
  refine funext fun a => Fin.ext ?_
  match a with
  | ⟨0, _⟩ => show t.val / 8 = win0_5.index t 0 * 1 + 1 * 0; rw [h0]; omega
  | ⟨1, _⟩ => show t.val % 8 * 512 + r.val = win0_5.index t 1 * 512 + 1 * r.val; rw [h1]; omega
  | ⟨2, _⟩ => show k.val = win0_5.index t 2 * 1024 + 1 * k.val; rw [h2]; omega

/-- Every index is written. -/
theorem covered (i : S8x4096x1024.Idx) : ∃ t : Fin cfg0.N, (cfg0.win 5).flush t = true ∧ i ∈ ((cfg0.win 5).blk t).view.set := by
  have b0 : (i 0 : Nat) < 8 := (i 0).isLt
  have b1 : (i 1 : Nat) < 4096 := (i 1).isLt
  have b2 : (i 2 : Nat) < 1024 := (i 2).isLt
  obtain ⟨t, ht⟩ : ∃ t : Fin grid0.N, t.val = (i 0 : Nat) * 8 + (i 1 : Nat) / 512 :=
    ⟨⟨(i 0 : Nat) * 8 + (i 1 : Nat) / 512, by rw [N_0]; omega⟩, rfl⟩
  refine ⟨t, flush0_5 t, ?_⟩
  obtain ⟨h0, h1, h2⟩ := index5 t
  show i ∈ ((View.whole main_v1).slice (win0_5.rect t)).set
  rw [View.set_slice_whole, Rect.mem_set_unit]
  intro a
  match a with
  | ⟨0, _⟩ => show win0_5.index t 0 * 1 ≤ (i 0 : Nat) ∧ (i 0 : Nat) < win0_5.index t 0 * 1 + 1; rw [h0]; omega
  | ⟨1, _⟩ => show win0_5.index t 1 * 512 ≤ (i 1 : Nat) ∧ (i 1 : Nat) < win0_5.index t 1 * 512 + 512; rw [h1]; omega
  | ⟨2, _⟩ => show win0_5.index t 2 * 1024 ≤ (i 2 : Nat) ∧ (i 2 : Nat) < win0_5.index t 2 * 1024 + 1024; rw [h2]; omega

/-- The result array after the run. -/
theorem final_eq (c : Dev nD) : (dats m 0 c).arrAt 5 cfg0.N = result m c :=
  (dats m 0 c).arrAt_eq_of_cover 5 (result m c) (fun t _ => flushed_eq m c t) covered

/-- The run: the result array at `result`, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_eq m c), (h c).2⟩) (Value.run_blocks m ρ)

end Cert.FinalNormIdeal.Norm

end
-- ==== Proof.NormEq.lean ====
/-
  THE FINAL NORMALISATION: the reference, and its equation with the kernel. The reference's mean starts its sum from a
  zero; otherwise the two results are one term.
-/
module

public import proofs.«01_k».proof.Proof.NormArray
public import proofs.«01_k».proof.Proof.Gen.FinalNormReferenceIdeal.Read
public import Idealize.ShloMosaic.Lib.KernelVsHost

@[expose] public section

set_option maxRecDepth 16384

noncomputable section

namespace Cert.FinalNormReferenceIdeal.Norm

open Idealize.ShloMosaic hiding ix1 ix2 ix3 eq_ix1 eq_ix2 eq_ix3 constant_apply
open Idealize.ShloMosaic.ValueIdx Idealize.ShloMosaic.TcCoe Idealize.SL.Sem
open Cert.FinalNormReferenceIdeal Cert.FinalNormReferenceIdeal.Gen Cert.FinalNormReferenceIdeal.Read
open Cert.FinalNormIdeal.Norm (tokenRow token normArr)
open Cert.Rms
open scoped BigOperators

variable (x : Vec Ideal S8x4096x1024 .f32) (y0 y1 : Vec Ideal S32768x1024 .f32) (gate : Vec Ideal S8x1x1024 .f32) (g : Vec Ideal S1024 .f32)

/-- The reference's tokens after the experts. -/
theorem token_apply (b : Fin 8) (n : Fin 4096) (k : Fin 1024) :
    val_main_v4 (F := Ideal) x y0 y1 gate (ix3 b n k) = token x y0 y1 gate b n k := by
  rw [val_main_v4_apply, val_main_v3_apply, val_main_v2_apply, val_main_v1_apply, val_main_v0_apply]
  show x _ + gate _ * (y0 _ + y1 _) = x _ + gate _ * (y0 _ + y1 _)
  have e : idx_main_v1 (ix3 b n k) = ix2 (tokenRow b n) k := funext fun a => Fin.ext (by
    match a with
    | ⟨0, _⟩ => show ((b.val * 4096 + n.val) * 1024 + k.val) / 1024 = b.val * 4096 + n.val; omega
    | ⟨1, _⟩ => show ((b.val * 4096 + n.val) * 1024 + k.val) % 1024 = k.val; omega)
  have e' : idx_main_v2 (ix3 b n k) = ix3 b (0 : Fin 1) k := funext fun a => Fin.ext (by
    match a with
    | ⟨0, _⟩ => rfl
    | ⟨1, _⟩ => rfl
    | ⟨2, _⟩ => rfl)
  rw [e, e']

/-- The reference's factor of a token's row. -/
theorem scale_apply (b : Fin 8) (n : Fin 4096) :
    val_main_v12 (F := Ideal) x y0 y1 gate (ix3 b n (0 : Fin 1)) = scale 0x44800000#32 (token x y0 y1 gate b n) := by
  rw [val_main_v12_apply, val_main_v11_apply, val_main_v9_apply, val_main_v7_apply, val_main_v6_apply, val_main_v8_apply,
    val_main_v10_apply, val_main_cst_apply, val_main_cst_0_apply, val_main_cst_1_apply]
  show Ideal.rsqrt (Ideal.div (Ideal.ofBits .f32 0x00000000#32 + _) (Ideal.ofBits .f32 0x44800000#32) + Ideal.ofBits .f32 0x358637BD#32) = _
  rw [zeroBits, zero_add]
  refine congrArg (fun s => Ideal.rsqrt (Ideal.div s (Ideal.ofBits .f32 0x44800000#32) + Ideal.ofBits .f32 0x358637BD#32)) ?_
  refine Finset.sum_congr rfl fun k _ => ?_
  rw [val_main_v5_apply, ← token_apply]
  have e : idx_main_v6 (idx_main_v7 (ix3 b n (0 : Fin 1))) k = ix3 b n k := funext fun a => Fin.ext (by
    match a with
    | ⟨0, _⟩ => rfl
    | ⟨1, _⟩ => rfl
    | ⟨2, _⟩ => rfl)
  rw [e]
  rfl

/-- **The reference's result is the kernel's array.** -/
theorem result_eq : val_main_v17 (F := Ideal) x y0 y1 gate g = normArr x y0 y1 gate g := by
  funext i
  obtain ⟨b, n, k, rfl⟩ : ∃ (b : Fin 8) (n : Fin 4096) (k : Fin 1024), i = ix3 b n k := ⟨_, _, _, eq_ix3 i⟩
  rw [val_main_v17_apply, val_main_v14_apply, val_main_v13_apply, val_main_v16_apply, val_main_v15_apply, token_apply]
  have e : idx_main_v13 (ix3 b n k) = ix3 b n (0 : Fin 1) := funext fun a => Fin.ext (by
    match a with
    | ⟨0, _⟩ => rfl
    | ⟨1, _⟩ => rfl
    | ⟨2, _⟩ => rfl)
  have e' : idx_main_v15 (idx_main_v16 (ix3 b n k)) = ix1 k := funext fun a => Fin.ext (by
    match a with
    | ⟨0, _⟩ => rfl)
  rw [e, e', scale_apply]
  rfl

end Cert.FinalNormReferenceIdeal.Norm

end
-- ==== Proof.MixBlock.lean ====
/-
  THE OUTPUT MIXING: one block. `mixed`, `newRow` and `routedRow` are the mathematics of one token's row; the theorems
  `new_apply`, `routed_apply` and `logits_apply` read the kernel's three stored values at an index.
-/
module

public import proofs.«01_k».proof.Proof.Rms
public import proofs.«01_k».proof.Proof.Gen.MixOutIdeal.Value
public import Idealize.ShloMosaic.PureOps.Ideal.Laws
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.MixOutIdeal.Mix

open Idealize.ShloMosaic hiding ix1 ix2 ix3 eq_ix1 eq_ix2 eq_ix3 constant_apply
open Idealize.ShloMosaic.ValueIdx Idealize.ShloMosaic.TcCoe Idealize.SL.Sem
open Cert.MixOutIdeal Cert.MixOutIdeal.Gen
open Cert.Rms
open scoped BigOperators

/-! ### One token's row -/

/-- Lane `j` of the first group of mixers, -/
def laneS (j : Fin 256) : Fin 1024 := ⟨j.val, by omega⟩
/-- of the second, -/
def laneA (j : Fin 512) : Fin 1024 := ⟨256 + j.val, by omega⟩
/-- and of the third, among the 1024 lanes. -/
def laneH (j : Fin 256) : Fin 1024 := ⟨768 + j.val, by omega⟩

/-- The mixers' rows, each normalised by itself, under the gains and through the output projection. -/
def mixed (s : Fin 256 → EReal) (a : Fin 512 → EReal) (h : Fin 256 → EReal) (g : Fin 1024 → EReal)
    (w : Fin 1024 → Fin 1024 → EReal) (k : Fin 1024) : EReal :=
  (∑ j : Fin 256, rmsRow 0x43800000#32 s j * g (laneS j) * w (laneS j) k)
    + (∑ j : Fin 512, rmsRow 0x44000000#32 a j * g (laneA j) * w (laneA j) k)
    + ∑ j : Fin 256, rmsRow 0x43800000#32 h j * g (laneH j) * w (laneH j) k

/-- The token with the gated mixers added. -/
def newRow (s : Fin 256 → EReal) (a : Fin 512 → EReal) (h : Fin 256 → EReal) (g : Fin 1024 → EReal)
    (w : Fin 1024 → Fin 1024 → EReal) (x gate : Fin 1024 → EReal) (k : Fin 1024) : EReal :=
  x k + gate k * mixed s a h g w k

/-- A row normalised and modulated. -/
def routedRow (v g shift sc : Fin 1024 → EReal) (k : Fin 1024) : EReal :=
  rmsRow 0x44800000#32 v k * g k * (Ideal.ofBits .f32 0x3F800000#32 + sc k) + shift k

/-! ### The matrix products -/

theorem dotS_apply (x : FVec Ideal S512x256 .bf16) (y : FVec Ideal S256x1024 .bf16) (r : Fin 512) (k : Fin 1024) :
    matmul (φ₁ := .bf16) (φ₂ := .bf16) dot_S512x256_S256x1024_S512x1024_1_0_0_1_n_n none x y (constant S512x1024 .f32 0x00000000#32) (ix2 r k)
      = ∑ j : Fin 256, x (ix2 r j) * y (ix2 j k) :=
  product_apply _ rfl x y r k

theorem dotA_apply (x : FVec Ideal S512x512 .bf16) (y : FVec Ideal S512x1024 .bf16) (r : Fin 512) (k : Fin 1024) :
    matmul (φ₁ := .bf16) (φ₂ := .bf16) dot_S512x512_S512x1024_S512x1024_1_0_0_1_n_n none x y (constant S512x1024 .f32 0x00000000#32) (ix2 r k)
      = ∑ j : Fin 512, x (ix2 r j) * y (ix2 j k) :=
  product_apply _ rfl x y r k

theorem dotR_apply (x : FVec Ideal S512x1024 .bf16) (y : FVec Ideal S1024x128 .bf16) (r : Fin 512) (k : Fin 128) :
    matmul (φ₁ := .bf16) (φ₂ := .bf16) dot_S512x1024_S1024x128_S512x128_1_0_0_1_n_n none x y (constant S512x128 .f32 0x00000000#32) (ix2 r k)
      = ∑ j : Fin 1024, x (ix2 r j) * y (ix2 j k) :=
  product_apply _ rfl x y r k

/-! ### The stored values -/

/-- The first group's product. -/
theorem firstProduct_apply (v0 : Vec Ideal S512x256 .f32) (v11 : Vec Ideal S1x256 .f32) (v16 : Vec Ideal S256x1024 .bf16)
    (r : Fin 512) (k : Fin 1024) : k0_pay3 (F := Ideal) v0 v11 v16 (ix2 r k)
      = ∑ j : Fin 256, rmsRow 0x43800000#32 (fun j' => v0 (ix2 r j')) j * v11 (ix2 (0 : Fin 1) j) * v16 (ix2 j k) := by
  unfold k0_pay3
  dsimp only
  refine (dotS_apply _ _ r k).trans (Finset.sum_congr rfl fun j _ => ?_)
  show (_ : EReal) * _ = _ * _
  refine congrArg₂ (· * ·) ?_ (by rw [shapeCast_self])
  show (_ : EReal) * _ = _ * _
  refine congrArg₂ (· * ·) (rms_apply 0x43800000#32 _ reduces_S512x256_S512 (.inl rfl) rfl shapeCasts_S512_S512x1
    broadcasts_S512x1_S512x256 r j) ((broadcastTo_1b_ab_apply _ _ r j).trans ?_)
  rw [shapeCast_self]

/-- The second group's normalised rows. -/
theorem second_apply (v19 : Vec Ideal S1x512x512 .f32) (v31 : Vec Ideal S1x512 .f32) (r j : Fin 512) :
    k0_pay4 (F := Ideal) v19 v31 (ix2 r j)
      = rmsRow 0x44000000#32 (fun j' => v19 (ix3 (0 : Fin 1) r j')) j * v31 (ix2 (0 : Fin 1) j) := by
  unfold k0_pay4
  dsimp only
  show (_ : EReal) * _ = _ * _
  refine congrArg₂ (· * ·) ((rms_apply 0x44000000#32 _ reduces_S512x512_S512 (.inl rfl) rfl shapeCasts_S512_S512x1
    broadcasts_S512x1_S512x512 r j).trans ?_) ((broadcastTo_1b_ab_apply _ _ r j).trans ?_)
  · exact congrArg (fun v => rmsRow 0x44000000#32 v j) (funext fun j' => shapeCast_1ab_ab_apply _ _ r j')
  · rw [shapeCast_self]

/-- The new token. -/
theorem new_apply (v0 : Vec Ideal S512x256 .f32) (v11 : Vec Ideal S1x256 .f32) (v16 : Vec Ideal S256x1024 .bf16)
    (v19 : Vec Ideal S1x512x512 .f32) (v31 : Vec Ideal S1x512 .f32) (v36 : Vec Ideal S512x1024 .bf16)
    (v40 : Vec Ideal S1x512x256 .f32) (v52 : Vec Ideal S1x256 .f32) (v57 : Vec Ideal S256x1024 .bf16)
    (v61 : Vec Ideal S1x512x1024 .f32) (v63 : Vec Ideal S1x1x1024 .f32) (g : Fin 1024 → EReal) (w : Fin 1024 → Fin 1024 → EReal)
    (hg0 : ∀ j, v11 (ix2 (0 : Fin 1) j) = g (laneS j)) (hg1 : ∀ j, v31 (ix2 (0 : Fin 1) j) = g (laneA j))
    (hg2 : ∀ j, v52 (ix2 (0 : Fin 1) j) = g (laneH j)) (hw0 : ∀ j k, v16 (ix2 j k) = w (laneS j) k)
    (hw1 : ∀ j k, v36 (ix2 j k) = w (laneA j) k) (hw2 : ∀ j k, v57 (ix2 j k) = w (laneH j) k)
    (r : Fin 512) (k : Fin 1024) :
    k0_pay6 (F := Ideal) (k0_pay3 v0 v11 v16) (k0_pay4 v19 v31) (k0_pay5 v36) v40 v52 v57 v61 v63 (ix2 r k)
      = newRow (fun j => v0 (ix2 r j)) (fun j => v19 (ix3 (0 : Fin 1) r j)) (fun j => v40 (ix3 (0 : Fin 1) r j)) g w
          (fun k' => v61 (ix3 (0 : Fin 1) r k')) (fun k' => v63 (ix3 (0 : Fin 1) (0 : Fin 1) k')) k := by
  unfold k0_pay6
  dsimp only
  show (_ : EReal) + _ * ((_ + _) + _) = _ + _ * ((_ + _) + _)
  refine congrArg₂ (· + ·) (shapeCast_1ab_ab_apply _ _ r k) (congrArg₂ (· * ·) ?_ (congrArg₂ (· + ·) (congrArg₂ (· + ·) ?_ ?_) ?_))
  · exact (broadcastTo_1b_ab_apply _ _ r k).trans (shapeCast_1ab_ab_apply _ _ (0 : Fin 1) k)
  · refine (firstProduct_apply v0 v11 v16 r k).trans (Finset.sum_congr rfl fun j _ => ?_)
    rw [hg0, hw0]
  · refine (dotA_apply _ _ r k).trans (Finset.sum_congr rfl fun j _ => ?_)
    unfold k0_pay5
    rw [second_apply, shapeCast_self, hg1, hw1]
  · refine (dotS_apply _ _ r k).trans (Finset.sum_congr rfl fun j _ => ?_)
    refine congrArg₂ (· * ·) ?_ ((congrFun (shapeCast_self _ _) _).trans (hw2 j k))
    show (_ : EReal) * _ = _ * _
    refine congrArg₂ (· * ·) ((rms_apply 0x43800000#32 _ reduces_S512x256_S512 (.inl rfl) rfl shapeCasts_S512_S512x1
      broadcasts_S512x1_S512x256 r j).trans ?_) ((broadcastTo_1b_ab_apply _ _ r j).trans ?_)
    · exact congrArg (fun v => rmsRow 0x43800000#32 v j) (funext fun j' => shapeCast_1ab_ab_apply _ _ r j')
    · rw [shapeCast_self, hg2]

/-- The row the experts receive, from the new tokens. -/
theorem routed_apply (v67 : FVec Ideal S512x1024 .f32) (v81 : Vec Ideal S1x1024 .f32) (v85 v91 : Vec Ideal S1x1x1024 .f32)
    (r : Fin 512) (k : Fin 1024) :
    k0_pay1 (F := Ideal) v67 (shapeCast S512x1 (multiReduction .add [1] S512 (mulf v67 v67) 0x00000000#32 reduces_S512x1024_S512 (.inl rfl) rfl)
        shapeCasts_S512_S512x1) (Scalar.ofBits .f32 0x44800000#32) v81 v85 v91 (ix2 r k)
      = routedRow (fun k' => v67 (ix2 r k')) (fun k' => v81 (ix2 (0 : Fin 1) k')) (fun k' => v91 (ix3 (0 : Fin 1) (0 : Fin 1) k'))
          (fun k' => v85 (ix3 (0 : Fin 1) (0 : Fin 1) k')) k := by
  unfold k0_pay1
  dsimp only
  show (_ : EReal) * _ * _ + _ = _ * _ * _ + _
  refine congrArg₂ (· + ·) (congrArg₂ (· * ·) (congrArg₂ (· * ·) ?_ ?_) ?_) ?_
  · exact rms_apply 0x44800000#32 _ reduces_S512x1024_S512 (.inl rfl) rfl shapeCasts_S512_S512x1 broadcasts_S512x1_S512x1024 r k
  · exact (broadcastTo_1b_ab_apply _ _ r k).trans (congrFun (shapeCast_self _ _) _)
  · refine (broadcastTo_1b_ab_apply _ _ r k).trans ?_
    exact congrArg (Ideal.ofBits .f32 0x3F800000#32 + ·) (shapeCast_1ab_ab_apply _ _ (0 : Fin 1) k)
  · exact (broadcastTo_1b_ab_apply _ _ r k).trans (shapeCast_1ab_ab_apply _ _ (0 : Fin 1) k)

/-- The routing scores, from the rows the experts receive. -/
theorem logits_apply (v67 : FVec Ideal S512x1024 .f32) (v73 : FVec Ideal S512x1 .f32) (z : Ideal .f32) (v81 : Vec Ideal S1x1024 .f32)
    (v85 v91 : Vec Ideal S1x1x1024 .f32) (v97 : Vec Ideal S1024x128 .bf16) (r : Fin 512) (k : Fin 128) :
    k0_pay2 (F := Ideal) v67 v73 z v81 v85 v91 v97 (ix2 r k)
      = ∑ j : Fin 1024, k0_pay1 (F := Ideal) v67 v73 z v81 v85 v91 (ix2 r j) * v97 (ix2 j k) := by
  unfold k0_pay2
  refine (dotR_apply _ _ r k).trans (Finset.sum_congr rfl fun j _ => ?_)
  rw [shapeCast_self]

/-! ### The generated terms -/

/-- A load at an offset of a two-dimensional block, at an index. -/
theorem ld2 {A B a b : ℕ} {e : EltTy} (x : Vec Ideal ⟨2, ![A, B]⟩ e) (o0 o1 : ℕ) (inb) (r : Fin a) (k : Fin b) (r' : Fin A) (k' : Fin B)
    (hr : r'.val = o0 + r.val) (hk : k'.val = o1 + k.val) :
    View.ld x (Rect.unit (s := ⟨2, ![A, B]⟩) ![o0, o1] ![a, b] inb) (ix2 r k) = x (ix2 r' k') := by
  refine View.ld_unit_apply_of _ _ _ inb _ _ fun i => ?_
  match i with
  | ⟨0, _⟩ => exact hr
  | ⟨1, _⟩ => exact hk

variable (m : (ℓ : Loc nD τ sig) → Buf (Elt Ideal) ℓ)

theorem z2 : (![0, 0] : Fin 2 → ℕ) = fun _ => 0 := by decide
theorem z3 : (![0, 0, 0] : Fin 3 → ℕ) = fun _ => 0 := by decide

/-- The new tokens of a point, before the store's reshape. -/
abbrev newBlk (c : Dev nD) (t : Fin cfg0.N) : FVec Ideal S512x1024 .f32 :=
  k0_pay6 (F := Ideal)
    (k0_pay3 (X0_0 m c t) (View.ld (iblk m c 4 t) (Rect.unit (s := S1x1024) ![0, 0] S1x256.size inb_S1x1024_S1x256_0_0))
      (View.ld (iblk m c 5 t) (Rect.unit (s := S1024x1024) ![0, 0] S256x1024.size inb_S1024x1024_S256x1024_0_0)))
    (k0_pay4 (iblk m c 1 t) (View.ld (iblk m c 4 t) (Rect.unit (s := S1x1024) ![0, 256] S1x512.size inb_S1x1024_S1x512_0_256)))
    (k0_pay5 (View.ld (iblk m c 5 t) (Rect.unit (s := S1024x1024) ![256, 0] S512x1024.size inb_S1024x1024_S512x1024_256_0)))
    (iblk m c 2 t) (View.ld (iblk m c 4 t) (Rect.unit (s := S1x1024) ![0, 768] S1x256.size inb_S1x1024_S1x256_0_768))
    (View.ld (iblk m c 5 t) (Rect.unit (s := S1024x1024) ![768, 0] S256x1024.size inb_S1024x1024_S256x1024_768_0))
    (iblk m c 3 t) (iblk m c 6 t)

/-- The sums of squares of the new tokens. -/
abbrev squares (v : FVec Ideal S512x1024 .f32) : FVec Ideal S512x1 .f32 :=
  shapeCast S512x1 (multiReduction .add [1] S512 (mulf v v) 0x00000000#32 reduces_S512x1024_S512 (.inl rfl) rfl) shapeCasts_S512_S512x1

theorem stored11 (c : Dev nD) (t : Fin cfg0.N) :
    (outsAt0 m c t).1 = shapeCast S1x512x1024 (newBlk m c t) shapeCasts_S512x1024_S1x512x1024 := by
  unfold outsAt0
  dsimp only
  unfold out0_A_11
  rw [View.read_writes_eq_canon _ _ _ (fun _ => cover0_A_11 ..)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rw [View.canon_unit_zero z3]
  rw [View.ld_unit_zero (S := S512x256) z2, View.ld_unit_zero (S := S1x512x512) z3, View.ld_unit_zero (S := S1x512x256) z3, View.ld_unit_zero (S := S1x512x1024) z3, View.ld_unit_zero (S := S1x1x1024) z3]
  rfl

theorem stored12 (c : Dev nD) (t : Fin cfg0.N) :
    (outsAt0 m c t).2.1 = k0_pay1 (newBlk m c t) (squares (newBlk m c t)) (Scalar.ofBits .f32 0x44800000#32) (iblk m c 7 t)
      (iblk m c 9 t) (iblk m c 8 t) := by
  unfold outsAt0
  dsimp only
  unfold out0_A_12
  rw [View.read_writes_eq_canon _ _ _ (fun _ => cover0_A_12 ..)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_9 t).read_unread]
  rw [View.canon_unit_zero z2]
  rw [View.ld_unit_zero (S := S512x256) z2, View.ld_unit_zero (S := S1x512x512) z3, View.ld_unit_zero (S := S1x512x256) z3, View.ld_unit_zero (S := S1x512x1024) z3, View.ld_unit_zero (S := S1x1x1024) z3, View.ld_unit_zero (S := S1x1024) z2]
  simp only [View.ld_unit_zero (S := S1x1x1024) z3]
  rfl

theorem stored13 (c : Dev nD) (t : Fin cfg0.N) :
    (outsAt0 m c t).2.2 = k0_pay2 (newBlk m c t) (squares (newBlk m c t)) (Scalar.ofBits .f32 0x44800000#32) (iblk m c 7 t)
      (iblk m c 9 t) (iblk m c 8 t) (iblk m c 10 t) := by
  unfold outsAt0
  dsimp only
  unfold out0_A_13
  rw [View.read_writes_eq_canon _ _ _ (fun _ => cover0_A_13 ..)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread, (hs0_9 t).read_unread,
    (hs0_10 t).read_unread]
  rw [View.canon_unit_zero z2]
  rw [View.ld_unit_zero (S := S512x256) z2, View.ld_unit_zero (S := S1x512x512) z3, View.ld_unit_zero (S := S1x512x256) z3, View.ld_unit_zero (S := S1x512x1024) z3, View.ld_unit_zero (S := S1x1x1024) z3, View.ld_unit_zero (S := S1x1024) z2, View.ld_unit_zero (S := S1024x128) z2]
  simp only [View.ld_unit_zero (S := S1x1x1024) z3]
  rfl

end Cert.MixOutIdeal.Mix

end
-- ==== Proof.MixArray.lean ====
/-
  THE OUTPUT MIXING: the arrays. What the kernel's three result arrays end holding, as functions of its arguments:
  `newArr`, `routedArr` and `logitsArr`, and the run that leaves them (`run`).
-/
module

public import proofs.«01_k».proof.Proof.MixBlock

@[expose] public section

set_option maxRecDepth 16384

noncomputable section

namespace Cert.MixOutIdeal.Mix

open Idealize.ShloMosaic hiding ix1 ix2 ix3 eq_ix1 eq_ix2 eq_ix3 constant_apply
open Idealize.ShloMosaic.ValueIdx Idealize.ShloMosaic.TcCoe Idealize.SL.Sem
open Cert.MixOutIdeal Cert.MixOutIdeal.Gen
open Cert.Rms
open scoped BigOperators

/-! ### The arrays -/

/-- The first group of mixers lies with all batches' lanes side by side, and longer than the tokens. -/
def rowS (n : Fin 4096) : Fin 4352 := ⟨n.val, by omega⟩
def laneB (b : Fin 8) (j : Fin 256) : Fin 2048 := ⟨b.val * 256 + j.val, by omega⟩

/-- Row `n` of batch `b` among the rows of all batches; -/
def tokenRow (b : Fin 8) (n : Fin 4096) : Fin 32768 := ⟨b.val * 4096 + n.val, by omega⟩
/-- the batch of such a row, -/
def batchR (p : Fin 32768) : Fin 8 := ⟨p.val / 4096, by omega⟩
/-- and the row of its batch. -/
def rowR (p : Fin 32768) : Fin 4096 := ⟨p.val % 4096, by omega⟩

/-- A token's new row, from the arguments. -/
def newTok (y0 : Vec Ideal S4352x2048 .f32) (y1 : Vec Ideal S8x4096x512 .f32) (y2 : Vec Ideal S8x4096x256 .f32)
    (x : Vec Ideal S8x4096x1024 .f32) (g : Vec Ideal S1024 .f32) (w : Vec Ideal S1024x1024 .f32) (gate : Vec Ideal S8x1x1024 .f32)
    (b : Fin 8) (n : Fin 4096) : Fin 1024 → EReal :=
  newRow (fun j => y0 (ix2 (rowS n) (laneB b j))) (fun j => y1 (ix3 b n j)) (fun j => y2 (ix3 b n j)) (fun j => g (ix1 j))
    (fun j k => w (ix2 j k)) (fun k => x (ix3 b n k)) (fun k => gate (ix3 b (0 : Fin 1) k))

/-- The first result: the new tokens. -/
def newArr (y0 : Vec Ideal S4352x2048 .f32) (y1 : Vec Ideal S8x4096x512 .f32) (y2 : Vec Ideal S8x4096x256 .f32)
    (x : Vec Ideal S8x4096x1024 .f32) (g : Vec Ideal S1024 .f32) (w : Vec Ideal S1024x1024 .f32) (gate : Vec Ideal S8x1x1024 .f32) :
    Vec Ideal S8x4096x1024 .f32 :=
  fun i => newTok y0 y1 y2 x g w gate (i 0 : Fin 8) (i 1 : Fin 4096) (i 2 : Fin 1024)

/-- The row of a token for the experts. -/
def routedTok (y0 : Vec Ideal S4352x2048 .f32) (y1 : Vec Ideal S8x4096x512 .f32) (y2 : Vec Ideal S8x4096x256 .f32)
    (x : Vec Ideal S8x4096x1024 .f32) (g : Vec Ideal S1024 .f32) (w : Vec Ideal S1024x1024 .f32) (gate : Vec Ideal S8x1x1024 .f32)
    (g2 : Vec Ideal S1024 .f32) (shift sc : Vec Ideal S8x1x1024 .f32) (b : Fin 8) (n : Fin 4096) : Fin 1024 → EReal :=
  routedRow (newTok y0 y1 y2 x g w gate b n) (fun k => g2 (ix1 k)) (fun k => shift (ix3 b (0 : Fin 1) k)) (fun k => sc (ix3 b (0 : Fin 1) k))

/-- The second result: the rows for the experts, all batches in one. -/
def routedArr (y0 : Vec Ideal S4352x2048 .f32) (y1 : Vec Ideal S8x4096x512 .f32) (y2 : Vec Ideal S8x4096x256 .f32)
    (x : Vec Ideal S8x4096x1024 .f32) (g : Vec Ideal S1024 .f32) (w : Vec Ideal S1024x1024 .f32) (gate : Vec Ideal S8x1x1024 .f32)
    (g2 : Vec Ideal S1024 .f32) (shift sc : Vec Ideal S8x1x1024 .f32) : Vec Ideal S32768x1024 .bf16 :=
  fun i => routedTok y0 y1 y2 x g w gate g2 shift sc (batchR (i 0 : Fin 32768)) (rowR (i 0 : Fin 32768)) (i 1 : Fin 1024)

/-- The routing weights: the groups' four columns, the experts' 32, and zeros. -/
def routeW (wg : Vec Ideal S1024x4 .f32) (we : Vec Ideal S1024x32 .f32) (j : Fin 1024) (l : Fin 128) : EReal :=
  if h : l.val < 4 then wg (ix2 j ⟨l.val, h⟩) else if h : l.val < 36 then we (ix2 j ⟨l.val - 4, by omega⟩) else 0

/-- The third result: the routing scores. -/
def logitsArr (y0 : Vec Ideal S4352x2048 .f32) (y1 : Vec Ideal S8x4096x512 .f32) (y2 : Vec Ideal S8x4096x256 .f32)
    (x : Vec Ideal S8x4096x1024 .f32) (g : Vec Ideal S1024 .f32) (w : Vec Ideal S1024x1024 .f32) (gate : Vec Ideal S8x1x1024 .f32)
    (g2 : Vec Ideal S1024 .f32) (shift sc : Vec Ideal S8x1x1024 .f32) (wg : Vec Ideal S1024x4 .f32) (we : Vec Ideal S1024x32 .f32) :
    Vec Ideal S32768x128 .f32 :=
  fun i => ∑ j : Fin 1024, routedTok y0 y1 y2 x g w gate g2 shift sc (batchR (i 0 : Fin 32768)) (rowR (i 0 : Fin 32768)) j
    * routeW wg we j (i 1 : Fin 128)

variable (m : (ℓ : Loc nD τ sig) → Buf (Elt Ideal) ℓ) (ρ : Dev nD → PrngReg)

/-! ### Where a point's blocks lie -/
theorem index0 : ∀ t : Fin grid0.N, win0_0.index t 0 = t.val % 8 ∧ win0_0.index t 1 = t.val / 8 := by decide +kernel
theorem index1 : ∀ t : Fin grid0.N, win0_1.index t 0 = t.val / 8 ∧ win0_1.index t 1 = t.val % 8 ∧ win0_1.index t 2 = 0 := by decide +kernel
theorem index2 : ∀ t : Fin grid0.N, win0_2.index t 0 = t.val / 8 ∧ win0_2.index t 1 = t.val % 8 ∧ win0_2.index t 2 = 0 := by decide +kernel
theorem index3 : ∀ t : Fin grid0.N, win0_3.index t 0 = t.val / 8 ∧ win0_3.index t 1 = t.val % 8 ∧ win0_3.index t 2 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val / 8 ∧ win0_6.index t 1 = 0 ∧ win0_6.index t 2 = 0 := by decide +kernel
theorem index7 : ∀ t : Fin grid0.N, win0_7.index t 0 = 0 ∧ win0_7.index t 1 = 0 := by decide +kernel
theorem index8 : ∀ t : Fin grid0.N, win0_8.index t 0 = t.val / 8 ∧ win0_8.index t 1 = 0 ∧ win0_8.index t 2 = 0 := by decide +kernel
theorem index9 : ∀ t : Fin grid0.N, win0_9.index t 0 = t.val / 8 ∧ win0_9.index t 1 = 0 ∧ win0_9.index t 2 = 0 := by decide +kernel
theorem index10 : ∀ t : Fin grid0.N, win0_10.index t 0 = 0 ∧ win0_10.index t 1 = 0 := by decide +kernel
theorem index11 : ∀ t : Fin grid0.N, win0_11.index t 0 = t.val / 8 ∧ win0_11.index t 1 = t.val % 8 ∧ win0_11.index t 2 = 0 := by decide +kernel
theorem index12 : ∀ t : Fin grid0.N, win0_12.index t 0 = t.val ∧ win0_12.index t 1 = 0 := by decide +kernel
theorem index13 : ∀ t : Fin grid0.N, win0_13.index t 0 = t.val ∧ win0_13.index t 1 = 0 := by decide +kernel

theorem point_lt (t : Fin cfg0.N) : t.val < 64 := lt_of_lt_of_eq t.isLt N_0

/-- A point's batch, -/
def batchOf (t : Fin cfg0.N) : Fin 8 := ⟨t.val / 8, by have := point_lt t; omega⟩
/-- its row of the batch, -/
def rowAt (t : Fin cfg0.N) (r : Fin 512) : Fin 4096 := ⟨t.val % 8 * 512 + r.val, by omega⟩
/-- and its row among all batches'. -/
def allRow (t : Fin cfg0.N) (r : Fin 512) : Fin 32768 := ⟨t.val * 512 + r.val, by have := point_lt t; omega⟩

theorem batchR_allRow (t : Fin cfg0.N) (r : Fin 512) : batchR (allRow t r) = batchOf t := Fin.ext (by
  show (t.val * 512 + r.val) / 4096 = t.val / 8; omega)
theorem rowR_allRow (t : Fin cfg0.N) (r : Fin 512) : rowR (allRow t r) = rowAt t r := Fin.ext (by
  show (t.val * 512 + r.val) % 4096 = t.val % 8 * 512 + r.val; omega)

/-! ### What the region finds -/

theorem gains_eq (c : Dev nD) : (V m c main_v2 : Vec Ideal S1x1024 .f32)
    = shapeCast S1x1024 (m ((c : Thread nD τ).loc main_arg4)) shapeCasts_S1024_S1x1024 := by
  unfold_abbrev_sides
  simp only [hostOps0, hostOps0_1, hostOps0_2, List.flatten_cons, List.flatten_nil, List.append_nil, List.cons_append, List.nil_append]
  after_results
  rfl

theorem weights_eq (c : Dev nD) : (V m c main_v3 : Vec Ideal S1024x1024 .bf16)
    = truncf (F := Ideal) .bf16 (m ((c : Thread nD τ).loc main_arg5) : Vec Ideal S1024x1024 .f32) bitsLt_bf16_f32 := by
  unfold_abbrev_sides
  simp only [hostOps0, hostOps0_1, hostOps0_2, List.flatten_cons, List.flatten_nil, List.append_nil, List.cons_append, List.nil_append]
  after_results

theorem gains2_eq (c : Dev nD) : (V m c main_v4 : Vec Ideal S1x1024 .f32)
    = shapeCast S1x1024 (m ((c : Thread nD τ).loc main_arg7)) shapeCasts_S1024_S1x1024 := by
  unfold_abbrev_sides
  simp only [hostOps0, hostOps0_1, hostOps0_2, List.flatten_cons, List.flatten_nil, List.append_nil, List.cons_append, List.nil_append]
  after_results
  rfl

theorem route_eq (c : Dev nD) : (V m c main_v5 : Vec Ideal S1024x128 .bf16)
    = truncf .bf16 (pad S1024x128 ![0, 0] ![0, 92] ![0, 0] (concatenate S1024x36 1 [⟨S1024x4, m ((c : Thread nD τ).loc main_arg10)⟩,
        ⟨S1024x32, m ((c : Thread nD τ).loc main_arg11)⟩] concatenates_S1024x4_S1024x32_S1024x36_d1)
        (sitofp (F := Ideal) .f32 (constantI S_ 32 0#32)) pads_S1024x36_S1024x128_000_0920 h_S_) bitsLt_bf16_f32 := by
  unfold_abbrev_sides
  simp only [hostOps0, hostOps0_1, hostOps0_2, List.flatten_cons, List.flatten_nil, List.append_nil, List.cons_append, List.nil_append]
  after_results
  rfl

/-- The zero the routing weights are padded with. -/
theorem padZero (i : S_.Idx) : sitofp (F := Ideal) .f32 (constantI S_ 32 0#32) i = (0 : EReal) := by
  show ((((0#32 : BitVec 32).toInt : ℤ) : ℝ) : EReal) = 0
  simp

/-- The routing weights, at an index. -/
theorem route_apply (wg : Vec Ideal S1024x4 .f32) (we : Vec Ideal S1024x32 .f32) (j : Fin 1024) (l : Fin 128) :
    pad S1024x128 ![0, 0] ![0, 92] ![0, 0] (concatenate S1024x36 1 [⟨S1024x4, wg⟩, ⟨S1024x32, we⟩] concatenates_S1024x4_S1024x32_S1024x36_d1)
        (sitofp (F := Ideal) .f32 (constantI S_ 32 0#32)) pads_S1024x36_S1024x128_000_0920 h_S_ (ix2 j l) = routeW wg we j l := by
  unfold routeW
  pointwise
  by_cases h4 : l.val < 4
  · rw [dif_pos (show (ix2 j l (1 : Fin 2)).val < 36 by show l.val < 36; omega), dif_pos (show (ix2 j l (1 : Fin 2)).val < 4 from h4), dif_pos h4]
    exact congrArg wg (funext fun a => by match a with | ⟨0, _⟩ => rfl | ⟨1, _⟩ => rfl)
  · rw [dif_neg h4]
    by_cases h36 : l.val < 36
    · rw [dif_pos (show (ix2 j l (1 : Fin 2)).val < 36 from h36), dif_neg (show ¬ (ix2 j l (1 : Fin 2)).val < 4 from h4), dif_pos h36]
      exact congrArg we (funext fun a => by match a with | ⟨0, _⟩ => rfl | ⟨1, _⟩ => rfl)
    · rw [dif_neg (show ¬ (ix2 j l (1 : Fin 2)).val < 36 from h36), dif_neg h36]
      exact padZero (fun a => a.elim0)

theorem first_apply (c : Dev nD) (t : Fin cfg0.N) (r : Fin 512) (j : Fin 256) :
    (X0_0 m c t : Vec Ideal S512x256 .f32) (ix2 r j) = m ((c : Thread nD τ).loc main_arg0) (ix2 (rowS (rowAt t r)) (laneB (batchOf t) j)) := by
  obtain ⟨h0, h1⟩ := index0 t
  unfold X0_0 Pipeline.Window.fill
  rw [dif_pos (moved0_0 t _)]
  unfold iblk
  rw [View.read_apply]
  refine (congrFun (V_main_arg0 m c) _).trans (congrArg _ (funext fun a => Fin.ext ?_))
  match a with
  | ⟨0, _⟩ => show win0_0.index t 0 * 512 + 1 * r.val = t.val % 8 * 512 + r.val; rw [h0]; omega
  | ⟨1, _⟩ => show win0_0.index t 1 * 256 + 1 * j.val = t.val / 8 * 256 + j.val; rw [h1]; omega

theorem secondIn_apply (c : Dev nD) (t : Fin cfg0.N) (r : Fin 512) (k : Fin 512) :
    (iblk m c 1 t : Vec Ideal S1x512x512 .f32) (ix3 (0 : Fin 1) r k)
      = m ((c : Thread nD τ).loc main_arg1) (ix3 (batchOf t) (rowAt t r) k) := by
  obtain ⟨h0, h1, h2⟩ := index1 t
  unfold iblk
  rw [View.read_apply]
  refine (congrFun (V_main_arg1 m c) _).trans (congrArg _ (funext fun a => Fin.ext ?_))
  match a with
  | ⟨0, _⟩ => show win0_1.index t 0 * 1 + 1 * 0 = t.val / 8; rw [h0]; omega
  | ⟨1, _⟩ => show win0_1.index t 1 * 512 + 1 * r.val = t.val % 8 * 512 + r.val; rw [h1]; omega
  | ⟨2, _⟩ => show win0_1.index t 2 * 512 + 1 * k.val = k.val; rw [h2]; omega

theorem thirdIn_apply (c : Dev nD) (t : Fin cfg0.N) (r : Fin 512) (k : Fin 256) :
    (iblk m c 2 t : Vec Ideal S1x512x256 .f32) (ix3 (0 : Fin 1) r k)
      = m ((c : Thread nD τ).loc main_arg2) (ix3 (batchOf t) (rowAt t r) k) := by
  obtain ⟨h0, h1, h2⟩ := index2 t
  unfold iblk
  rw [View.read_apply]
  refine (congrFun (V_main_arg2 m c) _).trans (congrArg _ (funext fun a => Fin.ext ?_))
  match a with
  | ⟨0, _⟩ => show win0_2.index t 0 * 1 + 1 * 0 = t.val / 8; rw [h0]; omega
  | ⟨1, _⟩ => show win0_2.index t 1 * 512 + 1 * r.val = t.val % 8 * 512 + r.val; rw [h1]; omega
  | ⟨2, _⟩ => show win0_2.index t 2 * 256 + 1 * k.val = k.val; rw [h2]; omega

theorem tokensIn_apply (c : Dev nD) (t : Fin cfg0.N) (r : Fin 512) (k : Fin 1024) :
    (iblk m c 3 t : Vec Ideal S1x512x1024 .f32) (ix3 (0 : Fin 1) r k)
      = m ((c : Thread nD τ).loc main_arg3) (ix3 (batchOf t) (rowAt t r) k) := by
  obtain ⟨h0, h1, h2⟩ := index3 t
  unfold iblk
  rw [View.read_apply]
  refine (congrFun (V_main_arg3 m c) _).trans (congrArg _ (funext fun a => Fin.ext ?_))
  match a with
  | ⟨0, _⟩ => show win0_3.index t 0 * 1 + 1 * 0 = t.val / 8; rw [h0]; omega
  | ⟨1, _⟩ => show win0_3.index t 1 * 512 + 1 * r.val = t.val % 8 * 512 + r.val; rw [h1]; omega
  | ⟨2, _⟩ => show win0_3.index t 2 * 1024 + 1 * k.val = k.val; rw [h2]; omega

theorem gate_apply (c : Dev nD) (t : Fin cfg0.N) (k : Fin 1024) :
    (iblk m c 6 t : Vec Ideal S1x1x1024 .f32) (ix3 (0 : Fin 1) (0 : Fin 1) k)
      = m ((c : Thread nD τ).loc main_arg6) (ix3 (batchOf t) (0 : Fin 1) k) := by
  obtain ⟨h0, h1, h2⟩ := index6 t
  unfold iblk
  rw [View.read_apply]
  refine (congrFun (V_main_arg6 m c) _).trans (congrArg _ (funext fun a => Fin.ext ?_))
  match a with
  | ⟨0, _⟩ => show win0_6.index t 0 * 1 + 1 * 0 = t.val / 8; rw [h0]; omega
  | ⟨1, _⟩ => show win0_6.index t 1 * 1 + 1 * 0 = 0; rw [h1]
  | ⟨2, _⟩ => show win0_6.index t 2 * 1024 + 1 * k.val = k.val; rw [h2]; omega

theorem shift_apply (c : Dev nD) (t : Fin cfg0.N) (k : Fin 1024) :
    (iblk m c 8 t : Vec Ideal S1x1x1024 .f32) (ix3 (0 : Fin 1) (0 : Fin 1) k)
      = m ((c : Thread nD τ).loc main_arg8) (ix3 (batchOf t) (0 : Fin 1) k) := by
  obtain ⟨h0, h1, h2⟩ := index8 t
  unfold iblk
  rw [View.read_apply]
  refine (congrFun (V_main_arg8 m c) _).trans (congrArg _ (funext fun a => Fin.ext ?_))
  match a with
  | ⟨0, _⟩ => show win0_8.index t 0 * 1 + 1 * 0 = t.val / 8; rw [h0]; omega
  | ⟨1, _⟩ => show win0_8.index t 1 * 1 + 1 * 0 = 0; rw [h1]
  | ⟨2, _⟩ => show win0_8.index t 2 * 1024 + 1 * k.val = k.val; rw [h2]; omega

theorem factor_apply (c : Dev nD) (t : Fin cfg0.N) (k : Fin 1024) :
    (iblk m c 9 t : Vec Ideal S1x1x1024 .f32) (ix3 (0 : Fin 1) (0 : Fin 1) k)
      = m ((c : Thread nD τ).loc main_arg9) (ix3 (batchOf t) (0 : Fin 1) k) := by
  obtain ⟨h0, h1, h2⟩ := index9 t
  unfold iblk
  rw [View.read_apply]
  refine (congrFun (V_main_arg9 m c) _).trans (congrArg _ (funext fun a => Fin.ext ?_))
  match a with
  | ⟨0, _⟩ => show win0_9.index t 0 * 1 + 1 * 0 = t.val / 8; rw [h0]; omega
  | ⟨1, _⟩ => show win0_9.index t 1 * 1 + 1 * 0 = 0; rw [h1]
  | ⟨2, _⟩ => show win0_9.index t 2 * 1024 + 1 * k.val = k.val; rw [h2]; omega

theorem gains_apply (c : Dev nD) (t : Fin cfg0.N) (k : Fin 1024) :
    (iblk m c 4 t : Vec Ideal S1x1024 .f32) (ix2 (0 : Fin 1) k) = m ((c : Thread nD τ).loc main_arg4) (ix1 k) := by
  obtain ⟨h0, h1⟩ := index4 t
  unfold iblk
  rw [View.read_apply]
  refine (congrFun (gains_eq m c) _).trans ?_
  refine (congrArg _ (funext fun a => Fin.ext ?_)).trans (shapeCast_a_1a_apply _ _ (0 : Fin 1) k)
  match a with
  | ⟨0, _⟩ => show win0_4.index t 0 * 1 + 1 * 0 = 0; rw [h0]
  | ⟨1, _⟩ => show win0_4.index t 1 * 1024 + 1 * k.val = k.val; rw [h1]; omega

theorem gains2_apply (c : Dev nD) (t : Fin cfg0.N) (k : Fin 1024) :
    (iblk m c 7 t : Vec Ideal S1x1024 .f32) (ix2 (0 : Fin 1) k) = m ((c : Thread nD τ).loc main_arg7) (ix1 k) := by
  obtain ⟨h0, h1⟩ := index7 t
  unfold iblk
  rw [View.read_apply]
  refine (congrFun (gains2_eq m c) _).trans ?_
  refine (congrArg _ (funext fun a => Fin.ext ?_)).trans (shapeCast_a_1a_apply _ _ (0 : Fin 1) k)
  match a with
  | ⟨0, _⟩ => show win0_7.index t 0 * 1 + 1 * 0 = 0; rw [h0]
  | ⟨1, _⟩ => show win0_7.index t 1 * 1024 + 1 * k.val = k.val; rw [h1]; omega

theorem weights_apply (c : Dev nD) (t : Fin cfg0.N) (j k : Fin 1024) :
    (iblk m c 5 t : Vec Ideal S1024x1024 .bf16) (ix2 j k) = m ((c : Thread nD τ).loc main_arg5) (ix2 j k) := by
  obtain ⟨h0, h1⟩ := index5 t
  unfold iblk
  rw [View.read_apply]
  refine (congrFun (weights_eq m c) _).trans ?_
  show m ((c : Thread nD τ).loc main_arg5) _ = _
  refine congrArg _ (funext fun a => Fin.ext ?_)
  match a with
  | ⟨0, _⟩ => show win0_5.index t 0 * 1024 + 1 * j.val = j.val; rw [h0]; omega
  | ⟨1, _⟩ => show win0_5.index t 1 * 1024 + 1 * k.val = k.val; rw [h1]; omega

theorem routing_apply (c : Dev nD) (t : Fin cfg0.N) (j : Fin 1024) (l : Fin 128) :
    (iblk m c 10 t : Vec Ideal S1024x128 .bf16) (ix2 j l)
      = routeW (m ((c : Thread nD τ).loc main_arg10)) (m ((c : Thread nD τ).loc main_arg11)) j l := by
  obtain ⟨h0, h1⟩ := index10 t
  unfold iblk
  rw [View.read_apply]
  refine (congrFun (route_eq m c) _).trans ?_
  refine (congrArg _ (funext fun a => Fin.ext ?_)).trans (route_apply _ _ j l)
  match a with
  | ⟨0, _⟩ => show win0_10.index t 0 * 1024 + 1 * j.val = j.val; rw [h0]; omega
  | ⟨1, _⟩ => show win0_10.index t 1 * 128 + 1 * l.val = l.val; rw [h1]; omega

/-! ### The result arrays -/

/-- A result the kernel leaves. -/
abbrev result0 (c : Dev nD) : Buf (Elt Ideal) ((c : Thread nD τ).loc main_v6_0) :=
  newArr
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- A result the kernel leaves. -/
abbrev result1 (c : Dev nD) : Buf (Elt Ideal) ((c : Thread nD τ).loc main_v6_1) :=
  routedArr
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- A result the kernel leaves. -/
abbrev result2 (c : Dev nD) : Buf (Elt Ideal) ((c : Thread nD τ).loc main_v6_2) :=
  logitsArr
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- A point's new tokens, at an index. -/
theorem newBlk_apply (c : Dev nD) (t : Fin cfg0.N) (r : Fin 512) (k : Fin 1024) :
    newBlk m c t (ix2 r k) = newTok
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))
      (batchOf t) (rowAt t r) k := by
  refine (new_apply _ _ _ _ _ _ _ _ _ _ _ (fun j => m ((c : Thread nD τ).loc main_arg4) (ix1 j))
    (fun j k => m ((c : Thread nD τ).loc main_arg5) (ix2 j k)) ?_ ?_ ?_ ?_ ?_ ?_ r k).trans ?_
  · exact fun j => (ld2 (iblk m c 4 t : Vec Ideal S1x1024 .f32) 0 0 _ (0 : Fin 1) j (0 : Fin 1) (laneS j) rfl
      (by show j.val = 0 + j.val; omega)).trans (gains_apply m c t _)
  · exact fun j => (ld2 (iblk m c 4 t : Vec Ideal S1x1024 .f32) 0 256 _ (0 : Fin 1) j (0 : Fin 1) (laneA j) rfl rfl).trans (gains_apply m c t _)
  · exact fun j => (ld2 (iblk m c 4 t : Vec Ideal S1x1024 .f32) 0 768 _ (0 : Fin 1) j (0 : Fin 1) (laneH j) rfl rfl).trans (gains_apply m c t _)
  · exact fun j k => (ld2 (iblk m c 5 t : Vec Ideal S1024x1024 .bf16) 0 0 _ j k (laneS j) k
      (by show j.val = 0 + j.val; omega) (by omega)).trans (weights_apply m c t _ _)
  · exact fun j k => (ld2 (iblk m c 5 t : Vec Ideal S1024x1024 .bf16) 256 0 _ j k (laneA j) k rfl (by omega)).trans (weights_apply m c t _ _)
  · exact fun j k => (ld2 (iblk m c 5 t : Vec Ideal S1024x1024 .bf16) 768 0 _ j k (laneH j) k rfl (by omega)).trans (weights_apply m c t _ _)
  · unfold newTok
    simp only [first_apply, secondIn_apply, thirdIn_apply, tokensIn_apply, gate_apply]

/-- A point's rows for the experts, at an index. -/
theorem routedBlk_apply (c : Dev nD) (t : Fin cfg0.N) (r : Fin 512) (k : Fin 1024) :
    k0_pay1 (newBlk m c t) (squares (newBlk m c t)) (Scalar.ofBits .f32 0x44800000#32) (iblk m c 7 t) (iblk m c 9 t) (iblk m c 8 t) (ix2 r k)
      = routedTok
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9))
      (batchOf t) (rowAt t r) k := by
  refine (routed_apply (newBlk m c t) _ _ _ r k).trans ?_
  unfold routedTok
  simp only [newBlk_apply, gains2_apply, shift_apply, factor_apply]

theorem flushed11_eq (c : Dev nD) (t : Fin cfg0.N) :
    (dats m 0 c).flushed 11 t = ((cfg0.win 11).blk t).view.read (Elt Ideal) (result0 m c) := by
  obtain ⟨h0, h1, h2⟩ := index11 t
  rw [Value.flushed11, stored11]
  funext i
  rw [View.read_apply]
  obtain ⟨z, r, k, hi⟩ : ∃ (z : Fin 1) (r : Fin 512) (k : Fin 1024), i = ix3 z r k := ⟨_, _, _, eq_ix3 i⟩
  obtain rfl : z = 0 := Subsingleton.elim _ _
  subst hi
  refine (shapeCast_ab_1ab_apply _ _ (0 : Fin 1) r k).trans ((newBlk_apply m c t r k).trans ?_)
  refine Eq.trans ?_ (congrArg (result0 m c) (?_ : ix3 (batchOf t) (rowAt t r) k = _))
  · rfl
  refine funext fun a => Fin.ext ?_
  match a with
  | ⟨0, _⟩ => show t.val / 8 = win0_11.index t 0 * 1 + 1 * 0; rw [h0]; omega
  | ⟨1, _⟩ => show t.val % 8 * 512 + r.val = win0_11.index t 1 * 512 + 1 * r.val; rw [h1]; omega
  | ⟨2, _⟩ => show k.val = win0_11.index t 2 * 1024 + 1 * k.val; rw [h2]; omega

theorem flushed12_eq (c : Dev nD) (t : Fin cfg0.N) :
    (dats m 0 c).flushed 12 t = ((cfg0.win 12).blk t).view.read (Elt Ideal) (result1 m c) := by
  obtain ⟨h0, h1⟩ := index12 t
  rw [Value.flushed12, stored12]
  funext i
  rw [View.read_apply]
  obtain ⟨r, k, hi⟩ : ∃ (r : Fin 512) (k : Fin 1024), i = ix2 r k := ⟨_, _, eq_ix2 i⟩
  subst hi
  refine (routedBlk_apply m c t r k).trans ?_
  refine Eq.trans ?_ (congrArg (result1 m c) (?_ : ix2 (allRow t r) k = _))
  · show _ = routedTok _ _ _ _ _ _ _ _ _ _ (batchR (allRow t r)) (rowR (allRow t r)) k
    rw [batchR_allRow, rowR_allRow]
  refine funext fun a => Fin.ext ?_
  match a with
  | ⟨0, _⟩ => show t.val * 512 + r.val = win0_12.index t 0 * 512 + 1 * r.val; rw [h0]; omega
  | ⟨1, _⟩ => show k.val = win0_12.index t 1 * 1024 + 1 * k.val; rw [h1]; omega

theorem flushed13_eq (c : Dev nD) (t : Fin cfg0.N) :
    (dats m 0 c).flushed 13 t = ((cfg0.win 13).blk t).view.read (Elt Ideal) (result2 m c) := by
  obtain ⟨h0, h1⟩ := index13 t
  rw [Value.flushed13, stored13]
  funext i
  rw [View.read_apply]
  obtain ⟨r, l, hi⟩ : ∃ (r : Fin 512) (l : Fin 128), i = ix2 r l := ⟨_, _, eq_ix2 i⟩
  subst hi
  refine (logits_apply _ _ _ _ _ _ _ r l).trans ?_
  simp only [routedBlk_apply, routing_apply]
  refine Eq.trans ?_ (congrArg (result2 m c) (?_ : ix2 (allRow t r) l = _))
  · show _ = ∑ j : Fin 1024, routedTok _ _ _ _ _ _ _ _ _ _ (batchR (allRow t r)) (rowR (allRow t r)) j * routeW _ _ j l
    rw [batchR_allRow, rowR_allRow]
  refine funext fun a => Fin.ext ?_
  match a with
  | ⟨0, _⟩ => show t.val * 512 + r.val = win0_13.index t 0 * 512 + 1 * r.val; rw [h0]; omega
  | ⟨1, _⟩ => show l.val = win0_13.index t 1 * 128 + 1 * l.val; rw [h1]; omega

theorem covered11 (i : S8x4096x1024.Idx) : ∃ t : Fin cfg0.N, (cfg0.win 11).flush t = true ∧ i ∈ ((cfg0.win 11).blk t).view.set := by
  have b0 : (i 0 : Nat) < 8 := (i 0).isLt
  have b1 : (i 1 : Nat) < 4096 := (i 1).isLt
  have b2 : (i 2 : Nat) < 1024 := (i 2).isLt
  obtain ⟨t, ht⟩ : ∃ t : Fin grid0.N, t.val = (i 0 : Nat) * 8 + (i 1 : Nat) / 512 :=
    ⟨⟨(i 0 : Nat) * 8 + (i 1 : Nat) / 512, by rw [N_0]; omega⟩, rfl⟩
  refine ⟨t, flush0_11 t, ?_⟩
  obtain ⟨h0, h1, h2⟩ := index11 t
  show i ∈ ((View.whole main_v6_0).slice (win0_11.rect t)).set
  rw [View.set_slice_whole, Rect.mem_set_unit]
  intro a
  match a with
  | ⟨0, _⟩ => show win0_11.index t 0 * 1 ≤ (i 0 : Nat) ∧ (i 0 : Nat) < win0_11.index t 0 * 1 + 1; rw [h0]; omega
  | ⟨1, _⟩ => show win0_11.index t 1 * 512 ≤ (i 1 : Nat) ∧ (i 1 : Nat) < win0_11.index t 1 * 512 + 512; rw [h1]; omega
  | ⟨2, _⟩ => show win0_11.index t 2 * 1024 ≤ (i 2 : Nat) ∧ (i 2 : Nat) < win0_11.index t 2 * 1024 + 1024; rw [h2]; omega

theorem covered12 (i : S32768x1024.Idx) : ∃ t : Fin cfg0.N, (cfg0.win 12).flush t = true ∧ i ∈ ((cfg0.win 12).blk t).view.set := by
  have b0 : (i 0 : Nat) < 32768 := (i 0).isLt
  have b1 : (i 1 : Nat) < 1024 := (i 1).isLt
  obtain ⟨t, ht⟩ : ∃ t : Fin grid0.N, t.val = (i 0 : Nat) / 512 := ⟨⟨(i 0 : Nat) / 512, by rw [N_0]; omega⟩, rfl⟩
  refine ⟨t, flush0_12 t, ?_⟩
  obtain ⟨h0, h1⟩ := index12 t
  show i ∈ ((View.whole main_v6_1).slice (win0_12.rect t)).set
  rw [View.set_slice_whole, Rect.mem_set_unit]
  intro a
  match a with
  | ⟨0, _⟩ => show win0_12.index t 0 * 512 ≤ (i 0 : Nat) ∧ (i 0 : Nat) < win0_12.index t 0 * 512 + 512; rw [h0]; omega
  | ⟨1, _⟩ => show win0_12.index t 1 * 1024 ≤ (i 1 : Nat) ∧ (i 1 : Nat) < win0_12.index t 1 * 1024 + 1024; rw [h1]; omega

theorem covered13 (i : S32768x128.Idx) : ∃ t : Fin cfg0.N, (cfg0.win 13).flush t = true ∧ i ∈ ((cfg0.win 13).blk t).view.set := by
  have b0 : (i 0 : Nat) < 32768 := (i 0).isLt
  have b1 : (i 1 : Nat) < 128 := (i 1).isLt
  obtain ⟨t, ht⟩ : ∃ t : Fin grid0.N, t.val = (i 0 : Nat) / 512 := ⟨⟨(i 0 : Nat) / 512, by rw [N_0]; omega⟩, rfl⟩
  refine ⟨t, flush0_13 t, ?_⟩
  obtain ⟨h0, h1⟩ := index13 t
  show i ∈ ((View.whole main_v6_2).slice (win0_13.rect t)).set
  rw [View.set_slice_whole, Rect.mem_set_unit]
  intro a
  match a with
  | ⟨0, _⟩ => show win0_13.index t 0 * 512 ≤ (i 0 : Nat) ∧ (i 0 : Nat) < win0_13.index t 0 * 512 + 512; rw [h0]; omega
  | ⟨1, _⟩ => show win0_13.index t 1 * 128 ≤ (i 1 : Nat) ∧ (i 1 : Nat) < win0_13.index t 1 * 128 + 128; rw [h1]; omega

/-- The run: the result arrays at `result0`, `result1` and `result2`, the arguments unchanged. -/
theorem run : θ_run defs (onTc (τ := τ) (main (F := Ideal))) ⟨m, fun _ => 0, ρ⟩ fun r => ∀ c : Dev nD,
      r.2.mem ((c : Thread nD τ).loc main_v6_0) = result0 m c
      ∧ r.2.mem ((c : Thread nD τ).loc main_v6_1) = result1 m c
      ∧ r.2.mem ((c : Thread nD τ).loc main_v6_2) = result2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨
      (h c).1.trans ((dats m 0 c).arrAt_eq_of_cover 11 (result0 m c) (fun t _ => flushed11_eq m c t) covered11),
      (h c).2.1.trans ((dats m 0 c).arrAt_eq_of_cover 12 (result1 m c) (fun t _ => flushed12_eq m c t) covered12),
      (h c).2.2.1.trans ((dats m 0 c).arrAt_eq_of_cover 13 (result2 m c) (fun t _ => flushed13_eq m c t) covered13),
      (h c).2.2.2⟩) (Value.run_blocks m ρ)

end Cert.MixOutIdeal.Mix

end
-- ==== Proof.MixEq.lean ====
/-
  THE OUTPUT MIXING: the reference, and its equations with the kernel. The reference lays the three normalised groups side
  by side before one product with the output projection, which is the sum of the three products; and it pads the routing
  scores with zeros, which are the products with the zero columns.
-/
module

public import proofs.«01_k».proof.Proof.MixArray
public import proofs.«01_k».proof.Proof.Gen.MixOutReferenceIdeal.Read
public import Idealize.ShloMosaic.Lib.KernelVsHost

@[expose] public section

set_option maxRecDepth 16384

noncomputable section

namespace Cert.MixOutReferenceIdeal.Mix

open Idealize.ShloMosaic hiding ix1 ix2 ix3 eq_ix1 eq_ix2 eq_ix3 constant_apply
open Idealize.ShloMosaic.ValueIdx Idealize.ShloMosaic.TcCoe Idealize.SL.Sem
open Cert.MixOutReferenceIdeal Cert.MixOutReferenceIdeal.Gen Cert.MixOutReferenceIdeal.Read
open Cert.MixOutIdeal.Mix (laneS laneA laneH mixed newRow routedRow rowS laneB tokenRow batchR rowR newTok newArr routedTok routedArr
  routeW logitsArr padZero)
open Cert.Rms
open scoped BigOperators

/-- A sum over the 1024 lanes is the sum over the three groups. -/
theorem sum_groups (f : Fin 1024 → EReal) : ∑ k : Fin 1024, f k
    = (∑ j : Fin 256, f (laneS j)) + (∑ j : Fin 512, f (laneA j)) + ∑ j : Fin 256, f (laneH j) := by
  refine (Fin.sum_univ_add (a := 256) (b := 768) f).trans ?_
  rw [add_assoc]
  refine congrArg₂ (· + ·) rfl ?_
  refine (Fin.sum_univ_add (a := 512) (b := 256) fun k => f (Fin.natAdd 256 k)).trans ?_
  refine congrArg₂ (· + ·) rfl (Finset.sum_congr rfl fun j _ => congrArg f (Fin.ext ?_))
  show 256 + (512 + j.val) = 768 + j.val
  omega

variable (x0 : Vec Ideal S4352x2048 .f32) (x1 : Vec Ideal S8x4096x512 .f32) (x2 : Vec Ideal S8x4096x256 .f32)
  (x3 : Vec Ideal S8x4096x1024 .f32) (x4 : Vec Ideal S1024 .f32) (x5 : Vec Ideal S1024x1024 .f32) (x6 : Vec Ideal S8x1x1024 .f32)
  (x7 : Vec Ideal S1024 .f32) (x8 x9 : Vec Ideal S8x1x1024 .f32) (x10 : Vec Ideal S1024x4 .f32) (x11 : Vec Ideal S1024x32 .f32)

/-! ### The three groups -/

/-- The first group's rows, batch by batch. -/
theorem first_apply (b : Fin 8) (n : Fin 4096) (j : Fin 256) :
    val_main_v2 (F := Ideal) x0 (ix3 b n j) = x0 (ix2 (rowS n) (laneB b j)) := by
  rw [val_main_v2_apply, val_main_v1_apply, val_main_v0_apply]
  refine congrArg x0 (funext fun a => Fin.ext ?_)
  match a with
  | ⟨0, _⟩ => show ((n.val * 8 + b.val) * 256 + j.val) / 2048 = n.val; omega
  | ⟨1, _⟩ => show ((n.val * 8 + b.val) * 256 + j.val) % 2048 = b.val * 256 + j.val; omega

/-- The first group's factor of a row, of the second and of the third. -/
theorem firstScale_apply (b : Fin 8) (n : Fin 4096) :
    val_main_v11 (F := Ideal) x0 (ix3 b n (0 : Fin 1)) = scale 0x43800000#32 (fun j : Fin 256 => x0 (ix2 (rowS n) (laneB b j))) := by
  rw [val_main_v11_apply, val_main_v10_apply, val_main_v8_apply, val_main_v6_apply, val_main_v5_apply, val_main_v7_apply,
    val_main_v9_apply, val_main_cst_apply, val_main_cst_0_apply, val_main_cst_1_apply]
  show Ideal.rsqrt (Ideal.div (Ideal.ofBits .f32 0x00000000#32 + _) (Ideal.ofBits .f32 0x43800000#32) + Ideal.ofBits .f32 0x358637BD#32) = _
  rw [zeroBits, zero_add]
  refine congrArg (fun s => Ideal.rsqrt (Ideal.div s (Ideal.ofBits .f32 0x43800000#32) + Ideal.ofBits .f32 0x358637BD#32)) ?_
  refine Finset.sum_congr rfl fun k _ => ?_
  have e : idx_main_v5 (idx_main_v6 (ix3 b n (0 : Fin 1))) k = ix3 b n k := funext fun a => Fin.ext (by
    match a with
    | ⟨0, _⟩ => rfl
    | ⟨1, _⟩ => rfl
    | ⟨2, _⟩ => rfl)
  rw [val_main_v4_apply, e, first_apply]
  rfl

/-- The second's. -/
theorem secondScale_apply (b : Fin 8) (n : Fin 4096) :
    val_main_v25 (F := Ideal) x1 (ix3 b n (0 : Fin 1)) = scale 0x44000000#32 (fun j : Fin 512 => x1 (ix3 b n j)) := by
  rw [val_main_v25_apply, val_main_v24_apply, val_main_v22_apply, val_main_v20_apply, val_main_v19_apply, val_main_v21_apply,
    val_main_v23_apply, val_main_cst_2_apply, val_main_cst_3_apply, val_main_cst_4_apply]
  show Ideal.rsqrt (Ideal.div (Ideal.ofBits .f32 0x00000000#32 + _) (Ideal.ofBits .f32 0x44000000#32) + Ideal.ofBits .f32 0x358637BD#32) = _
  rw [zeroBits, zero_add]
  refine congrArg (fun s => Ideal.rsqrt (Ideal.div s (Ideal.ofBits .f32 0x44000000#32) + Ideal.ofBits .f32 0x358637BD#32)) ?_
  refine Finset.sum_congr rfl fun k _ => ?_
  have e : idx_main_v19 (idx_main_v20 (ix3 b n (0 : Fin 1))) k = ix3 b n k := funext fun a => Fin.ext (by
    match a with
    | ⟨0, _⟩ => rfl
    | ⟨1, _⟩ => rfl
    | ⟨2, _⟩ => rfl)
  rw [val_main_v18_apply, e]
  rfl

/-- The third's. -/
theorem thirdScale_apply (b : Fin 8) (n : Fin 4096) :
    val_main_v39 (F := Ideal) x2 (ix3 b n (0 : Fin 1)) = scale 0x43800000#32 (fun j : Fin 256 => x2 (ix3 b n j)) := by
  rw [val_main_v39_apply, val_main_v38_apply, val_main_v36_apply, val_main_v34_apply, val_main_v33_apply, val_main_v35_apply,
    val_main_v37_apply, val_main_cst_5_apply, val_main_cst_6_apply, val_main_cst_7_apply]
  show Ideal.rsqrt (Ideal.div (Ideal.ofBits .f32 0x00000000#32 + _) (Ideal.ofBits .f32 0x43800000#32) + Ideal.ofBits .f32 0x358637BD#32) = _
  rw [zeroBits, zero_add]
  refine congrArg (fun s => Ideal.rsqrt (Ideal.div s (Ideal.ofBits .f32 0x43800000#32) + Ideal.ofBits .f32 0x358637BD#32)) ?_
  refine Finset.sum_congr rfl fun k _ => ?_
  have e : idx_main_v33 (idx_main_v34 (ix3 b n (0 : Fin 1))) k = ix3 b n k := funext fun a => Fin.ext (by
    match a with
    | ⟨0, _⟩ => rfl
    | ⟨1, _⟩ => rfl
    | ⟨2, _⟩ => rfl)
  rw [val_main_v32_apply, e]
  rfl

/-- The first group normalised, under its gains. -/
theorem firstNorm_apply (b : Fin 8) (n : Fin 4096) (j : Fin 256) :
    val_main_v16 (F := Ideal) x0 x4 (ix3 b n j) = rmsRow 0x43800000#32 (fun j : Fin 256 => x0 (ix2 (rowS n) (laneB b j))) j * x4 (ix1 (laneS j)) := by
  have e : idx_main_v12 (ix3 b n j) = ix3 b n (0 : Fin 1) := funext fun a => Fin.ext (by
    match a with
    | ⟨0, _⟩ => rfl
    | ⟨1, _⟩ => rfl
    | ⟨2, _⟩ => rfl)
  have e' : idx_main_v3 (idx_main_v14 (idx_main_v15 (ix3 b n j))) = ix1 (laneS j) := funext fun a => Fin.ext (by
    match a with
    | ⟨0, _⟩ => rfl)
  rw [val_main_v16_apply, val_main_v13_apply, val_main_v12_apply, val_main_v15_apply, val_main_v14_apply, val_main_v3_apply, e, e',
    firstScale_apply, first_apply]
  rfl

/-- The second. -/
theorem secondNorm_apply (b : Fin 8) (n : Fin 4096) (j : Fin 512) :
    val_main_v30 (F := Ideal) x1 x4 (ix3 b n j) = rmsRow 0x44000000#32 (fun j : Fin 512 => x1 (ix3 b n j)) j * x4 (ix1 (laneA j)) := by
  have e : idx_main_v26 (ix3 b n j) = ix3 b n (0 : Fin 1) := funext fun a => Fin.ext (by
    match a with
    | ⟨0, _⟩ => rfl
    | ⟨1, _⟩ => rfl
    | ⟨2, _⟩ => rfl)
  have e' : idx_main_v17 (idx_main_v28 (idx_main_v29 (ix3 b n j))) = ix1 (laneA j) := funext fun a => Fin.ext (by
    match a with
    | ⟨0, _⟩ => first | rfl | (show 256 + j.val = _; omega) | (show j.val + 256 = 256 + j.val; omega))
  rw [val_main_v30_apply, val_main_v27_apply, val_main_v26_apply, val_main_v29_apply, val_main_v28_apply, val_main_v17_apply, e, e',
    secondScale_apply]
  rfl

/-- The third. -/
theorem thirdNorm_apply (b : Fin 8) (n : Fin 4096) (j : Fin 256) :
    val_main_v44 (F := Ideal) x2 x4 (ix3 b n j) = rmsRow 0x43800000#32 (fun j : Fin 256 => x2 (ix3 b n j)) j * x4 (ix1 (laneH j)) := by
  have e : idx_main_v40 (ix3 b n j) = ix3 b n (0 : Fin 1) := funext fun a => Fin.ext (by
    match a with
    | ⟨0, _⟩ => rfl
    | ⟨1, _⟩ => rfl
    | ⟨2, _⟩ => rfl)
  have e' : idx_main_v31 (idx_main_v42 (idx_main_v43 (ix3 b n j))) = ix1 (laneH j) := funext fun a => Fin.ext (by
    match a with
    | ⟨0, _⟩ => first | rfl | (show j.val + 768 = 768 + j.val; omega))
  rw [val_main_v44_apply, val_main_v41_apply, val_main_v40_apply, val_main_v43_apply, val_main_v42_apply, val_main_v31_apply, e, e',
    thirdScale_apply]
  rfl

/-- The groups side by side, at a lane of each. -/
theorem side (a : Vec Ideal S8x4096x256 .f32) (b' : Vec Ideal S8x4096x512 .f32) (c' : Vec Ideal S8x4096x256 .f32) (b : Fin 8) (n : Fin 4096) :
    (∀ j : Fin 256, concatenate S8x4096x1024 2 [⟨S8x4096x256, a⟩, ⟨S8x4096x512, b'⟩, ⟨S8x4096x256, c'⟩]
        concatenates_S8x4096x256_S8x4096x512_S8x4096x256_S8x4096x1024_d2 (ix3 b n (laneS j)) = a (ix3 b n j))
    ∧ (∀ j : Fin 512, concatenate S8x4096x1024 2 [⟨S8x4096x256, a⟩, ⟨S8x4096x512, b'⟩, ⟨S8x4096x256, c'⟩]
        concatenates_S8x4096x256_S8x4096x512_S8x4096x256_S8x4096x1024_d2 (ix3 b n (laneA j)) = b' (ix3 b n j))
    ∧ (∀ j : Fin 256, concatenate S8x4096x1024 2 [⟨S8x4096x256, a⟩, ⟨S8x4096x512, b'⟩, ⟨S8x4096x256, c'⟩]
        concatenates_S8x4096x256_S8x4096x512_S8x4096x256_S8x4096x1024_d2 (ix3 b n (laneH j)) = c' (ix3 b n j)) := by
  refine ⟨fun j => ?_, fun j => ?_, fun j => ?_⟩
  · pointwise
    rw [dif_pos (show (laneS j).val < 256 from j.isLt)]
    exact congrArg a (funext fun a => by match a with | ⟨0, _⟩ => rfl | ⟨1, _⟩ => rfl | ⟨2, _⟩ => rfl)
  · pointwise
    rw [dif_neg (show ¬ (ix3 b n (laneA j) (2 : Fin 3)).val < 256 by show ¬ 256 + j.val < 256; omega),
      dif_pos (show (ix3 b n (laneA j) (2 : Fin 3)).val - 256 < 512 by show 256 + j.val - 256 < 512; omega)]
    exact congrArg b' (funext fun a => Fin.ext (by
      match a with
      | ⟨0, _⟩ => rfl
      | ⟨1, _⟩ => rfl
      | ⟨2, _⟩ => show 256 + j.val - 256 = j.val; omega))
  · pointwise
    rw [dif_neg (show ¬ (ix3 b n (laneH j) (2 : Fin 3)).val < 256 by show ¬ 768 + j.val < 256; omega),
      dif_neg (show ¬ (ix3 b n (laneH j) (2 : Fin 3)).val - 256 < 512 by show ¬ 768 + j.val - 256 < 512; omega)]
    exact congrArg c' (funext fun a => Fin.ext (by
      match a with
      | ⟨0, _⟩ => rfl
      | ⟨1, _⟩ => rfl
      | ⟨2, _⟩ => show 768 + j.val - 256 - 512 = j.val; omega))

/-- The projection of the groups. -/
theorem mixed_apply (b : Fin 8) (n : Fin 4096) (k : Fin 1024) :
    val_main_v46 (F := Ideal) x0 x1 x2 x4 x5 (ix3 b n k)
      = mixed (fun j => x0 (ix2 (rowS n) (laneB b j))) (fun j => x1 (ix3 b n j)) (fun j => x2 (ix3 b n j)) (fun j => x4 (ix1 j))
          (fun j k => x5 (ix2 j k)) k := by
  have e : ∀ k' : Fin 1024, lidx_main_v46 (ix3 b n k) k' = ix3 b n k' := fun k' => funext fun a => Fin.ext (by
    match a with
    | ⟨0, _⟩ => rfl
    | ⟨1, _⟩ => rfl
    | ⟨2, _⟩ => rfl)
  have e' : ∀ k' : Fin 1024, ridx_main_v46 (ix3 b n k) k' = ix2 k' k := fun k' => funext fun a => Fin.ext (by
    match a with
    | ⟨0, _⟩ => rfl
    | ⟨1, _⟩ => rfl)
  rw [val_main_v46_apply, sum_groups]
  obtain ⟨h0, h1, h2⟩ := side (val_main_v16 (F := Ideal) x0 x4) (val_main_v30 (F := Ideal) x1 x4) (val_main_v44 (F := Ideal) x2 x4) b n
  refine congrArg₂ (· + ·) (congrArg₂ (· + ·) ?_ ?_) ?_
  · refine Finset.sum_congr rfl fun j _ => ?_
    rw [e, e']
    exact congrArg (· * x5 (ix2 (laneS j) k)) ((h0 j).trans (firstNorm_apply x0 x4 b n j))
  · refine Finset.sum_congr rfl fun j _ => ?_
    rw [e, e']
    exact congrArg (· * x5 (ix2 (laneA j) k)) ((h1 j).trans (secondNorm_apply x1 x4 b n j))
  · refine Finset.sum_congr rfl fun j _ => ?_
    rw [e, e']
    exact congrArg (· * x5 (ix2 (laneH j) k)) ((h2 j).trans (thirdNorm_apply x2 x4 b n j))

/-! ### The results -/

theorem new_apply (b : Fin 8) (n : Fin 4096) (k : Fin 1024) :
    val_main_v49 (F := Ideal) x0 x1 x2 x3 x4 x5 x6 (ix3 b n k) = newTok x0 x1 x2 x3 x4 x5 x6 b n k := by
  have e : idx_main_v47 (ix3 b n k) = ix3 b (0 : Fin 1) k := funext fun a => Fin.ext (by
    match a with
    | ⟨0, _⟩ => rfl
    | ⟨1, _⟩ => rfl
    | ⟨2, _⟩ => rfl)
  rw [val_main_v49_apply, val_main_v48_apply, val_main_v47_apply, mixed_apply, e]
  rfl

/-- **The first result.** -/
theorem new_eq : val_main_v49 (F := Ideal) x0 x1 x2 x3 x4 x5 x6 = newArr x0 x1 x2 x3 x4 x5 x6 := by
  funext i
  obtain ⟨b, n, k, rfl⟩ : ∃ (b : Fin 8) (n : Fin 4096) (k : Fin 1024), i = ix3 b n k := ⟨_, _, _, eq_ix3 i⟩
  exact new_apply x0 x1 x2 x3 x4 x5 x6 b n k

/-- The factor of a new token's row. -/
theorem newScale_apply (b : Fin 8) (n : Fin 4096) :
    val_main_v57 (F := Ideal) x0 x1 x2 x3 x4 x5 x6 (ix3 b n (0 : Fin 1)) = scale 0x44800000#32 (newTok x0 x1 x2 x3 x4 x5 x6 b n) := by
  rw [val_main_v57_apply, val_main_v56_apply, val_main_v54_apply, val_main_v52_apply, val_main_v51_apply, val_main_v53_apply,
    val_main_v55_apply, val_main_cst_8_apply, val_main_cst_9_apply, val_main_cst_10_apply]
  show Ideal.rsqrt (Ideal.div (Ideal.ofBits .f32 0x00000000#32 + _) (Ideal.ofBits .f32 0x44800000#32) + Ideal.ofBits .f32 0x358637BD#32) = _
  rw [zeroBits, zero_add]
  refine congrArg (fun s => Ideal.rsqrt (Ideal.div s (Ideal.ofBits .f32 0x44800000#32) + Ideal.ofBits .f32 0x358637BD#32)) ?_
  refine Finset.sum_congr rfl fun k _ => ?_
  have e : idx_main_v51 (idx_main_v52 (ix3 b n (0 : Fin 1))) k = ix3 b n k := funext fun a => Fin.ext (by
    match a with
    | ⟨0, _⟩ => rfl
    | ⟨1, _⟩ => rfl
    | ⟨2, _⟩ => rfl)
  rw [val_main_v50_apply, e, new_apply]
  rfl

theorem routed_apply (b : Fin 8) (n : Fin 4096) (k : Fin 1024) :
    val_main_v68 (F := Ideal) x0 x1 x2 x3 x4 x5 x6 x7 x8 x9 (ix3 b n k) = routedTok x0 x1 x2 x3 x4 x5 x6 x7 x8 x9 b n k := by
  have e : idx_main_v58 (ix3 b n k) = ix3 b n (0 : Fin 1) := funext fun a => Fin.ext (by
    match a with
    | ⟨0, _⟩ => rfl
    | ⟨1, _⟩ => rfl
    | ⟨2, _⟩ => rfl)
  have e1 : idx_main_v60 (idx_main_v61 (ix3 b n k)) = ix1 k := funext fun a => Fin.ext (by
    match a with
    | ⟨0, _⟩ => rfl)
  have e2 : idx_main_v65 (ix3 b n k) = ix3 b (0 : Fin 1) k := funext fun a => Fin.ext (by
    match a with
    | ⟨0, _⟩ => rfl
    | ⟨1, _⟩ => rfl
    | ⟨2, _⟩ => rfl)
  have e3 : idx_main_v67 (ix3 b n k) = ix3 b (0 : Fin 1) k := funext fun a => Fin.ext (by
    match a with
    | ⟨0, _⟩ => rfl
    | ⟨1, _⟩ => rfl
    | ⟨2, _⟩ => rfl)
  rw [val_main_v68_apply, val_main_v66_apply, val_main_v62_apply, val_main_v59_apply, val_main_v58_apply, val_main_v61_apply, val_main_v60_apply,
    val_main_v65_apply, val_main_v64_apply, val_main_v63_apply, val_main_cst_11_apply, val_main_v67_apply, e, e1, e2, e3, newScale_apply, new_apply]
  rfl

/-- A row of all batches' is the row of its batch. -/
theorem flat_apply (p : Fin 32768) (k : Fin 1024) :
    val_main_v69 (F := Ideal) x0 x1 x2 x3 x4 x5 x6 x7 x8 x9 (ix2 p k) = routedTok x0 x1 x2 x3 x4 x5 x6 x7 x8 x9 (batchR p) (rowR p) k := by
  have e : idx_main_v69 (ix2 p k) = ix3 (batchR p) (rowR p) k := funext fun a => Fin.ext (by
    match a with
    | ⟨0, _⟩ => show (p.val * 1024 + k.val) / 4194304 = p.val / 4096; omega
    | ⟨1, _⟩ => show (p.val * 1024 + k.val) / 1024 % 4096 = p.val % 4096; omega
    | ⟨2, _⟩ => show (p.val * 1024 + k.val) % 1024 = k.val; omega)
  rw [val_main_v69_apply, e, routed_apply]

/-- **The second result.** -/
theorem routed_eq : val_main_v73 (F := Ideal) x0 x1 x2 x3 x4 x5 x6 x7 x8 x9 = routedArr x0 x1 x2 x3 x4 x5 x6 x7 x8 x9 := by
  funext i
  obtain ⟨p, k, rfl⟩ : ∃ (p : Fin 32768) (k : Fin 1024), i = ix2 p k := ⟨_, _, eq_ix2 i⟩
  exact flat_apply x0 x1 x2 x3 x4 x5 x6 x7 x8 x9 p k

/-- The padded scores at a lane. -/
theorem scores_apply (u : Vec Ideal S32768x4 .f32) (v : Vec Ideal S32768x32 .f32) (p : Fin 32768) (l : Fin 128) :
    pad S32768x128 ![0, 0] ![0, 92] ![0, 0] (concatenate S32768x36 1 [⟨S32768x4, u⟩, ⟨S32768x32, v⟩] concatenates_S32768x4_S32768x32_S32768x36_d1)
        (sitofp (F := Ideal) .f32 (constantI S_ 32 0#32)) pads_S32768x36_S32768x128_000_0920 h_S_ (ix2 p l)
      = if h : l.val < 4 then u (ix2 p ⟨l.val, h⟩) else if h : l.val < 36 then v (ix2 p ⟨l.val - 4, by omega⟩) else (0 : EReal) := by
  pointwise
  by_cases h4 : l.val < 4
  · rw [dif_pos (show (ix2 p l (1 : Fin 2)).val < 36 by show l.val < 36; omega), dif_pos (show (ix2 p l (1 : Fin 2)).val < 4 from h4), dif_pos h4]
    exact congrArg u (funext fun a => by match a with | ⟨0, _⟩ => rfl | ⟨1, _⟩ => rfl)
  · rw [dif_neg h4]
    by_cases h36 : l.val < 36
    · rw [dif_pos (show (ix2 p l (1 : Fin 2)).val < 36 from h36), dif_neg (show ¬ (ix2 p l (1 : Fin 2)).val < 4 from h4), dif_pos h36]
      exact congrArg v (funext fun a => by match a with | ⟨0, _⟩ => rfl | ⟨1, _⟩ => rfl)
    · rw [dif_neg (show ¬ (ix2 p l (1 : Fin 2)).val < 36 from h36), dif_neg h36]
      exact padZero (fun a => a.elim0)

/-- **The third result.** -/
theorem logits_eq : val_main_v74 (F := Ideal) x0 x1 x2 x3 x4 x5 x6 x7 x8 x9 x10 x11 = logitsArr x0 x1 x2 x3 x4 x5 x6 x7 x8 x9 x10 x11 := by
  funext i
  obtain ⟨p, l, rfl⟩ : ∃ (p : Fin 32768) (l : Fin 128), i = ix2 p l := ⟨_, _, eq_ix2 i⟩
  refine (scores_apply (val_main_v70 (F := Ideal) x0 x1 x2 x3 x4 x5 x6 x7 x8 x9 x10) (val_main_v71 (F := Ideal) x0 x1 x2 x3 x4 x5 x6 x7 x8 x9 x11)
    p l).trans ?_
  show _ = ∑ j : Fin 1024, routedTok x0 x1 x2 x3 x4 x5 x6 x7 x8 x9 (batchR p) (rowR p) j * routeW x10 x11 j l
  have eg : ∀ (q : Fin 4) (k : Fin 1024), lidx_main_v70 (ix2 p q) k = ix2 p k ∧ ridx_main_v70 (ix2 p q) k = ix2 k q := fun q k =>
    ⟨funext fun a => Fin.ext (by match a with | ⟨0, _⟩ => rfl | ⟨1, _⟩ => rfl),
      funext fun a => Fin.ext (by match a with | ⟨0, _⟩ => rfl | ⟨1, _⟩ => rfl)⟩
  have ee : ∀ (q : Fin 32) (k : Fin 1024), lidx_main_v71 (ix2 p q) k = ix2 p k ∧ ridx_main_v71 (ix2 p q) k = ix2 k q := fun q k =>
    ⟨funext fun a => Fin.ext (by match a with | ⟨0, _⟩ => rfl | ⟨1, _⟩ => rfl),
      funext fun a => Fin.ext (by match a with | ⟨0, _⟩ => rfl | ⟨1, _⟩ => rfl)⟩
  by_cases h4 : l.val < 4
  · rw [dif_pos h4, val_main_v70_apply]
    refine Finset.sum_congr rfl fun k _ => ?_
    rw [(eg _ k).1, (eg _ k).2, flat_apply]
    unfold routeW
    rw [dif_pos h4]
  · rw [dif_neg h4]
    by_cases h36 : l.val < 36
    · rw [dif_pos h36, val_main_v71_apply]
      refine Finset.sum_congr rfl fun k _ => ?_
      rw [(ee _ k).1, (ee _ k).2, flat_apply]
      unfold routeW
      rw [dif_neg h4, dif_pos h36]
    · rw [dif_neg h36]
      refine (Finset.sum_eq_zero fun k _ => ?_).symm
      unfold routeW
      rw [dif_neg h4, dif_neg h36, mul_zero]

end Cert.MixOutReferenceIdeal.Mix

end
-- ==== Proof.ProjBlock.lean ====
/-
  THE INPUT PROJECTIONS: one block. The theorems here read the kernel's values at an index: the tokens'
  normalised rows, the one wide product all projections are lanes of, the two inner normalisations with their products,
  and the rotated lanes of the keys and the queries. `stored11` to `stored15` say what one grid point stores.
-/
module

public import proofs.«01_k».proof.Proof.Rms
public import proofs.«01_k».proof.Proof.Gen.ProjInIdeal.Value
public import Idealize.ShloMosaic.PureOps.Ideal.Laws
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pointwise
public import Idealize.ShloMosaic.Lib.Pipeline.ReadBack
public import Idealize.ShloMosaic.Lib.Pipeline.ValueKit.Tiles

@[expose] public section

set_option maxRecDepth 16384

noncomputable section

namespace Cert.ProjInIdeal.Proj

open Idealize.ShloMosaic hiding ix1 ix2 ix3 eq_ix1 eq_ix2 eq_ix3 constant_apply
open Idealize.ShloMosaic.ValueIdx Idealize.ShloMosaic.TcCoe Idealize.SL.Sem
open Cert.ProjInIdeal Cert.ProjInIdeal.Gen
open Cert.Rms
open scoped BigOperators

/-! ### The matrix products and slices -/

theorem dotIn_apply (x : FVec Ideal S512x1024 .bf16) (y : FVec Ideal S1024x1920 .bf16) (r : Fin 512) (k : Fin 1920) :
    matmul (φ₁ := .bf16) (φ₂ := .bf16) dot_S512x1024_S1024x1920_S512x1920_1_0_0_1_n_n none x y (constant S512x1920 .f32 0x00000000#32) (ix2 r k)
      = ∑ j : Fin 1024, x (ix2 r j) * y (ix2 j k) :=
  product_apply _ rfl x y r k

theorem dotQ_apply (x : FVec Ideal S512x384 .bf16) (y : FVec Ideal S384x2048 .bf16) (r : Fin 512) (k : Fin 2048) :
    matmul (φ₁ := .bf16) (φ₂ := .bf16) dot_S512x384_S384x2048_S512x2048_1_0_0_1_n_n none x y (constant S512x2048 .f32 0x00000000#32) (ix2 r k)
      = ∑ j : Fin 384, x (ix2 r j) * y (ix2 j k) :=
  product_apply _ rfl x y r k

theorem dotKV_apply (x : FVec Ideal S512x256 .bf16) (y : FVec Ideal S256x1024 .bf16) (r : Fin 512) (k : Fin 1024) :
    matmul (φ₁ := .bf16) (φ₂ := .bf16) dot_S512x256_S256x1024_S512x1024_1_0_0_1_n_n none x y (constant S512x1024 .f32 0x00000000#32) (ix2 r k)
      = ∑ j : Fin 256, x (ix2 r j) * y (ix2 j k) :=
  product_apply _ rfl x y r k

/-- Lanes `o` onwards of a block, at an index. -/
theorem lanes_apply {N M o : ℕ} (y : FVec Ideal ⟨2, ![512, N]⟩ .f32) (h : (⟨2, ![512, N]⟩ : Shape).Slices ![0, o] ⟨2, ![512, M]⟩)
    (r : Fin 512) (l : Fin M) (k : Fin N) (hk : k.val = o + l.val) :
    extractStridedSlice ⟨2, ![512, M]⟩ ![0, o] y h (ix2 r l) = y (ix2 r k) :=
  extractStridedSlice_apply ![0, o] y h (ix2 r l) (ix2 r k) fun a => by
    match a with
    | ⟨0, _⟩ => show r.val = 0 + r.val; omega
    | ⟨1, _⟩ => exact hk

/-! ### The values -/

/-- The wide product of the normalised and modulated rows. -/
theorem wide_apply (v0 : Vec Ideal S1x512x1024 .f32) (v12 : Vec Ideal S1x1024 .f32) (v16 v22 : Vec Ideal S1x1x1024 .f32)
    (v27 : Vec Ideal S1024x1920 .bf16) (r : Fin 512) (j : Fin 1920) : k0_pay2 (F := Ideal) v0 v12 v16 v22 v27 (ix2 r j)
      = ∑ k : Fin 1024, (rmsRow 0x44800000#32 (fun k' : Fin 1024 => v0 (ix3 (0 : Fin 1) r k')) k * v12 (ix2 (0 : Fin 1) k)
        * (Ideal.ofBits .f32 0x3F800000#32 + v16 (ix3 (0 : Fin 1) (0 : Fin 1) k)) + v22 (ix3 (0 : Fin 1) (0 : Fin 1) k)) * v27 (ix2 k j) := by
  unfold k0_pay2
  dsimp only
  refine (dotIn_apply _ _ r j).trans (Finset.sum_congr rfl fun k _ => ?_)
  refine congrArg₂ (· * ·) ?_ (congrFun (shapeCast_self _ _) _)
  show (_ : EReal) * _ * _ + _ = _ * _ * _ + _
  refine congrArg₂ (· + ·) (congrArg₂ (· * ·) (congrArg₂ (· * ·) ((rms_apply 0x44800000#32 _ reduces_S512x1024_S512 (.inl rfl) rfl shapeCasts_S512_S512x1
    broadcasts_S512x1_S512x1024 r k).trans ?_) ((broadcastTo_1b_ab_apply _ _ r k).trans (congrFun (shapeCast_self _ _) _)))
    ((broadcastTo_1b_ab_apply _ _ r k).trans ?_)) ((broadcastTo_1b_ab_apply _ _ r k).trans (shapeCast_1ab_ab_apply _ _ (0 : Fin 1) k))
  · exact congrArg (fun v => rmsRow 0x44800000#32 v k) (funext fun k' => shapeCast_1ab_ab_apply _ _ r k')
  · show (_ : EReal) + _ = _ + _
    exact congrArg₂ (· + ·) rfl (shapeCast_1ab_ab_apply _ _ (0 : Fin 1) k)

/-- The rotated lanes of the keys. -/
theorem keys_apply (y : FVec Ideal S512x1920 .f32) (v36 v38 : Vec Ideal S512x128 .f32) (r : Fin 512) (l : Fin 128) (k k' : Fin 1920)
    (hk : k.val = 1664 + l.val) (hk' : k'.val = 1792 + l.val) : k0_pay8 (F := Ideal) y v36 v38 (ix3 (0 : Fin 1) r l)
      = y (ix2 r k) * v36 (ix2 r l) + y (ix2 r k') * v38 (ix2 r l) := by
  unfold k0_pay8
  refine (shapeCast_ab_1ab_apply _ _ (0 : Fin 1) r l).trans ?_
  show (_ : EReal) * _ + _ * _ = _ * _ + _ * _
  exact congrArg₂ (· + ·) (congrArg₂ (· * ·) (lanes_apply _ _ r l k hk) (congrFun (shapeCast_self _ _) _))
    (congrArg₂ (· * ·) (lanes_apply _ _ r l k' hk') (congrFun (shapeCast_self _ _) _))

/-- The queries' product, of their compressed rows normalised. -/
theorem queries_apply (y : FVec Ideal S512x1920 .f32) (v60 : Vec Ideal S1x384 .f32) (v65 : Vec Ideal S384x2048 .bf16)
    (r : Fin 512) (l : Fin 2048) : k0_pay9 (F := Ideal) y v60 v65 (ix2 r l)
      = ∑ j : Fin 384, rmsRow 0x43C00000#32 (fun j' : Fin 384 => y (ix2 r ⟨256 + j'.val, by omega⟩)) j * v60 (ix2 (0 : Fin 1) j)
        * v65 (ix2 j l) := by
  unfold k0_pay9
  dsimp only
  refine (dotQ_apply _ _ r l).trans (Finset.sum_congr rfl fun j _ => ?_)
  refine congrArg₂ (· * ·) ?_ (congrFun (shapeCast_self _ _) _)
  show (_ : EReal) * _ = _ * _
  refine congrArg₂ (· * ·) ((rms_apply 0x43C00000#32 _ reduces_S512x384_S512 (.inl rfl) rfl shapeCasts_S512_S512x1
    broadcasts_S512x1_S512x384 r j).trans ?_) ((broadcastTo_1b_ab_apply _ _ r j).trans (congrFun (shapeCast_self _ _) _))
  exact congrArg (fun v => rmsRow 0x43C00000#32 v j) (funext fun j' => lanes_apply _ _ r j' _ rfl)

/-- The keys' and values' product, of their compressed rows normalised. -/
theorem latent_apply (y : FVec Ideal S512x1920 .f32) (v167 : Vec Ideal S1x256 .f32) (v172 : Vec Ideal S256x1024 .bf16)
    (r : Fin 512) (l : Fin 1024) : k0_pay1 (F := Ideal) (k0_pay20 y) v167 v172 (ix3 (0 : Fin 1) r l)
      = ∑ j : Fin 256, rmsRow 0x43800000#32 (fun j' : Fin 256 => y (ix2 r ⟨640 + j'.val, by omega⟩)) j * v167 (ix2 (0 : Fin 1) j)
        * v172 (ix2 j l) := by
  unfold k0_pay1 k0_pay20
  refine (shapeCast_ab_1ab_apply _ _ (0 : Fin 1) r l).trans ?_
  refine (dotKV_apply _ _ r l).trans (Finset.sum_congr rfl fun j _ => ?_)
  refine congrArg₂ (· * ·) ?_ (congrFun (shapeCast_self _ _) _)
  show (_ : EReal) * _ = _ * _
  refine congrArg₂ (· * ·) ((rms_apply 0x43800000#32 _ reduces_S512x256_S512 (.inl rfl) rfl shapeCasts_S512_S512x1
    broadcasts_S512x1_S512x256 r j).trans ?_) ((broadcastTo_1b_ab_apply _ _ r j).trans (congrFun (shapeCast_self _ _) _))
  exact congrArg (fun v => rmsRow 0x43800000#32 v j) (funext fun j' => lanes_apply _ _ r j' _ rfl)

/-- One lane of the rotated queries. -/
def turned (y : FVec Ideal S512x2048 .f32) (ct st : FVec Ideal S512x128 .f32) (r : Fin 512) (l : Fin 1024) : EReal :=
  (y (ix2 r ⟨l.val, by omega⟩) * ct (ix2 r ⟨l.val % 128, by omega⟩)
    + y (ix2 r ⟨1024 + l.val, by omega⟩) * st (ix2 r ⟨l.val % 128, by omega⟩)) * Ideal.ofBits .f32 0x3DD105EC#32

/-- One head's rotated queries: the lanes from `o` on and their partners from `o'` on. -/
theorem head_apply (o o' : ℕ) (ct st : FVec Ideal S512x128 .f32) (y : FVec Ideal S512x2048 .f32)
    (h : S512x2048.Slices ![0, o] S512x128) (h' : S512x2048.Slices ![0, o'] S512x128) (ho' : o' = 1024 + o) (ho : o % 128 = 0)
    (hlt : o + 128 ≤ 1024) (r : Fin 512) (l : Fin 128) (k : Fin 1024) (hk : k.val = o + l.val) :
    shapeCast S1x512x128 (truncf .bf16 (mulf (addf (mulf (extractStridedSlice S512x128 ![0, o] y h) ct)
      (mulf (extractStridedSlice S512x128 ![0, o'] y h') st)) (broadcast S512x128 (Scalar.ofBits .f32 0x3DD105EC#32))) bitsLt_bf16_f32)
      shapeCasts_S512x128_S1x512x128 (ix3 (0 : Fin 1) r l) = turned y ct st r k := by
  refine (shapeCast_ab_1ab_apply _ _ (0 : Fin 1) r l).trans ?_
  have el : (⟨k.val % 128, by omega⟩ : Fin 128) = l := Fin.ext (by show k.val % 128 = l.val; omega)
  unfold turned
  rw [el]
  show ((_ : EReal) * _ + _ * _) * _ = (_ * _ + _ * _) * _
  exact congrArg₂ (· * ·) (congrArg₂ (· + ·) (congrArg₂ (· * ·) (lanes_apply _ _ r l _ hk) rfl)
    (congrArg₂ (· * ·) (lanes_apply _ _ r l _ (by show 1024 + k.val = o' + l.val; omega)) rfl)) rfl

/-! ### What one point stores -/

variable (m : (ℓ : Loc nD τ sig) → Buf (Elt Ideal) ℓ)

/-- A point's wide product, -/
abbrev wideBlk (c : Dev nD) (t : Fin cfg0.N) : FVec Ideal S512x1920 .f32 :=
  k0_pay2 (iblk m c 0 t) (iblk m c 1 t) (iblk m c 3 t) (iblk m c 2 t) (iblk m c 4 t)
/-- and its queries' product. -/
abbrev queryBlk (c : Dev nD) (t : Fin cfg0.N) : FVec Ideal S512x2048 .f32 :=
  k0_pay9 (wideBlk m c t) (iblk m c 5 t) (iblk m c 6 t)

theorem z2 : (![0, 0] : Fin 2 → ℕ) = fun _ => 0 := by decide
theorem z3 : (![0, 0, 0] : Fin 3 → ℕ) = fun _ => 0 := by decide

theorem stored11 (c : Dev nD) (t : Fin cfg0.N) :
    (outsAt0 m c t).1 = extractStridedSlice S512x256 ![0, 0] (wideBlk m c t) slices_S512x1920_o0_0_S512x256 := by
  unfold outsAt0
  dsimp only
  unfold out0_A_11
  rw [View.read_writes_eq_canon _ _ _ (fun _ => cover0_A_11 ..)]
  unfold kernelRun0_A
  dsimp only
  sl_unfold_words
  simp only [View.readAt_eq_ld, (hs0_0 t).read_unread, (hs0_1 t).read_unread, (hs0_2 t).read_unread, (hs0_3 t).read_unread, (hs0_4 t).read_unread]
  rw [View.canon_unit_zero z2]
  simp only [View.ld_unit_zero (S := S1x512x1024) z3, View.ld_unit_zero (S := S1x1024) z2, View.ld_unit_zero (S := S1x1x1024) z3, View.ld_unit_zero (S := S1024x1920) z2]
  rfl

theorem stored13 (c : Dev nD) (t : Fin cfg0.N) :
    (outsAt0 m c t).2.2.1 = k0_pay1 (k0_pay20 (wideBlk m c t)) (iblk m c 7 t) (iblk m c 8 t) := by
  unfold outsAt0
  dsimp only
  unfold out0_A_13
  rw [View.read_writes_eq_canon _ _ _ (fun _ => cover0_A_13 ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_7 t).read_unread, (hs0_8 t).read_unread]
  rw [View.canon_unit_zero z3]
  simp only [View.ld_unit_zero (S := S1x512x1024) z3, View.ld_unit_zero (S := S1x1024) z2, View.ld_unit_zero (S := S1x1x1024) z3, View.ld_unit_zero (S := S1024x1920) z2, View.ld_unit_zero (S := S1x256) z2, View.ld_unit_zero (S := S256x1024) z2]

theorem stored14 (c : Dev nD) (t : Fin cfg0.N) :
    (outsAt0 m c t).2.2.2.1 = k0_pay8 (wideBlk m c t) (X0_9 m c t) (X0_10 m c t) := by
  unfold outsAt0
  dsimp only
  unfold out0_A_14
  rw [View.read_writes_eq_canon _ _ _ (fun _ => cover0_A_14 ..)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_9 t).read_unread, (hs0_10 t).read_unread]
  rw [View.canon_unit_zero z3]
  simp only [View.ld_unit_zero (S := S1x512x1024) z3, View.ld_unit_zero (S := S1x1024) z2, View.ld_unit_zero (S := S1x1x1024) z3, View.ld_unit_zero (S := S1024x1920) z2, View.ld_unit_zero (S := S512x128) z2]

theorem stored15 (c : Dev nD) (t : Fin cfg0.N) :
    (outsAt0 m c t).2.2.2.2 = shapeCast S1x512x768 (extractStridedSlice S512x768 ![0, 896] (wideBlk m c t) slices_S512x1920_o0_896_S512x768) shapeCasts_S512x768_S1x512x768 := by
  unfold outsAt0
  dsimp only
  unfold out0_A_15
  rw [View.read_writes_eq_canon _ _ _ (fun _ => cover0_A_15 ..)]
  unfold kernelRun0_A
  dsimp only
  sl_unfold_words
  simp only [View.readAt_eq_ld, (hs0_0 t).read_unread, (hs0_1 t).read_unread, (hs0_2 t).read_unread, (hs0_3 t).read_unread, (hs0_4 t).read_unread]
  rw [View.canon_unit_zero z3]
  simp only [View.ld_unit_zero (S := S1x512x1024) z3, View.ld_unit_zero (S := S1x1024) z2, View.ld_unit_zero (S := S1x1x1024) z3, View.ld_unit_zero (S := S1024x1920) z2]
  rfl

/-- The contents that eight stores of 128 lanes each leave, at an index: where every store agrees with `Q`, they are `Q`. -/
theorem heads_apply (Q : Fin 512 → Fin 1024 → EReal) (P0 P1 P2 P3 P4 P5 P6 P7 : S1x512x128.Idx → Elt Ideal .bf16)
    (p0 : ∀ (r : Fin 512) (l : Fin 128), P0 (ix3 (0 : Fin 1) r l) = Q r ⟨0 + l.val, by omega⟩)
    (p1 : ∀ (r : Fin 512) (l : Fin 128), P1 (ix3 (0 : Fin 1) r l) = Q r ⟨128 + l.val, by omega⟩)
    (p2 : ∀ (r : Fin 512) (l : Fin 128), P2 (ix3 (0 : Fin 1) r l) = Q r ⟨256 + l.val, by omega⟩)
    (p3 : ∀ (r : Fin 512) (l : Fin 128), P3 (ix3 (0 : Fin 1) r l) = Q r ⟨384 + l.val, by omega⟩)
    (p4 : ∀ (r : Fin 512) (l : Fin 128), P4 (ix3 (0 : Fin 1) r l) = Q r ⟨512 + l.val, by omega⟩)
    (p5 : ∀ (r : Fin 512) (l : Fin 128), P5 (ix3 (0 : Fin 1) r l) = Q r ⟨640 + l.val, by omega⟩)
    (p6 : ∀ (r : Fin 512) (l : Fin 128), P6 (ix3 (0 : Fin 1) r l) = Q r ⟨768 + l.val, by omega⟩)
    (p7 : ∀ (r : Fin 512) (l : Fin 128), P7 (ix3 (0 : Fin 1) r l) = Q r ⟨896 + l.val, by omega⟩)
    (r : Fin 512) (k : Fin 1024) :
    View.canon (Val := Elt Ideal) (e := .bf16) [⟨Rect.unit (s := S1x512x1024) ![0, 0, 896] ![1, 512, 128] inb_S1x512x1024_S1x512x128_0_0_896, P7⟩,
      ⟨Rect.unit (s := S1x512x1024) ![0, 0, 768] ![1, 512, 128] inb_S1x512x1024_S1x512x128_0_0_768, P6⟩,
      ⟨Rect.unit (s := S1x512x1024) ![0, 0, 640] ![1, 512, 128] inb_S1x512x1024_S1x512x128_0_0_640, P5⟩,
      ⟨Rect.unit (s := S1x512x1024) ![0, 0, 512] ![1, 512, 128] inb_S1x512x1024_S1x512x128_0_0_512, P4⟩,
      ⟨Rect.unit (s := S1x512x1024) ![0, 0, 384] ![1, 512, 128] inb_S1x512x1024_S1x512x128_0_0_384, P3⟩,
      ⟨Rect.unit (s := S1x512x1024) ![0, 0, 256] ![1, 512, 128] inb_S1x512x1024_S1x512x128_0_0_256, P2⟩,
      ⟨Rect.unit (s := S1x512x1024) ![0, 0, 128] ![1, 512, 128] inb_S1x512x1024_S1x512x128_0_0_128, P1⟩,
      ⟨Rect.unit (s := S1x512x1024) ![0, 0, 0] ![1, 512, 128] inb_S1x512x1024_S1x512x128_0_0_0, P0⟩] (ix3 (0 : Fin 1) r k) = Q r k := by
  canon_tiles x h
  · obtain ⟨z, r', l, hx⟩ : ∃ (z : Fin 1) (r' : Fin 512) (l : Fin 128), x = ix3 z r' l := ⟨_, _, _, eq_ix3 x⟩
    obtain rfl : z = 0 := Subsingleton.elim _ _
    subst hx
    have er : r = r' := Fin.ext h1
    have ek : k = ⟨896 + l.val, by omega⟩ := Fin.ext (by have h2' : k.val = 896 + l.val := h2; show k.val = 896 + l.val; omega)
    rw [er, ek]
    exact p7 r' l
  · obtain ⟨z, r', l, hx⟩ : ∃ (z : Fin 1) (r' : Fin 512) (l : Fin 128), x = ix3 z r' l := ⟨_, _, _, eq_ix3 x⟩
    obtain rfl : z = 0 := Subsingleton.elim _ _
    subst hx
    have er : r = r' := Fin.ext h1
    have ek : k = ⟨768 + l.val, by omega⟩ := Fin.ext (by have h2' : k.val = 768 + l.val := h2; show k.val = 768 + l.val; omega)
    rw [er, ek]
    exact p6 r' l
  · obtain ⟨z, r', l, hx⟩ : ∃ (z : Fin 1) (r' : Fin 512) (l : Fin 128), x = ix3 z r' l := ⟨_, _, _, eq_ix3 x⟩
    obtain rfl : z = 0 := Subsingleton.elim _ _
    subst hx
    have er : r = r' := Fin.ext h1
    have ek : k = ⟨640 + l.val, by omega⟩ := Fin.ext (by have h2' : k.val = 640 + l.val := h2; show k.val = 640 + l.val; omega)
    rw [er, ek]
    exact p5 r' l
  · obtain ⟨z, r', l, hx⟩ : ∃ (z : Fin 1) (r' : Fin 512) (l : Fin 128), x = ix3 z r' l := ⟨_, _, _, eq_ix3 x⟩
    obtain rfl : z = 0 := Subsingleton.elim _ _
    subst hx
    have er : r = r' := Fin.ext h1
    have ek : k = ⟨512 + l.val, by omega⟩ := Fin.ext (by have h2' : k.val = 512 + l.val := h2; show k.val = 512 + l.val; omega)
    rw [er, ek]
    exact p4 r' l
  · obtain ⟨z, r', l, hx⟩ : ∃ (z : Fin 1) (r' : Fin 512) (l : Fin 128), x = ix3 z r' l := ⟨_, _, _, eq_ix3 x⟩
    obtain rfl : z = 0 := Subsingleton.elim _ _
    subst hx
    have er : r = r' := Fin.ext h1
    have ek : k = ⟨384 + l.val, by omega⟩ := Fin.ext (by have h2' : k.val = 384 + l.val := h2; show k.val = 384 + l.val; omega)
    rw [er, ek]
    exact p3 r' l
  · obtain ⟨z, r', l, hx⟩ : ∃ (z : Fin 1) (r' : Fin 512) (l : Fin 128), x = ix3 z r' l := ⟨_, _, _, eq_ix3 x⟩
    obtain rfl : z = 0 := Subsingleton.elim _ _
    subst hx
    have er : r = r' := Fin.ext h1
    have ek : k = ⟨256 + l.val, by omega⟩ := Fin.ext (by have h2' : k.val = 256 + l.val := h2; show k.val = 256 + l.val; omega)
    rw [er, ek]
    exact p2 r' l
  · obtain ⟨z, r', l, hx⟩ : ∃ (z : Fin 1) (r' : Fin 512) (l : Fin 128), x = ix3 z r' l := ⟨_, _, _, eq_ix3 x⟩
    obtain rfl : z = 0 := Subsingleton.elim _ _
    subst hx
    have er : r = r' := Fin.ext h1
    have ek : k = ⟨128 + l.val, by omega⟩ := Fin.ext (by have h2' : k.val = 128 + l.val := h2; show k.val = 128 + l.val; omega)
    rw [er, ek]
    exact p1 r' l
  · obtain ⟨z, r', l, hx⟩ : ∃ (z : Fin 1) (r' : Fin 512) (l : Fin 128), x = ix3 z r' l := ⟨_, _, _, eq_ix3 x⟩
    obtain rfl : z = 0 := Subsingleton.elim _ _
    subst hx
    have er : r = r' := Fin.ext h1
    have ek : k = ⟨0 + l.val, by omega⟩ := Fin.ext (by have h2' : k.val = l.val := h2; show k.val = 0 + l.val; omega)
    rw [er, ek]
    exact p0 r' l

theorem same_table (x : Vec Ideal S512x128 .f32) : k0_pay6 (F := Ideal) x = x := shapeCast_self _ _
theorem same_table' (x : Vec Ideal S512x128 .f32) : k0_pay7 (F := Ideal) x = x := shapeCast_self _ _

/-- The first head's rotated queries, as the kernel writes them. -/
theorem head0_apply (y : FVec Ideal S512x1920 .f32) (ct st : Vec Ideal S512x128 .f32) (v60 : Vec Ideal S1x384 .f32)
    (v65 : Vec Ideal S384x2048 .bf16) (r : Fin 512) (l : Fin 128) :
    k0_pay11 (F := Ideal) (k0_pay10 y ct st v60 v65) (ix3 (0 : Fin 1) r l) = turned (k0_pay9 y v60 v65) ct st r ⟨0 + l.val, by omega⟩ := by
  unfold k0_pay10
  rw [same_table, same_table']
  exact head_apply 0 1024 _ _ _ slices_S512x2048_o0_0_S512x128 slices_S512x2048_o0_1024_S512x128 rfl rfl (by omega) r l _ rfl

set_option maxHeartbeats 400000 in
theorem stored12 (c : Dev nD) (t : Fin cfg0.N) (r : Fin 512) (k : Fin 1024) :
    ((outsAt0 m c t).2.1 : Vec Ideal S1x512x1024 .bf16) (ix3 (0 : Fin 1) r k) = turned (queryBlk m c t) (X0_9 m c t) (X0_10 m c t) r k := by
  unfold outsAt0
  dsimp only
  unfold out0_A_12
  rw [View.read_writes_eq_canon _ _ _ (fun _ => cover0_A_12 ..)]
  unfold kernelRun0_A
  dsimp only
  sl_unfold_words
  refine heads_apply (turned (queryBlk m c t) (X0_9 m c t) (X0_10 m c t)) _ _ _ _ _ _ _ _ ?_ ?_ ?_ ?_ ?_ ?_ ?_ ?_ r k
  all_goals
    intro r l
    simp only [View.readAt_eq_ld, (hs0_0 t).read_unread, (hs0_1 t).read_unread, (hs0_2 t).read_unread, (hs0_3 t).read_unread, (hs0_4 t).read_unread, (hs0_5 t).read_unread, (hs0_6 t).read_unread, (hs0_9 t).read_unread, (hs0_10 t).read_unread,
      View.ld_unit_zero (S := S1x512x1024) z3, View.ld_unit_zero (S := S1x1024) z2, View.ld_unit_zero (S := S1x1x1024) z3,
      View.ld_unit_zero (S := S1024x1920) z2, View.ld_unit_zero (S := S512x128) z2, View.ld_unit_zero (S := S1x384) z2,
      View.ld_unit_zero (S := S384x2048) z2]
  · exact head0_apply _ _ _ _ _ r l
  · rw [same_table (X0_9 m c t), same_table' (X0_10 m c t)]
    exact head_apply 128 1152 _ _ _ slices_S512x2048_o0_128_S512x128 slices_S512x2048_o0_1152_S512x128 rfl rfl (by omega) r l _ rfl
  · rw [same_table (X0_9 m c t), same_table' (X0_10 m c t)]
    exact head_apply 256 1280 _ _ _ slices_S512x2048_o0_256_S512x128 slices_S512x2048_o0_1280_S512x128 rfl rfl (by omega) r l _ rfl
  · rw [same_table (X0_9 m c t), same_table' (X0_10 m c t)]
    exact head_apply 384 1408 _ _ _ slices_S512x2048_o0_384_S512x128 slices_S512x2048_o0_1408_S512x128 rfl rfl (by omega) r l _ rfl
  · rw [same_table (X0_9 m c t), same_table' (X0_10 m c t)]
    exact head_apply 512 1536 _ _ _ slices_S512x2048_o0_512_S512x128 slices_S512x2048_o0_1536_S512x128 rfl rfl (by omega) r l _ rfl
  · rw [same_table (X0_9 m c t), same_table' (X0_10 m c t)]
    exact head_apply 640 1664 _ _ _ slices_S512x2048_o0_640_S512x128 slices_S512x2048_o0_1664_S512x128 rfl rfl (by omega) r l _ rfl
  · rw [same_table (X0_9 m c t), same_table' (X0_10 m c t)]
    exact head_apply 768 1792 _ _ _ slices_S512x2048_o0_768_S512x128 slices_S512x2048_o0_1792_S512x128 rfl rfl (by omega) r l _ rfl
  · rw [same_table (X0_9 m c t), same_table' (X0_10 m c t)]
    exact head_apply 896 1920 _ _ _ slices_S512x2048_o0_896_S512x128 slices_S512x2048_o0_1920_S512x128 rfl rfl (by omega) r l _ rfl

end Cert.ProjInIdeal.Proj

end
-- ==== Proof.ProjHost.lean ====
/-
  THE INPUT PROJECTIONS: what the program prepares before the call. The rotation's angles and the two tables of their
  cosines and sines, the widened projection with the rotation's partner columns, the widened queries' weights, and the
  gains; each as a function of the arguments.
-/
module

public import proofs.«01_k».proof.Proof.ProjBlock

@[expose] public section

set_option maxRecDepth 16384

noncomputable section

namespace Cert.ProjInIdeal.Proj

open Idealize.ShloMosaic hiding ix1 ix2 ix3 eq_ix1 eq_ix2 eq_ix3 constant_apply
open Idealize.ShloMosaic.ValueIdx Idealize.ShloMosaic.TcCoe Idealize.SL.Sem
open Cert.ProjInIdeal Cert.ProjInIdeal.Gen
open Cert.Rms
open scoped BigOperators

/-! ### The angles -/

/-- The eight frequencies. -/
def freqs : FVec Ideal S8 .f32 :=
  Host.powf (F := Ideal) (φ := .f32) (broadcastInDim S8 ![] bcast_S_S8 (constant (F := Ideal) S_ .f32 0x461C4000#32))
    (Host.divf (Host.negf (F := Ideal) (φ := .f32) (addf (broadcastInDim S8 ![] bcast_S_S8 (constant (F := Ideal) S_ .f32 0x00000000#32))
      (mulf (broadcastInDim S8 ![] bcast_S_S8 (constant (F := Ideal) S_ .f32 0x40000000#32)) (sitofp .f32 (iotaInDim S8 32 0)))))
      (broadcastInDim S8 ![] bcast_S_S8 (constant (F := Ideal) S_ .f32 0x41800000#32)))

/-- A token's row of the 64 by 64 grid, -/
def gridRow : FVec Ideal S4096 .f32 :=
  sitofp .f32 (shapeCast S4096 (broadcastInDim S64x64 ![0] bcast_S64_S64x64_0 (iotaInDim S64 32 0)) shapeCasts_S64x64_S4096)
/-- and its column. -/
def gridCol : FVec Ideal S4096 .f32 :=
  sitofp .f32 (shapeCast S4096 (broadcastInDim S64x64 ![0, 1] bcast_S1x64_S64x64_0_1
    (shapeCast S1x64 (iotaInDim S64 32 0) shapeCasts_S64_S1x64)) shapeCasts_S64x64_S4096)

/-- The angles of a position at all frequencies. -/
def angles (p : FVec Ideal S4096 .f32) : FVec Ideal S4096x8 .f32 :=
  mulf (broadcastInDim S4096x8 ![0, 1] bcast_S4096x1_S4096x8_0_1 (broadcastInDim S4096x1 ![0] bcast_S4096_S4096x1_0 p))
    (broadcastInDim S4096x8 ![0, 1] bcast_S1x8_S4096x8_0_1 (broadcastInDim S1x8 ![1] bcast_S8_S1x8_1 freqs))

/-- The cosines and sines of the rows' and of the columns' angles. -/
def rowCos : FVec Ideal S4096x8 .f32 := Host.cos (angles gridRow)
def rowSin : FVec Ideal S4096x8 .f32 := Host.sin (angles gridRow)
def colCos : FVec Ideal S4096x8 .f32 := Host.cos (angles gridCol)
def colSin : FVec Ideal S4096x8 .f32 := Host.sin (angles gridCol)

/-! ### The tables, as the program builds them -/

/-- A table of 128 lanes: the rows' and the columns' values in lanes 64 to 95, one number elsewhere. -/
def tableOf (z : BitVec 32) (p q : FVec Ideal S4096x8 .f32) : FVec Ideal S4352x128 .f32 :=
  concatenate S4352x128 0 [⟨S4096x128, concatenate S4096x128 1 [⟨S4096x64, broadcastInDim S4096x64 ![] bcast_S_S4096x64 (constant (F := Ideal) S_ .f32 z)⟩,
      ⟨S4096x32, concatenate S4096x32 1 [⟨S4096x8, p⟩, ⟨S4096x8, p⟩, ⟨S4096x8, q⟩, ⟨S4096x8, q⟩] concatenates_S4096x8_S4096x8_S4096x8_S4096x8_S4096x32_d1⟩,
      ⟨S4096x32, broadcastInDim S4096x32 ![] bcast_S_S4096x32 (constant (F := Ideal) S_ .f32 z)⟩] concatenates_S4096x64_S4096x32_S4096x32_S4096x128_d1⟩,
    ⟨S256x128, broadcastInDim S256x128 ![] bcast_S_S256x128 (constant (F := Ideal) S_ .f32 z)⟩] concatenates_S4096x128_S256x128_S4352x128_d0

/-- The key's 32 columns of the projection, -/
def keyCols (w : FVec Ideal S1024x1696 .f32) : FVec Ideal S1024x32 .f32 := extractStridedSlice S1024x32 ![0, 896] w slices_S1024x1696_S1024x32_0_896
/-- and their partners under the rotation, the negated ones negated. -/
def keyPartners (w : FVec Ideal S1024x1696 .f32) : FVec Ideal S1024x32 .f32 :=
  concatenate S1024x32 1 [⟨S1024x8, Host.negf (F := Ideal) (φ := .f32) (extractStridedSlice S1024x8 ![0, 8] (keyCols w) slices_S1024x32_S1024x8_0_8)⟩,
    ⟨S1024x8, extractStridedSlice S1024x8 ![0, 0] (keyCols w) slices_S1024x32_S1024x8_0_0⟩,
    ⟨S1024x8, Host.negf (F := Ideal) (φ := .f32) (extractStridedSlice S1024x8 ![0, 24] (keyCols w) slices_S1024x32_S1024x8_0_24)⟩,
    ⟨S1024x8, extractStridedSlice S1024x8 ![0, 16] (keyCols w) slices_S1024x32_S1024x8_0_16⟩] concatenates_S1024x8_S1024x8_S1024x8_S1024x8_S1024x32_d1
/-- Columns in lanes 64 to 95 of 128, zeros elsewhere. -/
def padCols (x : FVec Ideal S1024x32 .f32) : FVec Ideal S1024x128 .f32 :=
  pad S1024x128 ![0, 64] ![0, 32] ![0, 0] x (sitofp (F := Ideal) .f32 (constantI S_ 32 0#32)) pads_S1024x32_S1024x128_000_64320 h_S_
/-- The widened projection. -/
def wideOf (w : FVec Ideal S1024x1696 .f32) : FVec Ideal S1024x1920 .f32 :=
  concatenate S1024x1920 1 [⟨S1024x896, extractStridedSlice S1024x896 ![0, 0] w slices_S1024x1696_S1024x896_0_0⟩,
    ⟨S1024x768, extractStridedSlice S1024x768 ![0, 928] w slices_S1024x1696_S1024x768_0_928⟩,
    ⟨S1024x128, padCols (keyCols w)⟩, ⟨S1024x128, padCols (keyPartners w)⟩] concatenates_S1024x896_S1024x768_S1024x128_S1024x128_S1024x1920_d1

/-- The queries' weights by head, -/
def headCols (w : FVec Ideal S384x768 .f32) : FVec Ideal S384x8x96 .f32 := shapeCast S384x8x96 w shapeCasts_S384x768_S384x8x96
/-- the rotated 32 of every head, -/
def headRope (w : FVec Ideal S384x768 .f32) : FVec Ideal S384x8x32 .f32 := extractStridedSlice S384x8x32 ![0, 0, 64] (headCols w) slices_S384x8x96_S384x8x32_0_0_64
/-- their partners, -/
def headTurn (w : FVec Ideal S384x768 .f32) : FVec Ideal S384x8x32 .f32 :=
  concatenate S384x8x32 2 [⟨S384x8x8, Host.negf (F := Ideal) (φ := .f32) (extractStridedSlice S384x8x8 ![0, 0, 8] (headRope w) slices_S384x8x32_S384x8x8_0_0_8)⟩,
    ⟨S384x8x8, extractStridedSlice S384x8x8 ![0, 0, 0] (headRope w) slices_S384x8x32_S384x8x8_0_0_0⟩,
    ⟨S384x8x8, Host.negf (F := Ideal) (φ := .f32) (extractStridedSlice S384x8x8 ![0, 0, 24] (headRope w) slices_S384x8x32_S384x8x8_0_0_24)⟩,
    ⟨S384x8x8, extractStridedSlice S384x8x8 ![0, 0, 16] (headRope w) slices_S384x8x32_S384x8x8_0_0_16⟩] concatenates_S384x8x8_S384x8x8_S384x8x8_S384x8x8_S384x8x32_d2
/-- and the partners of all 96, zeros for those not rotated. -/
def headPartners (w : FVec Ideal S384x768 .f32) : FVec Ideal S384x8x96 .f32 :=
  concatenate S384x8x96 2 [⟨S384x8x64, broadcastInDim S384x8x64 ![] bcast_S_S384x8x64 (constant (F := Ideal) S_ .f32 0x00000000#32)⟩,
    ⟨S384x8x32, headTurn w⟩] concatenates_S384x8x64_S384x8x32_S384x8x96_d2
/-- 96 lanes of every head widened to 128 by zeros. -/
def padHeads (x : FVec Ideal S384x8x96 .f32) : FVec Ideal S384x8x128 .f32 :=
  pad S384x8x128 ![0, 0, 0] ![0, 0, 32] ![0, 0, 0] x (sitofp (F := Ideal) .f32 (constantI S_ 32 0#32)) pads_S384x8x96_S384x8x128_000_000_0320 h_S_
/-- The widened queries' weights. -/
def queryOf (w : FVec Ideal S384x768 .f32) : FVec Ideal S384x2048 .f32 :=
  concatenate S384x2048 1 [⟨S384x1024, shapeCast S384x1024 (padHeads (headCols w)) shapeCasts_S384x8x128_S384x1024⟩,
    ⟨S384x1024, shapeCast S384x1024 (padHeads (headPartners w)) shapeCasts_S384x8x128_S384x1024⟩] concatenates_S384x1024_S384x1024_S384x2048_d1

/-! ### What the call finds -/

variable (m : (ℓ : Loc nD τ sig) → Buf (Elt Ideal) ℓ)

theorem cosTable_eq (c : Dev nD) : (V m c main_v42 : Vec Ideal S4352x128 .f32)
    = tableOf 0x3F800000#32 rowCos colCos := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem sinTable_eq (c : Dev nD) : (V m c main_v44 : Vec Ideal S4352x128 .f32)
    = tableOf 0x00000000#32 rowSin colSin := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem wide_eq (c : Dev nD) : (V m c main_v75 : Vec Ideal S1024x1920 .bf16)
    = truncf (F := Ideal) .bf16 (wideOf (m ((c : Thread nD τ).loc main_arg4))) bitsLt_bf16_f32 := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem query_eq (c : Dev nD) : (V m c main_v76 : Vec Ideal S384x2048 .bf16)
    = truncf (F := Ideal) .bf16 (queryOf (m ((c : Thread nD τ).loc main_arg6))) bitsLt_bf16_f32 := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem gains_eq (c : Dev nD) : (V m c main_v80 : Vec Ideal S1x1024 .f32)
    = shapeCast S1x1024 (m ((c : Thread nD τ).loc main_arg1)) shapeCasts_S1024_S1x1024 := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem gainsQ_eq (c : Dev nD) : (V m c main_v81 : Vec Ideal S1x384 .f32)
    = shapeCast S1x384 (m ((c : Thread nD τ).loc main_arg5)) shapeCasts_S384_S1x384 := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem gainsKV_eq (c : Dev nD) : (V m c main_v82 : Vec Ideal S1x256 .f32)
    = shapeCast S1x256 (m ((c : Thread nD τ).loc main_arg7)) shapeCasts_S256_S1x256 := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem weightsKV_eq (c : Dev nD) : (V m c main_v83 : Vec Ideal S256x1024 .bf16)
    = truncf (F := Ideal) .bf16 ((m ((c : Thread nD τ).loc main_arg8)) : Vec Ideal S256x1024 .f32) bitsLt_bf16_f32 := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results

theorem zeroU_eq (c : Dev nD) : (V m c main_v84_0 : Vec Ideal S4352x2048 .f32)
    = (broadcastInDim S4352x2048 ![] bcast_S_S4352x2048 (constant (F := Ideal) S_ .f32 0x00000000#32) : Vec Ideal S4352x2048 .f32) := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem zeroKV_eq (c : Dev nD) : (V m c main_v84_2 : Vec Ideal S8x4352x1024 .bf16)
    = (broadcastInDim S8x4352x1024 ![] bcast_S_S8x4352x1024 (constant (F := Ideal) S_ .bf16 0x0000#16) : Vec Ideal S8x4352x1024 .bf16) := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

theorem zeroK_eq (c : Dev nD) : (V m c main_v84_3 : Vec Ideal S8x4352x128 .bf16)
    = (broadcastInDim S8x4352x128 ![] bcast_S_S8x4352x128 (constant (F := Ideal) S_ .bf16 0x0000#16) : Vec Ideal S8x4352x128 .bf16) := by
  unfold_abbrev_sides
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

end Cert.ProjInIdeal.Proj

end
-- ==== Proof.ProjTable.lean ====
/-
  THE INPUT PROJECTIONS: the prepared tables and weights at an index. `partner` is the rotation's partner of a lane, `slot`
  puts 32 values in lanes 64 to 95 of 128; `tableOf_apply`, `wideOf_apply` and `queryOf_apply` read what `ProjHost` defines.
-/
module

public import proofs.«01_k».proof.Proof.ProjHost
public import Idealize.ShloMosaic.Lib.KernelVsHost

@[expose] public section

set_option maxRecDepth 16384

noncomputable section

namespace Cert.ProjInIdeal.Proj

open Idealize.ShloMosaic hiding ix1 ix2 ix3 eq_ix1 eq_ix2 eq_ix3 constant_apply
open Idealize.ShloMosaic.ValueIdx Idealize.ShloMosaic.TcCoe Idealize.SL.Sem
open Cert.ProjInIdeal Cert.ProjInIdeal.Gen
open Cert.Rms
open scoped BigOperators

/-! ### Concatenations along the last axis -/

/-- Piece `k` of rows laid side by side. -/
theorem side2 {A N M : ℕ} (xs : List ((s : Shape) × (s.Idx → EReal))) (h : Shape.Concatenates (xs.map (·.1)) ⟨2, ![A, N]⟩ 1)
    (r : Fin A) (l : Fin N) (k : ℕ) (hk : k < xs.length) (x : (⟨2, ![A, M]⟩ : Shape).Idx → EReal) (hx : xs[k] = ⟨⟨2, ![A, M]⟩, x⟩) (pre : ℕ)
    (hpre : (((xs.take k).map (·.1)).map fun s => if h : s.rank = 2 then s.size ((1 : Fin 2).cast h.symm) else 0).sum = pre)
    (l' : Fin M) (hl : pre + l'.val = l.val) : concatenate ⟨2, ![A, N]⟩ 1 xs h (ix2 r l) = x (ix2 r l') :=
  concatenate_apply_piece (t := ⟨2, ![A, N]⟩) (1 : Fin 2) xs h (ix2 r l) k hk _ x hx rfl pre hpre (ix2 r l')
    (fun b hb => by match b with | ⟨0, _⟩ => rfl | ⟨1, _⟩ => exact absurd rfl hb) hl

/-- Piece `k` of blocks laid side by side. -/
theorem side3 {A B N M : ℕ} (xs : List ((s : Shape) × (s.Idx → EReal))) (h : Shape.Concatenates (xs.map (·.1)) ⟨3, ![A, B, N]⟩ 2)
    (r : Fin A) (b : Fin B) (l : Fin N) (k : ℕ) (hk : k < xs.length) (x : (⟨3, ![A, B, M]⟩ : Shape).Idx → EReal)
    (hx : xs[k] = ⟨⟨3, ![A, B, M]⟩, x⟩) (pre : ℕ)
    (hpre : (((xs.take k).map (·.1)).map fun s => if h : s.rank = 3 then s.size ((2 : Fin 3).cast h.symm) else 0).sum = pre)
    (l' : Fin M) (hl : pre + l'.val = l.val) : concatenate ⟨3, ![A, B, N]⟩ 2 xs h (ix3 r b l) = x (ix3 r b l') :=
  concatenate_apply_piece (t := ⟨3, ![A, B, N]⟩) (2 : Fin 3) xs h (ix3 r b l) k hk _ x hx rfl pre hpre (ix3 r b l')
    (fun a ha => by match a with | ⟨0, _⟩ => rfl | ⟨1, _⟩ => rfl | ⟨2, _⟩ => exact absurd rfl ha) hl

/-- The zero the weights are padded with. -/
theorem padZero (i : S_.Idx) : sitofp (F := Ideal) .f32 (constantI S_ 32 0#32) i = (0 : EReal) := by
  show ((((0#32 : BitVec 32).toInt : ℤ) : ℝ) : EReal) = 0
  simp

/-! ### Lanes -/

/-- The partner of lane `i` of 32: the rotation turns lanes 0 to 7 with 8 to 15, and 16 to 23 with 24 to 31. -/
def partner (f : Fin 32 → EReal) (i : Fin 32) : EReal :=
  if h : i.val < 8 then -f ⟨i.val + 8, by omega⟩ else if h2 : i.val < 16 then f ⟨i.val - 8, by omega⟩
  else if h3 : i.val < 24 then -f ⟨i.val + 8, by omega⟩ else f ⟨i.val - 8, by omega⟩

/-- 32 values in lanes 64 to 95, `z` elsewhere. -/
def slot (z : EReal) (f : Fin 32 → EReal) (l : Fin 128) : EReal :=
  if h : 64 ≤ l.val ∧ l.val < 96 then f ⟨l.val - 64, by omega⟩ else z

/-- The 32 lanes of a table: the row's values twice, the column's twice. -/
def angleLane (p q : FVec Ideal S4096x8 .f32) (n : Fin 4096) (i : Fin 32) : EReal :=
  if i.val < 16 then p (ix2 n ⟨i.val % 8, by omega⟩) else q (ix2 n ⟨i.val % 8, by omega⟩)

theorem fourTables_apply (p q : FVec Ideal S4096x8 .f32) (n : Fin 4096) (i : Fin 32) :
    concatenate S4096x32 1 [⟨S4096x8, p⟩, ⟨S4096x8, p⟩, ⟨S4096x8, q⟩, ⟨S4096x8, q⟩]
      concatenates_S4096x8_S4096x8_S4096x8_S4096x8_S4096x32_d1 (ix2 n i) = angleLane p q n i := by
  unfold angleLane
  by_cases h1 : i.val < 8
  · rw [if_pos (by omega)]
    exact side2 _ _ n i 0 (by simp) p rfl 0 rfl _ (by show 0 + i.val % 8 = i.val; omega)
  by_cases h2 : i.val < 16
  · rw [if_pos (by omega)]
    exact side2 _ _ n i 1 (by simp) p rfl 8 rfl _ (by show 8 + i.val % 8 = i.val; omega)
  rw [if_neg (by omega)]
  by_cases h3 : i.val < 24
  · exact side2 _ _ n i 2 (by simp) q rfl 16 rfl _ (by show 16 + i.val % 8 = i.val; omega)
  · exact side2 _ _ n i 3 (by simp) q rfl 24 rfl _ (by show 24 + i.val % 8 = i.val; omega)

theorem table4096_apply (z : BitVec 32) (p q : FVec Ideal S4096x8 .f32) (n : Fin 4096) (l : Fin 128) :
    concatenate S4096x128 1 [⟨S4096x64, broadcastInDim S4096x64 ![] bcast_S_S4096x64 (constant (F := Ideal) S_ .f32 z)⟩,
      ⟨S4096x32, concatenate S4096x32 1 [⟨S4096x8, p⟩, ⟨S4096x8, p⟩, ⟨S4096x8, q⟩, ⟨S4096x8, q⟩] concatenates_S4096x8_S4096x8_S4096x8_S4096x8_S4096x32_d1⟩,
      ⟨S4096x32, broadcastInDim S4096x32 ![] bcast_S_S4096x32 (constant (F := Ideal) S_ .f32 z)⟩] concatenates_S4096x64_S4096x32_S4096x32_S4096x128_d1 (ix2 n l)
      = slot (Ideal.ofBits .f32 z) (angleLane p q n) l := by
  unfold slot
  by_cases h1 : l.val < 64
  · rw [dif_neg (by omega)]
    exact side2 _ _ n l 0 (by simp) (broadcastInDim S4096x64 ![] bcast_S_S4096x64 (constant (F := Ideal) S_ .f32 z)) rfl 0 rfl ⟨l.val, h1⟩ (Nat.zero_add _)
  by_cases h2 : l.val < 96
  · rw [dif_pos ⟨by omega, h2⟩]
    exact (side2 _ _ n l 1 (by simp) _ rfl 64 rfl ⟨l.val - 64, by omega⟩ (by show 64 + (l.val - 64) = l.val; omega)).trans (fourTables_apply p q n _)
  · rw [dif_neg (by omega)]
    exact side2 _ _ n l 2 (by simp) (broadcastInDim S4096x32 ![] bcast_S_S4096x32 (constant (F := Ideal) S_ .f32 z)) rfl 96 rfl ⟨l.val - 96, by omega⟩
      (by show 96 + (l.val - 96) = l.val; omega)

/-- A table, at a token's row. -/
theorem tableOf_apply (z : BitVec 32) (p q : FVec Ideal S4096x8 .f32) (n : Fin 4096) (n' : Fin 4352) (hn : n'.val = n.val) (l : Fin 128) :
    tableOf z p q (ix2 n' l) = slot (Ideal.ofBits .f32 z) (angleLane p q n) l := by
  unfold tableOf
  exact (concatenate_pair_apply_left (t := S4352x128) (s₁ := S4096x128) (s₂ := S256x128) (0 : Fin 2) _ _ concatenates_S4096x128_S256x128_S4352x128_d0 (ix2 n' l) rfl (ix2 n l : S4096x128.Idx)
    (fun b => by match b with | ⟨0, _⟩ => exact hn.symm | ⟨1, _⟩ => rfl)).trans (table4096_apply z p q n l)

/-! ### The widened projection -/

/-- The key's columns of a projection, one row of it. -/
def keyRow (w : FVec Ideal S1024x1696 .f32) (j : Fin 1024) (i : Fin 32) : EReal := w (ix2 j ⟨896 + i.val, by omega⟩)

theorem keyCols_apply (w : FVec Ideal S1024x1696 .f32) (j : Fin 1024) (i : Fin 32) : keyCols w (ix2 j i) = keyRow w j i :=
  extractStridedSlice_apply ![0, 896] w _ (ix2 j i) (ix2 j ⟨896 + i.val, by omega⟩) fun a => by
    match a with
    | ⟨0, _⟩ => show j.val = 0 + j.val; omega
    | ⟨1, _⟩ => rfl

theorem quarter_apply (x : FVec Ideal S1024x32 .f32) (o : ℕ) (h : S1024x32.Slices ![0, o] S1024x8) (j : Fin 1024) (i : Fin 8) (k : Fin 32)
    (hk : k.val = o + i.val) : extractStridedSlice S1024x8 ![0, o] x h (ix2 j i) = x (ix2 j k) :=
  extractStridedSlice_apply ![0, o] x h (ix2 j i) _ fun a => by
    match a with
    | ⟨0, _⟩ => show j.val = 0 + j.val; omega
    | ⟨1, _⟩ => exact hk

theorem keyPartners_apply (w : FVec Ideal S1024x1696 .f32) (j : Fin 1024) (i : Fin 32) : keyPartners w (ix2 j i) = partner (keyRow w j) i := by
  unfold keyPartners partner
  by_cases h1 : i.val < 8
  · rw [dif_pos h1]
    refine (side2 _ _ j i 0 (by simp) _ rfl 0 rfl ⟨i.val, h1⟩ (Nat.zero_add _)).trans ?_
    exact congrArg (fun e : EReal => -e) ((quarter_apply (keyCols w) 8 slices_S1024x32_S1024x8_0_8 j _ ⟨i.val + 8, by omega⟩ (by show i.val + 8 = 8 + i.val; omega)).trans (keyCols_apply w j _))
  rw [dif_neg h1]
  by_cases h2 : i.val < 16
  · rw [dif_pos h2]
    refine (side2 _ _ j i 1 (by simp) _ rfl 8 rfl ⟨i.val - 8, by omega⟩ (by show 8 + (i.val - 8) = i.val; omega)).trans ?_
    exact (quarter_apply (keyCols w) 0 slices_S1024x32_S1024x8_0_0 j _ ⟨i.val - 8, by omega⟩ (by show i.val - 8 = 0 + (i.val - 8); omega)).trans (keyCols_apply w j _)
  rw [dif_neg h2]
  by_cases h3 : i.val < 24
  · rw [dif_pos h3]
    refine (side2 _ _ j i 2 (by simp) _ rfl 16 rfl ⟨i.val - 16, by omega⟩ (by show 16 + (i.val - 16) = i.val; omega)).trans ?_
    exact congrArg (fun e : EReal => -e) ((quarter_apply (keyCols w) 24 slices_S1024x32_S1024x8_0_24 j _ ⟨i.val + 8, by omega⟩ (by show i.val + 8 = 24 + (i.val - 16); omega)).trans (keyCols_apply w j _))
  · rw [dif_neg h3]
    refine (side2 _ _ j i 3 (by simp) _ rfl 24 rfl ⟨i.val - 24, by omega⟩ (by show 24 + (i.val - 24) = i.val; omega)).trans ?_
    exact (quarter_apply (keyCols w) 16 slices_S1024x32_S1024x8_0_16 j _ ⟨i.val - 8, by omega⟩ (by show i.val - 8 = 16 + (i.val - 24); omega)).trans (keyCols_apply w j _)

theorem padCols_apply (x : FVec Ideal S1024x32 .f32) (j : Fin 1024) (l : Fin 128) : padCols x (ix2 j l) = slot 0 (fun i => x (ix2 j i)) l := by
  unfold padCols slot
  by_cases h : 64 ≤ l.val ∧ l.val < 96
  · rw [dif_pos h]
    exact pad_apply_of_inside _ _ _ x _ _ _ (ix2 j l) (ix2 j ⟨l.val - 64, by omega⟩) fun a => by
      match a with
      | ⟨0, _⟩ => show j.val = 0 + j.val * (0 + 1); omega
      | ⟨1, _⟩ => show l.val = 64 + (l.val - 64) * (0 + 1); omega
  · rw [dif_neg h]
    refine (pad_apply_of_not_inside _ _ _ x _ _ _ (ix2 j l) (1 : Fin 2) ?_).trans (padZero _)
    show ¬(64 ≤ l.val ∧ (l.val - 64) % (0 + 1) = 0 ∧ (l.val - 64) / (0 + 1) < 32)
    omega

/-- The widened projection: the first 896 columns, the last 768, the key's in their slot, and their partners. -/
def wideW (w : FVec Ideal S1024x1696 .f32) (j : Fin 1024) (l : Fin 1920) : EReal :=
  if h : l.val < 896 then w (ix2 j ⟨l.val, by omega⟩) else if h2 : l.val < 1664 then w (ix2 j ⟨l.val + 32, by omega⟩)
  else if h3 : l.val < 1792 then slot 0 (keyRow w j) ⟨l.val - 1664, by omega⟩ else slot 0 (partner (keyRow w j)) ⟨l.val - 1792, by omega⟩

theorem wideOf_apply (w : FVec Ideal S1024x1696 .f32) (j : Fin 1024) (l : Fin 1920) : wideOf w (ix2 j l) = wideW w j l := by
  unfold wideOf wideW
  by_cases h1 : l.val < 896
  · rw [dif_pos h1]
    refine (side2 _ _ j l 0 (by simp) _ rfl 0 rfl ⟨l.val, h1⟩ (Nat.zero_add _)).trans ?_
    exact extractStridedSlice_apply ![0, 0] w _ (ix2 j ⟨l.val, h1⟩) (ix2 j ⟨l.val, by omega⟩) fun a => by
      match a with
      | ⟨0, _⟩ => show j.val = 0 + j.val; omega
      | ⟨1, _⟩ => show l.val = 0 + l.val; omega
  rw [dif_neg h1]
  by_cases h2 : l.val < 1664
  · rw [dif_pos h2]
    refine (side2 _ _ j l 1 (by simp) _ rfl 896 rfl ⟨l.val - 896, by omega⟩ (by show 896 + (l.val - 896) = l.val; omega)).trans ?_
    exact extractStridedSlice_apply ![0, 928] w _ (ix2 j ⟨l.val - 896, by omega⟩) (ix2 j ⟨l.val + 32, by omega⟩) fun a => by
      match a with
      | ⟨0, _⟩ => show j.val = 0 + j.val; omega
      | ⟨1, _⟩ => show l.val + 32 = 928 + (l.val - 896); omega
  rw [dif_neg h2]
  by_cases h3 : l.val < 1792
  · rw [dif_pos h3]
    refine (side2 _ _ j l 2 (by simp) _ rfl 1664 rfl ⟨l.val - 1664, by omega⟩ (by show 1664 + (l.val - 1664) = l.val; omega)).trans ?_
    exact (padCols_apply _ j _).trans (congrArg (fun f => slot 0 f _) (funext fun i => keyCols_apply w j i))
  · rw [dif_neg h3]
    refine (side2 _ _ j l 3 (by simp) _ rfl 1792 rfl ⟨l.val - 1792, by omega⟩ (by show 1792 + (l.val - 1792) = l.val; omega)).trans ?_
    exact (padCols_apply _ j _).trans (congrArg (fun f => slot 0 f _) (funext fun i => keyPartners_apply w j i))

/-! ### The widened queries' weights -/

/-- Lane `i` of head `e`, -/
def headLane (w : FVec Ideal S384x768 .f32) (j : Fin 384) (e : Fin 8) (i : Fin 96) : EReal := w (ix2 j ⟨e.val * 96 + i.val, by omega⟩)
/-- and of its rotated 32. -/
def headKey (w : FVec Ideal S384x768 .f32) (j : Fin 384) (e : Fin 8) (i : Fin 32) : EReal := headLane w j e ⟨64 + i.val, by omega⟩

theorem headCols_apply (w : FVec Ideal S384x768 .f32) (j : Fin 384) (e : Fin 8) (i : Fin 96) : headCols w (ix3 j e i) = headLane w j e i :=
  shapeCast_apply w _ (ix3 j e i) (ix2 j ⟨e.val * 96 + i.val, by omega⟩) (by
    rw [Shape.rowMajor_val_two, Shape.rowMajor_val_three]
    show j.val * 768 + (e.val * 96 + i.val) = (j.val * 8 + e.val) * 96 + i.val
    omega)

theorem headRope_apply (w : FVec Ideal S384x768 .f32) (j : Fin 384) (e : Fin 8) (i : Fin 32) : headRope w (ix3 j e i) = headKey w j e i :=
  (extractStridedSlice_apply ![0, 0, 64] (headCols w) _ (ix3 j e i) (ix3 j e ⟨64 + i.val, by omega⟩) fun a => by
    match a with
    | ⟨0, _⟩ => show j.val = 0 + j.val; omega
    | ⟨1, _⟩ => show e.val = 0 + e.val; omega
    | ⟨2, _⟩ => rfl).trans (headCols_apply w j e _)

theorem quarter3_apply (x : FVec Ideal S384x8x32 .f32) (o : ℕ) (h : S384x8x32.Slices ![0, 0, o] S384x8x8) (j : Fin 384) (e : Fin 8) (i : Fin 8) (k : Fin 32)
    (hk : k.val = o + i.val) : extractStridedSlice S384x8x8 ![0, 0, o] x h (ix3 j e i) = x (ix3 j e k) :=
  extractStridedSlice_apply ![0, 0, o] x h (ix3 j e i) _ fun a => by
    match a with
    | ⟨0, _⟩ => show j.val = 0 + j.val; omega
    | ⟨1, _⟩ => show e.val = 0 + e.val; omega
    | ⟨2, _⟩ => exact hk

theorem headTurn_apply (w : FVec Ideal S384x768 .f32) (j : Fin 384) (e : Fin 8) (i : Fin 32) : headTurn w (ix3 j e i) = partner (headKey w j e) i := by
  unfold headTurn partner
  by_cases h1 : i.val < 8
  · rw [dif_pos h1]
    refine (side3 _ _ j e i 0 (by simp) _ rfl 0 rfl ⟨i.val, h1⟩ (Nat.zero_add _)).trans ?_
    exact congrArg (fun e : EReal => -e) ((quarter3_apply (headRope w) 8 slices_S384x8x32_S384x8x8_0_0_8 j e _ ⟨i.val + 8, by omega⟩ (by show i.val + 8 = 8 + i.val; omega)).trans (headRope_apply w j e _))
  rw [dif_neg h1]
  by_cases h2 : i.val < 16
  · rw [dif_pos h2]
    refine (side3 _ _ j e i 1 (by simp) _ rfl 8 rfl ⟨i.val - 8, by omega⟩ (by show 8 + (i.val - 8) = i.val; omega)).trans ?_
    exact (quarter3_apply (headRope w) 0 slices_S384x8x32_S384x8x8_0_0_0 j e _ ⟨i.val - 8, by omega⟩ (by show i.val - 8 = 0 + (i.val - 8); omega)).trans (headRope_apply w j e _)
  rw [dif_neg h2]
  by_cases h3 : i.val < 24
  · rw [dif_pos h3]
    refine (side3 _ _ j e i 2 (by simp) _ rfl 16 rfl ⟨i.val - 16, by omega⟩ (by show 16 + (i.val - 16) = i.val; omega)).trans ?_
    exact congrArg (fun e : EReal => -e) ((quarter3_apply (headRope w) 24 slices_S384x8x32_S384x8x8_0_0_24 j e _ ⟨i.val + 8, by omega⟩ (by show i.val + 8 = 24 + (i.val - 16); omega)).trans (headRope_apply w j e _))
  · rw [dif_neg h3]
    refine (side3 _ _ j e i 3 (by simp) _ rfl 24 rfl ⟨i.val - 24, by omega⟩ (by show 24 + (i.val - 24) = i.val; omega)).trans ?_
    exact (quarter3_apply (headRope w) 16 slices_S384x8x32_S384x8x8_0_0_16 j e _ ⟨i.val - 8, by omega⟩ (by show i.val - 8 = 16 + (i.val - 24); omega)).trans (headRope_apply w j e _)

theorem padHeads_apply (x : FVec Ideal S384x8x96 .f32) (j : Fin 384) (e : Fin 8) (l : Fin 128) :
    padHeads x (ix3 j e l) = if h : l.val < 96 then x (ix3 j e ⟨l.val, h⟩) else 0 := by
  unfold padHeads
  by_cases h : l.val < 96
  · rw [dif_pos h]
    exact pad_apply_of_inside _ _ _ x _ _ _ (ix3 j e l) (ix3 j e ⟨l.val, h⟩) fun a => by
      match a with
      | ⟨0, _⟩ => show j.val = 0 + j.val * (0 + 1); omega
      | ⟨1, _⟩ => show e.val = 0 + e.val * (0 + 1); omega
      | ⟨2, _⟩ => show l.val = 0 + l.val * (0 + 1); omega
  · rw [dif_neg h]
    refine (pad_apply_of_not_inside _ _ _ x _ _ _ (ix3 j e l) (2 : Fin 3) ?_).trans (padZero _)
    show ¬(0 ≤ l.val ∧ (l.val - 0) % (0 + 1) = 0 ∧ (l.val - 0) / (0 + 1) < 96)
    omega

theorem padPartners_apply (w : FVec Ideal S384x768 .f32) (j : Fin 384) (e : Fin 8) (l : Fin 128) :
    padHeads (headPartners w) (ix3 j e l) = slot 0 (partner (headKey w j e)) l := by
  rw [padHeads_apply]
  unfold slot headPartners
  by_cases h1 : l.val < 64
  · rw [dif_neg (show ¬ (64 ≤ l.val ∧ l.val < 96) by omega), dif_pos (show l.val < 96 by omega)]
    refine Eq.trans ?_ zeroBits
    exact (side3 _ _ j e _ 0 (by simp) (broadcastInDim S384x8x64 ![] bcast_S_S384x8x64 (constant (F := Ideal) S_ .f32 0x00000000#32)) rfl 0 rfl
      ⟨l.val, h1⟩ (Nat.zero_add _))
  by_cases h2 : l.val < 96
  · rw [dif_pos (show 64 ≤ l.val ∧ l.val < 96 by omega), dif_pos h2]
    exact (side3 _ _ j e _ 1 (by simp) _ rfl 64 rfl ⟨l.val - 64, by omega⟩ (by show 64 + (l.val - 64) = l.val; omega)).trans (headTurn_apply w j e _)
  · rw [dif_neg (show ¬ (64 ≤ l.val ∧ l.val < 96) by omega), dif_neg h2]

/-- One lane of the widened queries' weights: the head's own 96, zeros; -/
def ownW (w : FVec Ideal S384x768 .f32) (j : Fin 384) (l : Fin 1024) : EReal :=
  if h : l.val % 128 < 96 then headLane w j ⟨l.val / 128, by omega⟩ ⟨l.val % 128, h⟩ else 0
/-- and their partners in the slot. -/
def turnW (w : FVec Ideal S384x768 .f32) (j : Fin 384) (l : Fin 1024) : EReal :=
  slot 0 (partner (headKey w j ⟨l.val / 128, by omega⟩)) ⟨l.val % 128, by omega⟩

theorem flatHeads_apply (x : FVec Ideal S384x8x128 .f32) (j : Fin 384) (l : Fin 1024) :
    shapeCast S384x1024 x shapeCasts_S384x8x128_S384x1024 (ix2 j l) = x (ix3 j ⟨l.val / 128, by omega⟩ ⟨l.val % 128, by omega⟩) :=
  shapeCast_apply x _ (ix2 j l) (ix3 j ⟨l.val / 128, by omega⟩ ⟨l.val % 128, by omega⟩) (by
    rw [Shape.rowMajor_val_two, Shape.rowMajor_val_three]
    show (j.val * 8 + l.val / 128) * 128 + l.val % 128 = j.val * 1024 + l.val
    omega)

theorem queryOf_own (w : FVec Ideal S384x768 .f32) (j : Fin 384) (l : Fin 1024) (k : Fin 2048) (hk : k.val = l.val) : queryOf w (ix2 j k) = ownW w j l := by
  unfold queryOf ownW
  exact (side2 _ _ j k 0 (by simp) _ rfl 0 rfl l (by omega)).trans ((flatHeads_apply _ j l).trans ((padHeads_apply _ _ _ _).trans
    (dite_congr rfl (fun _ => headCols_apply w j _ _) fun _ => rfl)))

theorem queryOf_turn (w : FVec Ideal S384x768 .f32) (j : Fin 384) (l : Fin 1024) (k : Fin 2048) (hk : k.val = 1024 + l.val) : queryOf w (ix2 j k) = turnW w j l := by
  unfold queryOf turnW
  exact (side2 _ _ j k 1 (by simp) _ rfl 1024 rfl l (by omega)).trans ((flatHeads_apply _ j l).trans (padPartners_apply _ _ _ _))

end Cert.ProjInIdeal.Proj

end
-- ==== Proof.ProjArray.lean ====
/-
  THE INPUT PROJECTIONS: the arrays. What the kernel's five result arrays end holding, as functions of its arguments:
  `mixArr`, `queryArr`, `latentArr`, `keyArr` and `hyenaArr`, and a grid point's values as rows of them.
-/
module

public import proofs.«01_k».proof.Proof.ProjTable

@[expose] public section

set_option maxRecDepth 16384

noncomputable section

namespace Cert.ProjInIdeal.Proj

open Idealize.ShloMosaic hiding ix1 ix2 ix3 eq_ix1 eq_ix2 eq_ix3 constant_apply
open Idealize.ShloMosaic.ValueIdx Idealize.ShloMosaic.TcCoe Idealize.SL.Sem
open Cert.ProjInIdeal Cert.ProjInIdeal.Gen
open Cert.Rms
open scoped BigOperators

/-! ### The arrays -/

/-- A token's row, normalised and modulated. -/
def normRow (x : FVec Ideal S8x4096x1024 .f32) (g : FVec Ideal S1024 .f32) (sh sc : FVec Ideal S8x1x1024 .f32) (w : FVec Ideal S1024x1696 .f32) (b : Fin 8) (n : Fin 4096) (k : Fin 1024) : EReal :=
  rmsRow 0x44800000#32 (fun k' : Fin 1024 => x (ix3 b n k')) k * g (ix1 k) * (Ideal.ofBits .f32 0x3F800000#32 + sc (ix3 b (0 : Fin 1) k))
    + sh (ix3 b (0 : Fin 1) k)

/-- A token's widened projection. -/
def wideRow (x : FVec Ideal S8x4096x1024 .f32) (g : FVec Ideal S1024 .f32) (sh sc : FVec Ideal S8x1x1024 .f32) (w : FVec Ideal S1024x1696 .f32) (b : Fin 8) (n : Fin 4096) (l : Fin 1920) : EReal :=
  ∑ k : Fin 1024, normRow x g sh sc w b n k * wideW w k l

/-- The cosines and sines at a token, by lane of 128. -/
def cosLane (n : Fin 4096) (l : Fin 128) : EReal := slot (Ideal.ofBits .f32 0x3F800000#32) (angleLane rowCos colCos n) l
def sinLane (n : Fin 4096) (l : Fin 128) : EReal := slot (Ideal.ofBits .f32 0x00000000#32) (angleLane rowSin colSin n) l

/-- The batch of a lane of the first result, -/
def batchL (l : Fin 2048) : Fin 8 := ⟨l.val / 256, by omega⟩
/-- and its lane of the batch. -/
def laneL (l : Fin 2048) : Fin 1920 := ⟨l.val % 256, by omega⟩
/-- A lane of the third mixers among the projection's. -/
def laneH (l : Fin 768) : Fin 1920 := ⟨896 + l.val, by omega⟩

/-- The first result: the first mixers' rows, all batches' lanes side by side, zeros beyond the tokens. -/
def mixArr (x : FVec Ideal S8x4096x1024 .f32) (g : FVec Ideal S1024 .f32) (sh sc : FVec Ideal S8x1x1024 .f32) (w : FVec Ideal S1024x1696 .f32) : FVec Ideal S4352x2048 .f32 := fun i =>
  if h : (i 0 : Fin 4352).val < 4096 then wideRow x g sh sc w (batchL (i 1 : Fin 2048)) ⟨(i 0 : Fin 4352).val, h⟩ (laneL (i 1 : Fin 2048)) else 0

/-- A token's compressed queries, normalised. -/
def queryRow (x : FVec Ideal S8x4096x1024 .f32) (g : FVec Ideal S1024 .f32) (sh sc : FVec Ideal S8x1x1024 .f32) (w : FVec Ideal S1024x1696 .f32) (qg : FVec Ideal S384 .f32) (b : Fin 8) (n : Fin 4096) (j : Fin 384) : EReal :=
  rmsRow 0x43C00000#32 (fun j' : Fin 384 => wideRow x g sh sc w b n ⟨256 + j'.val, by omega⟩) j * qg (ix1 j)

/-- One lane of a token's rotated queries. -/
def queryLane (x : FVec Ideal S8x4096x1024 .f32) (g : FVec Ideal S1024 .f32) (sh sc : FVec Ideal S8x1x1024 .f32) (w : FVec Ideal S1024x1696 .f32) (qg : FVec Ideal S384 .f32) (wq : FVec Ideal S384x768 .f32) (b : Fin 8) (n : Fin 4096) (l : Fin 1024) : EReal :=
  ((∑ j : Fin 384, queryRow x g sh sc w qg b n j * ownW wq j l) * cosLane n ⟨l.val % 128, by omega⟩
    + (∑ j : Fin 384, queryRow x g sh sc w qg b n j * turnW wq j l) * sinLane n ⟨l.val % 128, by omega⟩) * Ideal.ofBits .f32 0x3DD105EC#32

/-- The second result: the rotated queries. -/
def queryArr (x : FVec Ideal S8x4096x1024 .f32) (g : FVec Ideal S1024 .f32) (sh sc : FVec Ideal S8x1x1024 .f32) (w : FVec Ideal S1024x1696 .f32) (qg : FVec Ideal S384 .f32) (wq : FVec Ideal S384x768 .f32) : FVec Ideal S8x4096x1024 .bf16 := fun i =>
  queryLane x g sh sc w qg wq (i 0 : Fin 8) (i 1 : Fin 4096) (i 2 : Fin 1024)

/-- A token's compressed keys and values, normalised. -/
def latentRow (x : FVec Ideal S8x4096x1024 .f32) (g : FVec Ideal S1024 .f32) (sh sc : FVec Ideal S8x1x1024 .f32) (w : FVec Ideal S1024x1696 .f32) (kg : FVec Ideal S256 .f32) (b : Fin 8) (n : Fin 4096) (j : Fin 256) : EReal :=
  rmsRow 0x43800000#32 (fun j' : Fin 256 => wideRow x g sh sc w b n ⟨640 + j'.val, by omega⟩) j * kg (ix1 j)

/-- The third result: the keys' and values' products, zeros beyond the tokens. -/
def latentArr (x : FVec Ideal S8x4096x1024 .f32) (g : FVec Ideal S1024 .f32) (sh sc : FVec Ideal S8x1x1024 .f32) (w : FVec Ideal S1024x1696 .f32) (kg : FVec Ideal S256 .f32) (wkv : FVec Ideal S256x1024 .f32) : FVec Ideal S8x4352x1024 .bf16 := fun i =>
  if h : (i 1 : Fin 4352).val < 4096 then ∑ j : Fin 256, latentRow x g sh sc w kg (i 0 : Fin 8) ⟨(i 1 : Fin 4352).val, h⟩ j * wkv (ix2 j (i 2 : Fin 1024)) else 0

/-- One lane of a token's rotated key. -/
def keyLane (x : FVec Ideal S8x4096x1024 .f32) (g : FVec Ideal S1024 .f32) (sh sc : FVec Ideal S8x1x1024 .f32) (w : FVec Ideal S1024x1696 .f32) (b : Fin 8) (n : Fin 4096) (l : Fin 128) : EReal :=
  wideRow x g sh sc w b n ⟨1664 + l.val, by omega⟩ * cosLane n l + wideRow x g sh sc w b n ⟨1792 + l.val, by omega⟩ * sinLane n l

/-- The fourth result: the rotated keys, zeros beyond the tokens. -/
def keyArr (x : FVec Ideal S8x4096x1024 .f32) (g : FVec Ideal S1024 .f32) (sh sc : FVec Ideal S8x1x1024 .f32) (w : FVec Ideal S1024x1696 .f32) : FVec Ideal S8x4352x128 .bf16 := fun i =>
  if h : (i 1 : Fin 4352).val < 4096 then keyLane x g sh sc w (i 0 : Fin 8) ⟨(i 1 : Fin 4352).val, h⟩ (i 2 : Fin 128) else 0

/-- The fifth result: the third mixers' rows. -/
def hyenaArr (x : FVec Ideal S8x4096x1024 .f32) (g : FVec Ideal S1024 .f32) (sh sc : FVec Ideal S8x1x1024 .f32) (w : FVec Ideal S1024x1696 .f32) : FVec Ideal S8x4096x768 .f32 := fun i =>
  wideRow x g sh sc w (i 0 : Fin 8) (i 1 : Fin 4096) (laneH (i 2 : Fin 768))

theorem mixArr_apply (x : FVec Ideal S8x4096x1024 .f32) (g : FVec Ideal S1024 .f32) (sh sc : FVec Ideal S8x1x1024 .f32) (w : FVec Ideal S1024x1696 .f32) (b : Fin 8) (n : Fin 4096) (l : Fin 256) (p : Fin 4352) (q : Fin 2048) (hp : p.val = n.val) (hq : q.val = b.val * 256 + l.val) :
    mixArr x g sh sc w (ix2 p q) = wideRow x g sh sc w b n ⟨l.val, by omega⟩ := by
  have eb : batchL q = b := Fin.ext (by show q.val / 256 = b.val; omega)
  have el : laneL q = ⟨l.val, by omega⟩ := Fin.ext (by show q.val % 256 = l.val; omega)
  have en : ∀ h : p.val < 4096, (⟨p.val, h⟩ : Fin 4096) = n := fun _ => Fin.ext hp
  show (if h : p.val < 4096 then wideRow x g sh sc w (batchL q) ⟨p.val, h⟩ (laneL q) else 0) = _
  rw [dif_pos (show p.val < 4096 by omega), eb, el, en]

theorem latentArr_apply (x : FVec Ideal S8x4096x1024 .f32) (g : FVec Ideal S1024 .f32) (sh sc : FVec Ideal S8x1x1024 .f32) (w : FVec Ideal S1024x1696 .f32) (kg : FVec Ideal S256 .f32) (wkv : FVec Ideal S256x1024 .f32) (b : Fin 8) (n : Fin 4096) (l : Fin 1024) (p : Fin 4352)
    (hp : p.val = n.val) : latentArr x g sh sc w kg wkv (ix3 b p l) = ∑ j : Fin 256, latentRow x g sh sc w kg b n j * wkv (ix2 j l) := by
  have en : ∀ h : p.val < 4096, (⟨p.val, h⟩ : Fin 4096) = n := fun _ => Fin.ext hp
  show (if h : p.val < 4096 then ∑ j : Fin 256, latentRow x g sh sc w kg b ⟨p.val, h⟩ j * wkv (ix2 j l) else 0) = _
  rw [dif_pos (show p.val < 4096 by omega), en]

theorem keyArr_apply (x : FVec Ideal S8x4096x1024 .f32) (g : FVec Ideal S1024 .f32) (sh sc : FVec Ideal S8x1x1024 .f32) (w : FVec Ideal S1024x1696 .f32) (b : Fin 8) (n : Fin 4096) (l : Fin 128) (p : Fin 4352) (hp : p.val = n.val) :
    keyArr x g sh sc w (ix3 b p l) = keyLane x g sh sc w b n l := by
  have en : ∀ h : p.val < 4096, (⟨p.val, h⟩ : Fin 4096) = n := fun _ => Fin.ext hp
  show (if h : p.val < 4096 then keyLane x g sh sc w b ⟨p.val, h⟩ l else 0) = _
  rw [dif_pos (show p.val < 4096 by omega), en]

variable (m : (ℓ : Loc nD τ sig) → Buf (Elt Ideal) ℓ) (ρ : Dev nD → PrngReg)

/-! ### Where a point's blocks lie -/

theorem index0 : ∀ t : Fin grid0.N, win0_0.index t 0 = t.val / 8 ∧ win0_0.index t 1 = t.val % 8 ∧ win0_0.index t 2 = 0 := by decide +kernel
theorem index1 : ∀ t : Fin grid0.N, win0_1.index t 0 = 0 ∧ win0_1.index t 1 = 0 := by decide +kernel
theorem index2 : ∀ t : Fin grid0.N, win0_2.index t 0 = t.val / 8 ∧ win0_2.index t 1 = 0 ∧ win0_2.index t 2 = 0 := by decide +kernel
theorem index3 : ∀ t : Fin grid0.N, win0_3.index t 0 = t.val / 8 ∧ win0_3.index t 1 = 0 ∧ win0_3.index t 2 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = t.val % 8 ∧ win0_9.index t 1 = 0 := by decide +kernel
theorem index10 : ∀ t : Fin grid0.N, win0_10.index t 0 = t.val % 8 ∧ win0_10.index t 1 = 0 := by decide +kernel
theorem index11 : ∀ t : Fin grid0.N, win0_11.index t 0 = t.val % 8 ∧ win0_11.index t 1 = t.val / 8 := by decide +kernel
theorem index12 : ∀ t : Fin grid0.N, win0_12.index t 0 = t.val / 8 ∧ win0_12.index t 1 = t.val % 8 ∧ win0_12.index t 2 = 0 := by decide +kernel
theorem index13 : ∀ t : Fin grid0.N, win0_13.index t 0 = t.val / 8 ∧ win0_13.index t 1 = t.val % 8 ∧ win0_13.index t 2 = 0 := by decide +kernel
theorem index14 : ∀ t : Fin grid0.N, win0_14.index t 0 = t.val / 8 ∧ win0_14.index t 1 = t.val % 8 ∧ win0_14.index t 2 = 0 := by decide +kernel
theorem index15 : ∀ t : Fin grid0.N, win0_15.index t 0 = t.val / 8 ∧ win0_15.index t 1 = t.val % 8 ∧ win0_15.index t 2 = 0 := by decide +kernel
theorem size11 : ∀ t : Fin grid0.N, win0_11.xsize (grid0.coords t) 0 = 512 ∧ win0_11.xsize (grid0.coords t) 1 = 256 := by decide +kernel
theorem size13 : ∀ t : Fin grid0.N, win0_13.xsize (grid0.coords t) 0 = 1 ∧ win0_13.xsize (grid0.coords t) 1 = 512 ∧ win0_13.xsize (grid0.coords t) 2 = 1024 := by decide +kernel
theorem size14 : ∀ t : Fin grid0.N, win0_14.xsize (grid0.coords t) 0 = 1 ∧ win0_14.xsize (grid0.coords t) 1 = 512 ∧ win0_14.xsize (grid0.coords t) 2 = 128 := by decide +kernel

theorem point_lt (t : Fin cfg0.N) : t.val < 64 := lt_of_lt_of_eq t.isLt N_0

/-- A point's batch, -/
def batchOf (t : Fin cfg0.N) : Fin 8 := ⟨t.val / 8, by have := point_lt t; omega⟩
/-- and its row of the batch. -/
def rowAt (t : Fin cfg0.N) (r : Fin 512) : Fin 4096 := ⟨t.val % 8 * 512 + r.val, by omega⟩

/-! ### What a point reads -/

theorem tokensIn_apply (c : Dev nD) (t : Fin cfg0.N) (r : Fin 512) (k : Fin 1024) :
    (iblk m c 0 t : Vec Ideal S1x512x1024 .f32) (ix3 (0 : Fin 1) r k) = (m ((c : Thread nD τ).loc main_arg0)) (ix3 (batchOf t) (rowAt t r) k) := by
  obtain ⟨h0, h1, h2⟩ := index0 t
  unfold iblk
  rw [View.read_apply]
  refine (congrFun (V_main_arg0 m c) _).trans (congrArg _ (funext fun a => Fin.ext ?_))
  match a with
  | ⟨0, _⟩ => show win0_0.index t 0 * 1 + 1 * 0 = t.val / 8; rw [h0]; omega
  | ⟨1, _⟩ => show win0_0.index t 1 * 512 + 1 * r.val = t.val % 8 * 512 + r.val; rw [h1]; omega
  | ⟨2, _⟩ => show win0_0.index t 2 * 1024 + 1 * k.val = k.val; rw [h2]; omega

theorem shift_apply (c : Dev nD) (t : Fin cfg0.N) (k : Fin 1024) :
    (iblk m c 2 t : Vec Ideal S1x1x1024 .f32) (ix3 (0 : Fin 1) (0 : Fin 1) k) = (m ((c : Thread nD τ).loc main_arg2)) (ix3 (batchOf t) (0 : Fin 1) k) := by
  obtain ⟨h0, h1, h2⟩ := index2 t
  unfold iblk
  rw [View.read_apply]
  refine (congrFun (V_main_arg2 m c) _).trans (congrArg _ (funext fun a => Fin.ext ?_))
  match a with
  | ⟨0, _⟩ => show win0_2.index t 0 * 1 + 1 * 0 = t.val / 8; rw [h0]; omega
  | ⟨1, _⟩ => show win0_2.index t 1 * 1 + 1 * 0 = 0; rw [h1]
  | ⟨2, _⟩ => show win0_2.index t 2 * 1024 + 1 * k.val = k.val; rw [h2]; omega

theorem factor_apply (c : Dev nD) (t : Fin cfg0.N) (k : Fin 1024) :
    (iblk m c 3 t : Vec Ideal S1x1x1024 .f32) (ix3 (0 : Fin 1) (0 : Fin 1) k) = (m ((c : Thread nD τ).loc main_arg3)) (ix3 (batchOf t) (0 : Fin 1) k) := by
  obtain ⟨h0, h1, h2⟩ := index3 t
  unfold iblk
  rw [View.read_apply]
  refine (congrFun (V_main_arg3 m c) _).trans (congrArg _ (funext fun a => Fin.ext ?_))
  match a with
  | ⟨0, _⟩ => show win0_3.index t 0 * 1 + 1 * 0 = t.val / 8; rw [h0]; omega
  | ⟨1, _⟩ => show win0_3.index t 1 * 1 + 1 * 0 = 0; rw [h1]
  | ⟨2, _⟩ => show win0_3.index t 2 * 1024 + 1 * k.val = k.val; rw [h2]; omega

theorem gains_apply (c : Dev nD) (t : Fin cfg0.N) (k : Fin 1024) :
    (iblk m c 1 t : Vec Ideal S1x1024 .f32) (ix2 (0 : Fin 1) k) = (m ((c : Thread nD τ).loc main_arg1)) (ix1 k) := by
  obtain ⟨h0, h1⟩ := index1 t
  unfold iblk
  rw [View.read_apply]
  refine (congrFun (gains_eq m c) _).trans ?_
  refine (congrArg _ (funext fun a => Fin.ext ?_)).trans (shapeCast_a_1a_apply _ _ (0 : Fin 1) k)
  match a with
  | ⟨0, _⟩ => show win0_1.index t 0 * 1 + 1 * 0 = 0; rw [h0]
  | ⟨1, _⟩ => show win0_1.index t 1 * 1024 + 1 * k.val = k.val; rw [h1]; omega

theorem gainsQ_apply (c : Dev nD) (t : Fin cfg0.N) (k : Fin 384) :
    (iblk m c 5 t : Vec Ideal S1x384 .f32) (ix2 (0 : Fin 1) k) = (m ((c : Thread nD τ).loc main_arg5)) (ix1 k) := by
  obtain ⟨h0, h1⟩ := index5 t
  unfold iblk
  rw [View.read_apply]
  refine (congrFun (gainsQ_eq m c) _).trans ?_
  refine (congrArg _ (funext fun a => Fin.ext ?_)).trans (shapeCast_a_1a_apply _ _ (0 : Fin 1) k)
  match a with
  | ⟨0, _⟩ => show win0_5.index t 0 * 1 + 1 * 0 = 0; rw [h0]
  | ⟨1, _⟩ => show win0_5.index t 1 * 384 + 1 * k.val = k.val; rw [h1]; omega

theorem gainsKV_apply (c : Dev nD) (t : Fin cfg0.N) (k : Fin 256) :
    (iblk m c 7 t : Vec Ideal S1x256 .f32) (ix2 (0 : Fin 1) k) = (m ((c : Thread nD τ).loc main_arg7)) (ix1 k) := by
  obtain ⟨h0, h1⟩ := index7 t
  unfold iblk
  rw [View.read_apply]
  refine (congrFun (gainsKV_eq m c) _).trans ?_
  refine (congrArg _ (funext fun a => Fin.ext ?_)).trans (shapeCast_a_1a_apply _ _ (0 : Fin 1) k)
  match a with
  | ⟨0, _⟩ => show win0_7.index t 0 * 1 + 1 * 0 = 0; rw [h0]
  | ⟨1, _⟩ => show win0_7.index t 1 * 256 + 1 * k.val = k.val; rw [h1]; omega

theorem wideIn_apply (c : Dev nD) (t : Fin cfg0.N) (j : Fin 1024) (k : Fin 1920) :
    (iblk m c 4 t : Vec Ideal S1024x1920 .bf16) (ix2 j k) = wideW (m ((c : Thread nD τ).loc main_arg4)) j k := by
  obtain ⟨h0, h1⟩ := index4 t
  unfold iblk
  rw [View.read_apply]
  refine (congrFun (wide_eq m c) _).trans ?_
  refine (congrArg _ (funext fun a => Fin.ext ?_)).trans (wideOf_apply (m ((c : Thread nD τ).loc main_arg4)) j k)
  match a with
  | ⟨0, _⟩ => show win0_4.index t 0 * 1024 + 1 * j.val = j.val; rw [h0]; omega
  | ⟨1, _⟩ => show win0_4.index t 1 * 1920 + 1 * k.val = k.val; rw [h1]; omega

theorem ownIn_apply (c : Dev nD) (t : Fin cfg0.N) (j : Fin 384) (l : Fin 1024) (k : Fin 2048) (hk : k.val = l.val) :
    (iblk m c 6 t : Vec Ideal S384x2048 .bf16) (ix2 j k) = ownW (m ((c : Thread nD τ).loc main_arg6)) j l := by
  obtain ⟨h0, h1⟩ := index6 t
  unfold iblk
  rw [View.read_apply]
  refine (congrFun (query_eq m c) _).trans ?_
  refine (congrArg _ (funext fun a => Fin.ext ?_)).trans (queryOf_own (m ((c : Thread nD τ).loc main_arg6)) j l k hk)
  match a with
  | ⟨0, _⟩ => show win0_6.index t 0 * 384 + 1 * j.val = j.val; rw [h0]; omega
  | ⟨1, _⟩ => show win0_6.index t 1 * 2048 + 1 * k.val = k.val; rw [h1]; omega

theorem turnIn_apply (c : Dev nD) (t : Fin cfg0.N) (j : Fin 384) (l : Fin 1024) (k : Fin 2048) (hk : k.val = 1024 + l.val) :
    (iblk m c 6 t : Vec Ideal S384x2048 .bf16) (ix2 j k) = turnW (m ((c : Thread nD τ).loc main_arg6)) j l := by
  obtain ⟨h0, h1⟩ := index6 t
  unfold iblk
  rw [View.read_apply]
  refine (congrFun (query_eq m c) _).trans ?_
  refine (congrArg _ (funext fun a => Fin.ext ?_)).trans (queryOf_turn (m ((c : Thread nD τ).loc main_arg6)) j l k hk)
  match a with
  | ⟨0, _⟩ => show win0_6.index t 0 * 384 + 1 * j.val = j.val; rw [h0]; omega
  | ⟨1, _⟩ => show win0_6.index t 1 * 2048 + 1 * k.val = k.val; rw [h1]; omega

theorem latentIn_apply (c : Dev nD) (t : Fin cfg0.N) (j : Fin 256) (k : Fin 1024) :
    (iblk m c 8 t : Vec Ideal S256x1024 .bf16) (ix2 j k) = (m ((c : Thread nD τ).loc main_arg8)) (ix2 j k) := by
  obtain ⟨h0, h1⟩ := index8 t
  unfold iblk
  rw [View.read_apply]
  refine (congrFun (weightsKV_eq m c) _).trans ?_
  show (m ((c : Thread nD τ).loc main_arg8)) _ = _
  refine congrArg _ (funext fun a => Fin.ext ?_)
  match a with
  | ⟨0, _⟩ => show win0_8.index t 0 * 256 + 1 * j.val = j.val; rw [h0]; omega
  | ⟨1, _⟩ => show win0_8.index t 1 * 1024 + 1 * k.val = k.val; rw [h1]; omega

theorem cosIn_apply (c : Dev nD) (t : Fin cfg0.N) (r : Fin 512) (l : Fin 128) :
    (X0_9 m c t : Vec Ideal S512x128 .f32) (ix2 r l) = cosLane (rowAt t r) l := by
  obtain ⟨h0, h1⟩ := index9 t
  unfold X0_9 Pipeline.Window.fill
  rw [dif_pos (moved0_9 t _)]
  unfold iblk
  rw [View.read_apply]
  refine (congrFun (cosTable_eq m c) _).trans ?_
  refine (congrArg _ (funext fun a => Fin.ext ?_)).trans (tableOf_apply 0x3F800000#32 rowCos colCos (rowAt t r) ⟨t.val % 8 * 512 + r.val, by omega⟩ rfl l)
  match a with
  | ⟨0, _⟩ => show win0_9.index t 0 * 512 + 1 * r.val = t.val % 8 * 512 + r.val; rw [h0]; omega
  | ⟨1, _⟩ => show win0_9.index t 1 * 128 + 1 * l.val = l.val; rw [h1]; omega

theorem sinIn_apply (c : Dev nD) (t : Fin cfg0.N) (r : Fin 512) (l : Fin 128) :
    (X0_10 m c t : Vec Ideal S512x128 .f32) (ix2 r l) = sinLane (rowAt t r) l := by
  obtain ⟨h0, h1⟩ := index10 t
  unfold X0_10 Pipeline.Window.fill
  rw [dif_pos (moved0_10 t _)]
  unfold iblk
  rw [View.read_apply]
  refine (congrFun (sinTable_eq m c) _).trans ?_
  refine (congrArg _ (funext fun a => Fin.ext ?_)).trans (tableOf_apply 0x00000000#32 rowSin colSin (rowAt t r) ⟨t.val % 8 * 512 + r.val, by omega⟩ rfl l)
  match a with
  | ⟨0, _⟩ => show win0_10.index t 0 * 512 + 1 * r.val = t.val % 8 * 512 + r.val; rw [h0]; omega
  | ⟨1, _⟩ => show win0_10.index t 1 * 128 + 1 * l.val = l.val; rw [h1]; omega

/-! ### A point's values -/

theorem wideBlk_apply (c : Dev nD) (t : Fin cfg0.N) (r : Fin 512) (l : Fin 1920) :
    wideBlk m c t (ix2 r l) = wideRow (m ((c : Thread nD τ).loc main_arg0)) (m ((c : Thread nD τ).loc main_arg1)) (m ((c : Thread nD τ).loc main_arg2)) (m ((c : Thread nD τ).loc main_arg3)) (m ((c : Thread nD τ).loc main_arg4)) (batchOf t) (rowAt t r) l := by
  refine (wide_apply _ _ _ _ _ r l).trans ?_
  unfold wideRow normRow
  simp only [tokensIn_apply, gains_apply, shift_apply, factor_apply, wideIn_apply]

theorem queryBlk_own (c : Dev nD) (t : Fin cfg0.N) (r : Fin 512) (l : Fin 1024) (k : Fin 2048) (hk : k.val = l.val) :
    queryBlk m c t (ix2 r k) = ∑ j : Fin 384, queryRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batchOf t) (rowAt t r) j * ownW (m ((c : Thread nD τ).loc main_arg6)) j l := by
  refine (queries_apply _ _ _ r k).trans (Finset.sum_congr rfl fun j _ => ?_)
  unfold queryRow
  simp only [wideBlk_apply, gainsQ_apply, ownIn_apply m c t j l k hk]

theorem queryBlk_turn (c : Dev nD) (t : Fin cfg0.N) (r : Fin 512) (l : Fin 1024) (k : Fin 2048) (hk : k.val = 1024 + l.val) :
    queryBlk m c t (ix2 r k) = ∑ j : Fin 384, queryRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batchOf t) (rowAt t r) j * turnW (m ((c : Thread nD τ).loc main_arg6)) j l := by
  refine (queries_apply _ _ _ r k).trans (Finset.sum_congr rfl fun j _ => ?_)
  unfold queryRow
  simp only [wideBlk_apply, gainsQ_apply, turnIn_apply m c t j l k hk]

theorem turned_apply (c : Dev nD) (t : Fin cfg0.N) (r : Fin 512) (k : Fin 1024) :
    turned (queryBlk m c t) (X0_9 m c t) (X0_10 m c t) r k = queryLane (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (batchOf t) (rowAt t r) k := by
  unfold turned queryLane
  rw [queryBlk_own m c t r k ⟨k.val, by omega⟩ rfl, queryBlk_turn m c t r k ⟨1024 + k.val, by omega⟩ rfl]
  exact congrArg₂ (· * ·) (congrArg₂ (· + ·) (congrArg₂ (· * ·) rfl (cosIn_apply m c t r _)) (congrArg₂ (· * ·) rfl (sinIn_apply m c t r _))) rfl

theorem latentBlk_apply (c : Dev nD) (t : Fin cfg0.N) (r : Fin 512) (l : Fin 1024) :
    k0_pay1 (F := Ideal) (k0_pay20 (wideBlk m c t)) (iblk m c 7 t) (iblk m c 8 t) (ix3 (0 : Fin 1) r l)
      = ∑ j : Fin 256, latentRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (batchOf t) (rowAt t r) j * (m ((c : Thread nD τ).loc main_arg8)) (ix2 j l) := by
  refine (latent_apply _ _ _ r l).trans (Finset.sum_congr rfl fun j _ => ?_)
  unfold latentRow
  simp only [wideBlk_apply, gainsKV_apply, latentIn_apply]

theorem keyBlk_apply (c : Dev nD) (t : Fin cfg0.N) (r : Fin 512) (l : Fin 128) :
    k0_pay8 (F := Ideal) (wideBlk m c t) (X0_9 m c t) (X0_10 m c t) (ix3 (0 : Fin 1) r l)
      = keyLane (m ((c : Thread nD τ).loc main_arg0)) (m ((c : Thread nD τ).loc main_arg1)) (m ((c : Thread nD τ).loc main_arg2)) (m ((c : Thread nD τ).loc main_arg3)) (m ((c : Thread nD τ).loc main_arg4)) (batchOf t) (rowAt t r) l := by
  refine (keys_apply _ _ _ r l ⟨1664 + l.val, by omega⟩ ⟨1792 + l.val, by omega⟩ rfl rfl).trans ?_
  unfold keyLane
  rw [wideBlk_apply, wideBlk_apply]
  exact congrArg₂ (· + ·) (congrArg₂ (· * ·) rfl (cosIn_apply m c t r l)) (congrArg₂ (· * ·) rfl (sinIn_apply m c t r l))

end Cert.ProjInIdeal.Proj

end
-- ==== Proof.ProjRun.lean ====
/-
  THE INPUT PROJECTIONS: the run. Every block a grid point writes back is that block of the result array (`flushed11_eq` and
  after), the blocks cover the tokens (`covered11` and after), and so the run leaves the five result arrays (`run`).
-/
module

public import proofs.«01_k».proof.Proof.ProjArray

@[expose] public section

set_option maxRecDepth 16384

noncomputable section

namespace Cert.ProjInIdeal.Proj

open Idealize.ShloMosaic hiding ix1 ix2 ix3 eq_ix1 eq_ix2 eq_ix3 constant_apply
open Idealize.ShloMosaic.ValueIdx Idealize.ShloMosaic.TcCoe Idealize.SL.Sem
open Cert.ProjInIdeal Cert.ProjInIdeal.Gen
open Cert.Rms
open scoped BigOperators

variable (m : (ℓ : Loc nD τ sig) → Buf (Elt Ideal) ℓ) (ρ : Dev nD → PrngReg)

/-! ### The result arrays -/

/-- The first mixers' rows the kernel leaves, -/
abbrev result0 (c : Dev nD) : Buf (Elt Ideal) ((c : Thread nD τ).loc main_v84_0) :=
  mixArr (m ((c : Thread nD τ).loc main_arg0)) (m ((c : Thread nD τ).loc main_arg1)) (m ((c : Thread nD τ).loc main_arg2)) (m ((c : Thread nD τ).loc main_arg3)) (m ((c : Thread nD τ).loc main_arg4))

/-- its queries, -/
abbrev result1 (c : Dev nD) : Buf (Elt Ideal) ((c : Thread nD τ).loc main_v84_1) :=
  queryArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- its keys and values, -/
abbrev result2 (c : Dev nD) : Buf (Elt Ideal) ((c : Thread nD τ).loc main_v84_2) :=
  latentArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))

/-- its rotary keys, -/
abbrev result3 (c : Dev nD) : Buf (Elt Ideal) ((c : Thread nD τ).loc main_v84_3) :=
  keyArr (m ((c : Thread nD τ).loc main_arg0)) (m ((c : Thread nD τ).loc main_arg1)) (m ((c : Thread nD τ).loc main_arg2)) (m ((c : Thread nD τ).loc main_arg3)) (m ((c : Thread nD τ).loc main_arg4))

/-- and its third mixers' rows. -/
abbrev result4 (c : Dev nD) : Buf (Elt Ideal) ((c : Thread nD τ).loc main_v84_4) :=
  hyenaArr (m ((c : Thread nD τ).loc main_arg0)) (m ((c : Thread nD τ).loc main_arg1)) (m ((c : Thread nD τ).loc main_arg2)) (m ((c : Thread nD τ).loc main_arg3)) (m ((c : Thread nD τ).loc main_arg4))

/-- What a point stores of the first result. -/
theorem mixBlk_apply (c : Dev nD) (t : Fin cfg0.N) (r : Fin 512) (k : Fin 256) :
    (extractStridedSlice S512x256 ![0, 0] (wideBlk m c t) slices_S512x1920_o0_0_S512x256 : FVec Ideal S512x256 .f32) (ix2 r k)
      = wideRow (m ((c : Thread nD τ).loc main_arg0)) (m ((c : Thread nD τ).loc main_arg1)) (m ((c : Thread nD τ).loc main_arg2)) (m ((c : Thread nD τ).loc main_arg3)) (m ((c : Thread nD τ).loc main_arg4)) (batchOf t) (rowAt t r) ⟨k.val, by omega⟩ := by
  have h : k.val < 1920 := by omega
  have e : k.val = 0 + k.val := by omega
  generalize hy : wideBlk m c t = y
  rw [lanes_apply (o := 0) y slices_S512x1920_o0_0_S512x256 r k ⟨k.val, h⟩ e, ← hy]
  exact wideBlk_apply m c t r ⟨k.val, h⟩

theorem flushed11_eq (c : Dev nD) (t : Fin cfg0.N) :
    (dats m 0 c).flushed 11 t = ((cfg0.win 11).blk t).view.read (Elt Ideal) (result0 m c) := by
  obtain ⟨h0, h1⟩ := index11 t
  have ht := point_lt t
  rw [Value.flushed11, stored11]
  funext i
  rw [View.read_apply]
  obtain ⟨r, k, hi⟩ : ∃ (r : Fin 512) (k : Fin 256), (cfg0.win 11).xinj (grid0.coords t) i = ix2 r k := ⟨_, _, eq_ix2 _⟩
  have e0 : (i (0 : Fin 2)).val = r.val := congrArg (fun x : S512x256.Idx => (x (0 : Fin 2)).val) hi
  have e1 : (i (1 : Fin 2)).val = k.val := congrArg (fun x : S512x256.Idx => (x (1 : Fin 2)).val) hi
  have hp : t.val % 8 * 512 + r.val < 4352 := by omega
  have hq : t.val / 8 * 256 + k.val < 2048 := by omega
  have ei : (ix2 (⟨t.val % 8 * 512 + r.val, hp⟩ : Fin 4352) (⟨t.val / 8 * 256 + k.val, hq⟩ : Fin 2048) : S4352x2048.Idx)
      = (((cfg0.win 11).blk t).view.emb i : S4352x2048.Idx) := by
    refine funext fun a => Fin.ext ?_
    match a with
    | ⟨0, _⟩ => show t.val % 8 * 512 + r.val = win0_11.index t 0 * 512 + 1 * (i (0 : Fin 2)).val; rw [h0, e0]; omega
    | ⟨1, _⟩ => show t.val / 8 * 256 + k.val = win0_11.index t 1 * 256 + 1 * (i (1 : Fin 2)).val; rw [h1, e1]; omega
  show (extractStridedSlice S512x256 ![0, 0] (wideBlk m c t) slices_S512x1920_o0_0_S512x256 : FVec Ideal S512x256 .f32) ((cfg0.win 11).xinj (grid0.coords t) i) = _
  rw [hi, mixBlk_apply]
  exact (mixArr_apply _ _ _ _ _ (batchOf t) (rowAt t r) k _ _ rfl rfl).symm.trans (congrArg (result0 m c) ei)

theorem flushed12_eq (c : Dev nD) (t : Fin cfg0.N) :
    (dats m 0 c).flushed 12 t = ((cfg0.win 12).blk t).view.read (Elt Ideal) (result1 m c) := by
  obtain ⟨h0, h1, h2⟩ := index12 t
  have ht := point_lt t
  rw [Value.flushed12]
  funext i
  rw [View.read_apply]
  obtain ⟨z, r, k, hi⟩ : ∃ (z : Fin 1) (r : Fin 512) (k : Fin 1024), (cfg0.win 12).xinj (grid0.coords t) i = ix3 z r k := ⟨_, _, _, eq_ix3 _⟩
  obtain rfl : z = 0 := Subsingleton.elim _ _
  have e0 : (i (0 : Fin 3)).val = 0 := congrArg (fun x : S1x512x1024.Idx => (x (0 : Fin 3)).val) hi
  have e1 : (i (1 : Fin 3)).val = r.val := congrArg (fun x : S1x512x1024.Idx => (x (1 : Fin 3)).val) hi
  have e2 : (i (2 : Fin 3)).val = k.val := congrArg (fun x : S1x512x1024.Idx => (x (2 : Fin 3)).val) hi
  show ((outsAt0 m c t).2.1 : Vec Ideal S1x512x1024 .bf16) ((cfg0.win 12).xinj (grid0.coords t) i) = _
  rw [hi]
  refine ((stored12 m c t r k).trans (turned_apply m c t r k)).trans ?_
  refine Eq.trans ?_ (congrArg (result1 m c) (?_ : ix3 (batchOf t) (rowAt t r) k = _))
  · rfl
  refine funext fun a => Fin.ext ?_
  match a with
  | ⟨0, _⟩ => show t.val / 8 = win0_12.index t 0 * 1 + 1 * (i (0 : Fin 3)).val; rw [h0, e0]; omega
  | ⟨1, _⟩ => show t.val % 8 * 512 + r.val = win0_12.index t 1 * 512 + 1 * (i (1 : Fin 3)).val; rw [h1, e1]; omega
  | ⟨2, _⟩ => show k.val = win0_12.index t 2 * 1024 + 1 * (i (2 : Fin 3)).val; rw [h2, e2]; omega

theorem flushed13_eq (c : Dev nD) (t : Fin cfg0.N) :
    (dats m 0 c).flushed 13 t = ((cfg0.win 13).blk t).view.read (Elt Ideal) (result2 m c) := by
  obtain ⟨h0, h1, h2⟩ := index13 t
  have ht := point_lt t
  rw [Value.flushed13, stored13]
  funext i
  rw [View.read_apply]
  obtain ⟨z, r, k, hi⟩ : ∃ (z : Fin 1) (r : Fin 512) (k : Fin 1024), (cfg0.win 13).xinj (grid0.coords t) i = ix3 z r k := ⟨_, _, _, eq_ix3 _⟩
  obtain rfl : z = 0 := Subsingleton.elim _ _
  have e0 : (i (0 : Fin 3)).val = 0 := congrArg (fun x : S1x512x1024.Idx => (x (0 : Fin 3)).val) hi
  have e1 : (i (1 : Fin 3)).val = r.val := congrArg (fun x : S1x512x1024.Idx => (x (1 : Fin 3)).val) hi
  have e2 : (i (2 : Fin 3)).val = k.val := congrArg (fun x : S1x512x1024.Idx => (x (2 : Fin 3)).val) hi
  show (k0_pay1 (F := Ideal) (k0_pay20 (wideBlk m c t)) (iblk m c 7 t) (iblk m c 8 t) : Vec Ideal S1x512x1024 .bf16) ((cfg0.win 13).xinj (grid0.coords t) i) = _
  rw [hi]
  refine (latentBlk_apply m c t r k).trans ?_
  refine Eq.trans ?_ (congrArg (result2 m c) (?_ : ix3 (batchOf t) (⟨t.val % 8 * 512 + r.val, by omega⟩ : Fin 4352) k = _))
  · exact (latentArr_apply _ _ _ _ _ _ _ (batchOf t) (rowAt t r) k _ rfl).symm
  refine funext fun a => Fin.ext ?_
  match a with
  | ⟨0, _⟩ => show t.val / 8 = win0_13.index t 0 * 1 + 1 * (i (0 : Fin 3)).val; rw [h0, e0]; omega
  | ⟨1, _⟩ => show t.val % 8 * 512 + r.val = win0_13.index t 1 * 512 + 1 * (i (1 : Fin 3)).val; rw [h1, e1]; omega
  | ⟨2, _⟩ => show k.val = win0_13.index t 2 * 1024 + 1 * (i (2 : Fin 3)).val; rw [h2, e2]; omega

theorem flushed14_eq (c : Dev nD) (t : Fin cfg0.N) :
    (dats m 0 c).flushed 14 t = ((cfg0.win 14).blk t).view.read (Elt Ideal) (result3 m c) := by
  obtain ⟨h0, h1, h2⟩ := index14 t
  have ht := point_lt t
  rw [Value.flushed14, stored14]
  funext i
  rw [View.read_apply]
  obtain ⟨z, r, k, hi⟩ : ∃ (z : Fin 1) (r : Fin 512) (k : Fin 128), (cfg0.win 14).xinj (grid0.coords t) i = ix3 z r k := ⟨_, _, _, eq_ix3 _⟩
  obtain rfl : z = 0 := Subsingleton.elim _ _
  have e0 : (i (0 : Fin 3)).val = 0 := congrArg (fun x : S1x512x128.Idx => (x (0 : Fin 3)).val) hi
  have e1 : (i (1 : Fin 3)).val = r.val := congrArg (fun x : S1x512x128.Idx => (x (1 : Fin 3)).val) hi
  have e2 : (i (2 : Fin 3)).val = k.val := congrArg (fun x : S1x512x128.Idx => (x (2 : Fin 3)).val) hi
  show (k0_pay8 (F := Ideal) (wideBlk m c t) (X0_9 m c t) (X0_10 m c t) : Vec Ideal S1x512x128 .bf16) ((cfg0.win 14).xinj (grid0.coords t) i) = _
  rw [hi]
  refine (keyBlk_apply m c t r k).trans ?_
  refine Eq.trans ?_ (congrArg (result3 m c) (?_ : ix3 (batchOf t) (⟨t.val % 8 * 512 + r.val, by omega⟩ : Fin 4352) k = _))
  · exact (keyArr_apply _ _ _ _ _ (batchOf t) (rowAt t r) k _ rfl).symm
  refine funext fun a => Fin.ext ?_
  match a with
  | ⟨0, _⟩ => show t.val / 8 = win0_14.index t 0 * 1 + 1 * (i (0 : Fin 3)).val; rw [h0, e0]; omega
  | ⟨1, _⟩ => show t.val % 8 * 512 + r.val = win0_14.index t 1 * 512 + 1 * (i (1 : Fin 3)).val; rw [h1, e1]; omega
  | ⟨2, _⟩ => show k.val = win0_14.index t 2 * 128 + 1 * (i (2 : Fin 3)).val; rw [h2, e2]; omega

theorem flushed15_eq (c : Dev nD) (t : Fin cfg0.N) :
    (dats m 0 c).flushed 15 t = ((cfg0.win 15).blk t).view.read (Elt Ideal) (result4 m c) := by
  obtain ⟨h0, h1, h2⟩ := index15 t
  have ht := point_lt t
  rw [Value.flushed15, stored15]
  funext i
  rw [View.read_apply]
  obtain ⟨z, r, k, hi⟩ : ∃ (z : Fin 1) (r : Fin 512) (k : Fin 768), (cfg0.win 15).xinj (grid0.coords t) i = ix3 z r k := ⟨_, _, _, eq_ix3 _⟩
  obtain rfl : z = 0 := Subsingleton.elim _ _
  have e0 : (i (0 : Fin 3)).val = 0 := congrArg (fun x : S1x512x768.Idx => (x (0 : Fin 3)).val) hi
  have e1 : (i (1 : Fin 3)).val = r.val := congrArg (fun x : S1x512x768.Idx => (x (1 : Fin 3)).val) hi
  have e2 : (i (2 : Fin 3)).val = k.val := congrArg (fun x : S1x512x768.Idx => (x (2 : Fin 3)).val) hi
  show (shapeCast S1x512x768 (extractStridedSlice S512x768 ![0, 896] (wideBlk m c t) slices_S512x1920_o0_896_S512x768) shapeCasts_S512x768_S1x512x768 : Vec Ideal S1x512x768 .f32) ((cfg0.win 15).xinj (grid0.coords t) i) = _
  rw [hi]
  refine ((shapeCast_ab_1ab_apply _ _ (0 : Fin 1) r k).trans ((lanes_apply _ _ r k ⟨896 + k.val, by omega⟩ rfl).trans (wideBlk_apply m c t r _))).trans ?_
  refine Eq.trans ?_ (congrArg (result4 m c) (?_ : ix3 (batchOf t) (rowAt t r) k = _))
  · rfl
  refine funext fun a => Fin.ext ?_
  match a with
  | ⟨0, _⟩ => show t.val / 8 = win0_15.index t 0 * 1 + 1 * (i (0 : Fin 3)).val; rw [h0, e0]; omega
  | ⟨1, _⟩ => show t.val % 8 * 512 + r.val = win0_15.index t 1 * 512 + 1 * (i (1 : Fin 3)).val; rw [h1, e1]; omega
  | ⟨2, _⟩ => show k.val = win0_15.index t 2 * 768 + 1 * (i (2 : Fin 3)).val; rw [h2, e2]; omega

theorem covered11 (i : S4352x2048.Idx) (hn : (i 0 : Nat) < 4096) : ∃ t : Fin cfg0.N, (cfg0.win 11).flush t = true ∧ i ∈ ((cfg0.win 11).blk t).view.set := by
  have b0 : (i 0 : Nat) < 4352 := (i 0).isLt
  have b1 : (i 1 : Nat) < 2048 := (i 1).isLt
  obtain ⟨t, ht⟩ : ∃ t : Fin grid0.N, t.val = (i 1 : Nat) / 256 * 8 + (i 0 : Nat) / 512 := ⟨⟨(i 1 : Nat) / 256 * 8 + (i 0 : Nat) / 512, by rw [N_0]; omega⟩, rfl⟩
  refine ⟨t, flush0_11 t, ?_⟩
  obtain ⟨h0, h1⟩ := index11 t
  obtain ⟨x0, x1⟩ := size11 t
  show i ∈ ((View.whole main_v84_0).slice (win0_11.rect t)).set
  rw [View.set_slice_whole, Rect.mem_set_unit]
  intro a
  match a with
  | ⟨0, _⟩ => show win0_11.index t 0 * 512 ≤ (i 0 : Nat) ∧ (i 0 : Nat) < win0_11.index t 0 * 512 + win0_11.xsize (grid0.coords t) 0; rw [h0, x0]; omega
  | ⟨1, _⟩ => show win0_11.index t 1 * 256 ≤ (i 1 : Nat) ∧ (i 1 : Nat) < win0_11.index t 1 * 256 + win0_11.xsize (grid0.coords t) 1; rw [h1, x1]; omega

theorem covered12 (i : S8x4096x1024.Idx) : ∃ t : Fin cfg0.N, (cfg0.win 12).flush t = true ∧ i ∈ ((cfg0.win 12).blk t).view.set := by
  have b0 : (i 0 : Nat) < 8 := (i 0).isLt
  have b1 : (i 1 : Nat) < 4096 := (i 1).isLt
  have b2 : (i 2 : Nat) < 1024 := (i 2).isLt
  obtain ⟨t, ht⟩ : ∃ t : Fin grid0.N, t.val = (i 0 : Nat) * 8 + (i 1 : Nat) / 512 := ⟨⟨(i 0 : Nat) * 8 + (i 1 : Nat) / 512, by rw [N_0]; omega⟩, rfl⟩
  refine ⟨t, flush0_12 t, ?_⟩
  obtain ⟨h0, h1, h2⟩ := index12 t
  show i ∈ ((View.whole main_v84_1).slice (win0_12.rect t)).set
  rw [View.set_slice_whole, Rect.mem_set_unit]
  intro a
  match a with
  | ⟨0, _⟩ => show win0_12.index t 0 * 1 ≤ (i 0 : Nat) ∧ (i 0 : Nat) < win0_12.index t 0 * 1 + 1; rw [h0]; omega
  | ⟨1, _⟩ => show win0_12.index t 1 * 512 ≤ (i 1 : Nat) ∧ (i 1 : Nat) < win0_12.index t 1 * 512 + 512; rw [h1]; omega
  | ⟨2, _⟩ => show win0_12.index t 2 * 1024 ≤ (i 2 : Nat) ∧ (i 2 : Nat) < win0_12.index t 2 * 1024 + 1024; rw [h2]; omega

theorem covered13 (i : S8x4352x1024.Idx) (hn : (i 1 : Nat) < 4096) : ∃ t : Fin cfg0.N, (cfg0.win 13).flush t = true ∧ i ∈ ((cfg0.win 13).blk t).view.set := by
  have b0 : (i 0 : Nat) < 8 := (i 0).isLt
  have b1 : (i 1 : Nat) < 4352 := (i 1).isLt
  have b2 : (i 2 : Nat) < 1024 := (i 2).isLt
  obtain ⟨t, ht⟩ : ∃ t : Fin grid0.N, t.val = (i 0 : Nat) * 8 + (i 1 : Nat) / 512 := ⟨⟨(i 0 : Nat) * 8 + (i 1 : Nat) / 512, by rw [N_0]; omega⟩, rfl⟩
  refine ⟨t, flush0_13 t, ?_⟩
  obtain ⟨h0, h1, h2⟩ := index13 t
  obtain ⟨x0, x1, x2⟩ := size13 t
  show i ∈ ((View.whole main_v84_2).slice (win0_13.rect t)).set
  rw [View.set_slice_whole, Rect.mem_set_unit]
  intro a
  match a with
  | ⟨0, _⟩ => show win0_13.index t 0 * 1 ≤ (i 0 : Nat) ∧ (i 0 : Nat) < win0_13.index t 0 * 1 + win0_13.xsize (grid0.coords t) 0; rw [h0, x0]; omega
  | ⟨1, _⟩ => show win0_13.index t 1 * 512 ≤ (i 1 : Nat) ∧ (i 1 : Nat) < win0_13.index t 1 * 512 + win0_13.xsize (grid0.coords t) 1; rw [h1, x1]; omega
  | ⟨2, _⟩ => show win0_13.index t 2 * 1024 ≤ (i 2 : Nat) ∧ (i 2 : Nat) < win0_13.index t 2 * 1024 + win0_13.xsize (grid0.coords t) 2; rw [h2, x2]; omega

theorem covered14 (i : S8x4352x128.Idx) (hn : (i 1 : Nat) < 4096) : ∃ t : Fin cfg0.N, (cfg0.win 14).flush t = true ∧ i ∈ ((cfg0.win 14).blk t).view.set := by
  have b0 : (i 0 : Nat) < 8 := (i 0).isLt
  have b1 : (i 1 : Nat) < 4352 := (i 1).isLt
  have b2 : (i 2 : Nat) < 128 := (i 2).isLt
  obtain ⟨t, ht⟩ : ∃ t : Fin grid0.N, t.val = (i 0 : Nat) * 8 + (i 1 : Nat) / 512 := ⟨⟨(i 0 : Nat) * 8 + (i 1 : Nat) / 512, by rw [N_0]; omega⟩, rfl⟩
  refine ⟨t, flush0_14 t, ?_⟩
  obtain ⟨h0, h1, h2⟩ := index14 t
  obtain ⟨x0, x1, x2⟩ := size14 t
  show i ∈ ((View.whole main_v84_3).slice (win0_14.rect t)).set
  rw [View.set_slice_whole, Rect.mem_set_unit]
  intro a
  match a with
  | ⟨0, _⟩ => show win0_14.index t 0 * 1 ≤ (i 0 : Nat) ∧ (i 0 : Nat) < win0_14.index t 0 * 1 + win0_14.xsize (grid0.coords t) 0; rw [h0, x0]; omega
  | ⟨1, _⟩ => show win0_14.index t 1 * 512 ≤ (i 1 : Nat) ∧ (i 1 : Nat) < win0_14.index t 1 * 512 + win0_14.xsize (grid0.coords t) 1; rw [h1, x1]; omega
  | ⟨2, _⟩ => show win0_14.index t 2 * 128 ≤ (i 2 : Nat) ∧ (i 2 : Nat) < win0_14.index t 2 * 128 + win0_14.xsize (grid0.coords t) 2; rw [h2, x2]; omega

theorem covered15 (i : S8x4096x768.Idx) : ∃ t : Fin cfg0.N, (cfg0.win 15).flush t = true ∧ i ∈ ((cfg0.win 15).blk t).view.set := by
  have b0 : (i 0 : Nat) < 8 := (i 0).isLt
  have b1 : (i 1 : Nat) < 4096 := (i 1).isLt
  have b2 : (i 2 : Nat) < 768 := (i 2).isLt
  obtain ⟨t, ht⟩ : ∃ t : Fin grid0.N, t.val = (i 0 : Nat) * 8 + (i 1 : Nat) / 512 := ⟨⟨(i 0 : Nat) * 8 + (i 1 : Nat) / 512, by rw [N_0]; omega⟩, rfl⟩
  refine ⟨t, flush0_15 t, ?_⟩
  obtain ⟨h0, h1, h2⟩ := index15 t
  show i ∈ ((View.whole main_v84_4).slice (win0_15.rect t)).set
  rw [View.set_slice_whole, Rect.mem_set_unit]
  intro a
  match a with
  | ⟨0, _⟩ => show win0_15.index t 0 * 1 ≤ (i 0 : Nat) ∧ (i 0 : Nat) < win0_15.index t 0 * 1 + 1; rw [h0]; omega
  | ⟨1, _⟩ => show win0_15.index t 1 * 512 ≤ (i 1 : Nat) ∧ (i 1 : Nat) < win0_15.index t 1 * 512 + 512; rw [h1]; omega
  | ⟨2, _⟩ => show win0_15.index t 2 * 768 ≤ (i 2 : Nat) ∧ (i 2 : Nat) < win0_15.index t 2 * 768 + 768; rw [h2]; omega

theorem final11 (c : Dev nD) : (dats m 0 c).arrAt 11 cfg0.N = result0 m c := by
  funext i
  by_cases h : ∃ t : Fin cfg0.N, (cfg0.win 11).flush t = true ∧ i ∈ ((cfg0.win 11).blk t).view.set
  · exact ((dats m 0 c).arrAt_eq_piecewise 11 (result0 m c) (fun t _ => flushed11_eq m c t) i).trans (if_pos h)
  · refine (Value.entry11 m c i fun t hf hm => h ⟨t, hf, hm⟩).trans ((congrFun (zeroU_eq m c) i).trans ?_)
    have hn : ¬ (i 0 : Nat) < 4096 := fun hn => h (covered11 i hn)
    show _ = mixArr _ _ _ _ _ i
    unfold mixArr
    rw [dif_neg hn]
    exact zeroBits

theorem final13 (c : Dev nD) : (dats m 0 c).arrAt 13 cfg0.N = result2 m c := by
  funext i
  by_cases h : ∃ t : Fin cfg0.N, (cfg0.win 13).flush t = true ∧ i ∈ ((cfg0.win 13).blk t).view.set
  · exact ((dats m 0 c).arrAt_eq_piecewise 13 (result2 m c) (fun t _ => flushed13_eq m c t) i).trans (if_pos h)
  · refine (Value.entry13 m c i fun t hf hm => h ⟨t, hf, hm⟩).trans ((congrFun (zeroKV_eq m c) i).trans ?_)
    have hn : ¬ (i 1 : Nat) < 4096 := fun hn => h (covered13 i hn)
    show _ = latentArr _ _ _ _ _ _ _ i
    unfold latentArr
    rw [dif_neg hn]
    exact Ideal.ofBits_zero_bf16

theorem final14 (c : Dev nD) : (dats m 0 c).arrAt 14 cfg0.N = result3 m c := by
  funext i
  by_cases h : ∃ t : Fin cfg0.N, (cfg0.win 14).flush t = true ∧ i ∈ ((cfg0.win 14).blk t).view.set
  · exact ((dats m 0 c).arrAt_eq_piecewise 14 (result3 m c) (fun t _ => flushed14_eq m c t) i).trans (if_pos h)
  · refine (Value.entry14 m c i fun t hf hm => h ⟨t, hf, hm⟩).trans ((congrFun (zeroK_eq m c) i).trans ?_)
    have hn : ¬ (i 1 : Nat) < 4096 := fun hn => h (covered14 i hn)
    show _ = keyArr _ _ _ _ _ i
    unfold keyArr
    rw [dif_neg hn]
    exact Ideal.ofBits_zero_bf16

/-- The run: the five result arrays, the arguments unchanged. -/
theorem run : θ_run defs (onTc (τ := τ) (main (F := Ideal))) ⟨m, fun _ => 0, ρ⟩ fun r => ∀ c : Dev nD,
      r.2.mem ((c : Thread nD τ).loc main_v84_0) = result0 m c
      ∧ r.2.mem ((c : Thread nD τ).loc main_v84_2) = result2 m c
      ∧ r.2.mem ((c : Thread nD τ).loc main_v84_3) = result3 m c
      ∧ r.2.mem ((c : Thread nD τ).loc main_v84_1) = result1 m c
      ∧ r.2.mem ((c : Thread nD τ).loc main_v84_4) = result4 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨
      (h c).1.trans (final11 m c),
      (h c).2.2.1.trans (final13 m c),
      (h c).2.2.2.1.trans (final14 m c),
      (h c).2.1.trans ((dats m 0 c).arrAt_eq_of_cover 12 (result1 m c) (fun t _ => flushed12_eq m c t) covered12),
      (h c).2.2.2.2.1.trans ((dats m 0 c).arrAt_eq_of_cover 15 (result4 m c) (fun t _ => flushed15_eq m c t) covered15),
      (h c).2.2.2.2.2⟩) (Value.run_blocks m ρ)

end Cert.ProjInIdeal.Proj

end
-- ==== Proof.ProjTurn.lean ====
/-
  THE INPUT PROJECTIONS: the rotation. The kernel multiplies the rows by the weights' columns and by their partners (the
  column 8 lanes away, negated for the first of a pair), times the cosines and the sines; that is the rotation of the
  products (`turn_eq`), the rows and the weights being real. From it every lane of the kernel's keys and queries in terms
  of the plain projection (`keyLane_eq`, `queryLane_eq`).
-/
module

public import proofs.«01_k».proof.Proof.ProjArray
public import proofs.«01_k».proof.Proof.AttnSoftmax

@[expose] public section

set_option maxRecDepth 16384

noncomputable section

namespace Cert.ProjInIdeal.Proj

open Idealize.ShloMosaic hiding ix1 ix2 ix3 eq_ix1 eq_ix2 eq_ix3 constant_apply
open Idealize.ShloMosaic.ValueIdx Idealize.ShloMosaic.TcCoe Idealize.SL.Sem
open Cert.ProjInIdeal Cert.ProjInIdeal.Gen
open Cert.Rms
open Cert.KernelIdeal.Attn (IsReal IsReal.mul IsReal.sum coe_sum isReal_of_abs_lt)
open scoped BigOperators

/-! ### Real numbers -/

theorem real_add {x y : EReal} (hx : IsReal x) (hy : IsReal y) : IsReal (x + y) := by
  obtain ⟨a, rfl⟩ := hx; obtain ⟨b, rfl⟩ := hy
  exact ⟨a + b, (EReal.coe_add a b).symm⟩

/-- The millionth is a positive number. -/
theorem tinyBits : ∃ e : ℝ, 0 < e ∧ Ideal.ofBits .f32 0x358637BD#32 = (e : EReal) := by
  refine ⟨_, ?_, by simp [Ideal.ofBits, Ideal.ieee]; rfl⟩
  positivity
/-- The lengths are positive numbers. -/
theorem len1024 : ∃ e : ℝ, 0 < e ∧ Ideal.ofBits .f32 0x44800000#32 = (e : EReal) := by
  refine ⟨_, ?_, by simp [Ideal.ofBits, Ideal.ieee]; rfl⟩
  positivity
theorem len384 : ∃ e : ℝ, 0 < e ∧ Ideal.ofBits .f32 0x43C00000#32 = (e : EReal) := by
  refine ⟨_, ?_, by simp [Ideal.ofBits, Ideal.ieee]; rfl⟩
  positivity

/-- A row of real numbers, normalised, is of real numbers. -/
theorem rmsRow_real {N : ℕ} (len : BitVec 32) (hl : ∃ e : ℝ, 0 < e ∧ Ideal.ofBits .f32 len = (e : EReal)) (v : Fin N → EReal)
    (hv : ∀ k, IsReal (v k)) (k : Fin N) : IsReal (rmsRow len v k) := by
  obtain ⟨n, hn, en⟩ := hl
  obtain ⟨e, he, ee⟩ := tinyBits
  refine IsReal.mul (hv k) ?_
  choose a ha using hv
  have hs : ∑ k : Fin N, v k * v k = ((∑ k : Fin N, a k * a k : ℝ) : EReal) := by
    rw [coe_sum]
    exact Finset.sum_congr rfl fun k _ => by rw [ha k, EReal.coe_mul]
  have h0 : 0 ≤ ∑ k : Fin N, a k * a k := Finset.sum_nonneg fun k _ => mul_self_nonneg _
  have hp : 0 < (∑ k : Fin N, a k * a k) * (1 / n) + e := by positivity
  unfold scale
  rw [hs, en, ee, Ideal.div_coe hn.ne', ← EReal.coe_mul, ← EReal.coe_add]
  refine ⟨(Real.sqrt ((∑ k : Fin N, a k * a k) * (1 / n) + e))⁻¹, ?_⟩
  show (if _ < (0 : ℝ) then (⊥ : EReal) else if _ = (0 : ℝ) then (⊤ : EReal) else _) = _
  rw [if_neg (not_lt.mpr hp.le), if_neg hp.ne']

/-- A negated factor negates a sum of products of real numbers. -/
theorem sum_neg_mul {K : ℕ} (f w : Fin K → EReal) (hf : ∀ j, IsReal (f j)) (hw : ∀ j, IsReal (w j)) :
    ∑ j : Fin K, f j * -w j = -∑ j : Fin K, f j * w j := by
  choose a ha using hf
  choose b hb using hw
  have e : ∑ j : Fin K, f j * w j = ((∑ j : Fin K, a j * b j : ℝ) : EReal) := by
    rw [coe_sum]
    exact Finset.sum_congr rfl fun j _ => by rw [ha j, hb j, EReal.coe_mul]
  rw [e, ← EReal.coe_neg, ← Finset.sum_neg_distrib, coe_sum]
  refine Finset.sum_congr rfl fun j _ => ?_
  rw [ha j, hb j, ← EReal.coe_neg, ← EReal.coe_mul, mul_neg]

/-! ### The rotation -/

/-- Sixteen lanes from `o` of 32, rotated: lane `i` and lane `i + 8` are a pair. -/
def spinHalf (k : Fin 32 → EReal) (o : ℕ) (ho : o + 16 ≤ 32) (p q : FVec Ideal S4096x8 .f32) (n : Fin 4096) (i : Fin 16) : EReal :=
  if h : i.val < 8 then k ⟨o + i.val, by omega⟩ * p (ix2 n ⟨i.val, h⟩) - k ⟨o + (i.val + 8), by omega⟩ * q (ix2 n ⟨i.val, h⟩)
  else k ⟨o + (i.val - 8), by omega⟩ * q (ix2 n ⟨i.val - 8, by omega⟩) + k ⟨o + i.val, by omega⟩ * p (ix2 n ⟨i.val - 8, by omega⟩)

/-- The 32 lanes rotated at a token: the first half by its row's angles, the second by its column's. -/
def spin (k : Fin 32 → EReal) (n : Fin 4096) (i : Fin 32) : EReal :=
  if h : i.val < 16 then spinHalf k 0 (by omega) rowCos rowSin n ⟨i.val, h⟩
  else spinHalf k 16 (by omega) colCos colSin n ⟨i.val - 16, by omega⟩

/-- The products with the columns times the cosines and with their partners times the sines: the products rotated. -/
theorem turn_eq {K : ℕ} (f : Fin K → EReal) (w : Fin K → Fin 32 → EReal) (hf : ∀ j, IsReal (f j)) (hw : ∀ j i, IsReal (w j i))
    (n : Fin 4096) (i : Fin 32) :
    (∑ j : Fin K, f j * w j i) * angleLane rowCos colCos n i + (∑ j : Fin K, f j * partner (w j) i) * angleLane rowSin colSin n i
      = spin (fun i => ∑ j : Fin K, f j * w j i) n i := by
  have same : ∀ (a b : Fin 32) (p : FVec Ideal S4096x8 .f32) (c d : Fin 8), a = b → c = d →
      (∑ j : Fin K, f j * w j a) * p (ix2 n c) = (∑ j : Fin K, f j * w j b) * p (ix2 n d) := by
    rintro a _ p c _ rfl rfl
    rfl
  unfold angleLane partner spin spinHalf
  by_cases h1 : i.val < 8
  · rw [if_pos (by omega), if_pos (by omega), dif_pos (show i.val < 16 by omega), dif_pos h1]
    simp only [dif_pos h1]
    rw [sum_neg_mul f _ hf (fun j => hw j _), neg_mul, ← sub_eq_add_neg]
    exact congrArg₂ (· - ·) (same _ _ _ _ _ (Fin.ext (Nat.zero_add _).symm) (Fin.ext (show i.val % 8 = i.val by omega)))
      (same _ _ _ _ _ (Fin.ext (Nat.zero_add _).symm) (Fin.ext (show i.val % 8 = i.val by omega)))
  by_cases h2 : i.val < 16
  · rw [if_pos h2, if_pos h2, dif_pos h2, dif_neg h1]
    simp only [dif_neg h1, dif_pos h2]
    rw [add_comm]
    exact congrArg₂ (· + ·) (same _ _ _ _ _ (Fin.ext (Nat.zero_add _).symm) (Fin.ext (show i.val % 8 = i.val - 8 by omega)))
      (same _ _ _ _ _ (Fin.ext (Nat.zero_add _).symm) (Fin.ext (show i.val % 8 = i.val - 8 by omega)))
  rw [if_neg h2, if_neg h2, dif_neg h2]
  by_cases h3 : i.val < 24
  · rw [dif_pos (show i.val - 16 < 8 by omega)]
    simp only [dif_neg h1, dif_neg h2, dif_pos h3]
    rw [sum_neg_mul f _ hf (fun j => hw j _), neg_mul, ← sub_eq_add_neg]
    exact congrArg₂ (· - ·) (same _ _ _ _ _ (Fin.ext (show i.val = 16 + (i.val - 16) by omega)) (Fin.ext (show i.val % 8 = i.val - 16 by omega)))
      (same _ _ _ _ _ (Fin.ext (show i.val + 8 = 16 + (i.val - 16 + 8) by omega)) (Fin.ext (show i.val % 8 = i.val - 16 by omega)))
  · rw [dif_neg (show ¬ i.val - 16 < 8 by omega)]
    simp only [dif_neg h1, dif_neg h2, dif_neg h3]
    rw [add_comm]
    exact congrArg₂ (· + ·) (same _ _ _ _ _ (Fin.ext (show i.val - 8 = 16 + (i.val - 16 - 8) by omega)) (Fin.ext (show i.val % 8 = i.val - 16 - 8 by omega)))
      (same _ _ _ _ _ (Fin.ext (show i.val = 16 + (i.val - 16) by omega)) (Fin.ext (show i.val % 8 = i.val - 16 - 8 by omega)))

variable (x : FVec Ideal S8x4096x1024 .f32) (g : FVec Ideal S1024 .f32) (sh sc : FVec Ideal S8x1x1024 .f32) (w : FVec Ideal S1024x1696 .f32)
  (qg : FVec Ideal S384 .f32) (wq : FVec Ideal S384x768 .f32)

/-! ### The plain projection -/

/-- One lane of a token's projection by the weights as they are. -/
def flatRow (b : Fin 8) (n : Fin 4096) (l : Fin 1696) : EReal := ∑ k : Fin 1024, normRow x g sh sc w b n k * w (ix2 k l)

/-- The first 896 lanes of the widened projection, -/
theorem wideRow_first (b : Fin 8) (n : Fin 4096) (l : Fin 1920) (l' : Fin 1696) (h : l.val < 896) (e : l'.val = l.val) :
    wideRow x g sh sc w b n l = flatRow x g sh sc w b n l' := by
  refine Finset.sum_congr rfl fun k _ => congrArg (normRow x g sh sc w b n k * ·) ?_
  unfold wideW
  rw [dif_pos h]
  exact congrArg (fun l => w (ix2 k l)) (Fin.ext e.symm)

/-- and the next 768. -/
theorem wideRow_next (b : Fin 8) (n : Fin 4096) (l : Fin 1920) (l' : Fin 1696) (h : 896 ≤ l.val) (h' : l.val < 1664) (e : l'.val = l.val + 32) :
    wideRow x g sh sc w b n l = flatRow x g sh sc w b n l' := by
  refine Finset.sum_congr rfl fun k _ => congrArg (normRow x g sh sc w b n k * ·) ?_
  unfold wideW
  rw [dif_neg (by omega), dif_pos h']
  exact congrArg (fun l => w (ix2 k l)) (Fin.ext e.symm)

theorem wideRow_key (b : Fin 8) (n : Fin 4096) (l : Fin 128) : wideRow x g sh sc w b n ⟨1664 + l.val, by omega⟩
    = ∑ k : Fin 1024, normRow x g sh sc w b n k * slot 0 (keyRow w k) l := by
  refine Finset.sum_congr rfl fun k _ => congrArg (normRow x g sh sc w b n k * ·) ?_
  unfold wideW
  rw [dif_neg (show ¬ 1664 + l.val < 896 by omega), dif_neg (show ¬ 1664 + l.val < 1664 by omega), dif_pos (show 1664 + l.val < 1792 by omega)]
  exact congrArg (slot 0 (keyRow w k)) (Fin.ext (show 1664 + l.val - 1664 = l.val by omega))

theorem wideRow_turn (b : Fin 8) (n : Fin 4096) (l : Fin 128) : wideRow x g sh sc w b n ⟨1792 + l.val, by omega⟩
    = ∑ k : Fin 1024, normRow x g sh sc w b n k * slot 0 (partner (keyRow w k)) l := by
  refine Finset.sum_congr rfl fun k _ => congrArg (normRow x g sh sc w b n k * ·) ?_
  unfold wideW
  rw [dif_neg (show ¬ 1792 + l.val < 896 by omega), dif_neg (show ¬ 1792 + l.val < 1664 by omega), dif_neg (show ¬ 1792 + l.val < 1792 by omega)]
  exact congrArg (slot 0 (partner (keyRow w k))) (Fin.ext (show 1792 + l.val - 1792 = l.val by omega))

/-! ### The rows are real -/

theorem normRow_real (hx : ∀ i, IsReal (x i)) (hg : ∀ i, IsReal (g i)) (hsh : ∀ i, IsReal (sh i)) (hsc : ∀ i, IsReal (sc i))
    (b : Fin 8) (n : Fin 4096) (k : Fin 1024) : IsReal (normRow x g sh sc w b n k) := by
  unfold normRow
  refine real_add (IsReal.mul (IsReal.mul (rmsRow_real _ len1024 _ (fun k => hx _) k) (hg _)) (real_add ?_ (hsc _))) (hsh _)
  rw [Ideal.ofBits_one_f32]
  exact ⟨1, rfl⟩

theorem flatRow_real (hx : ∀ i, IsReal (x i)) (hg : ∀ i, IsReal (g i)) (hsh : ∀ i, IsReal (sh i)) (hsc : ∀ i, IsReal (sc i))
    (hw : ∀ i, IsReal (w i)) (b : Fin 8) (n : Fin 4096) (l : Fin 1696) : IsReal (flatRow x g sh sc w b n l) :=
  IsReal.sum _ fun k => IsReal.mul (normRow_real x g sh sc w hx hg hsh hsc b n k) (hw _)

theorem queryRow_real (hx : ∀ i, IsReal (x i)) (hg : ∀ i, IsReal (g i)) (hsh : ∀ i, IsReal (sh i)) (hsc : ∀ i, IsReal (sc i))
    (hw : ∀ i, IsReal (w i)) (hq : ∀ i, IsReal (qg i)) (b : Fin 8) (n : Fin 4096) (j : Fin 384) : IsReal (queryRow x g sh sc w qg b n j) := by
  unfold queryRow
  refine IsReal.mul (rmsRow_real _ len384 _ (fun j => ?_) j) (hq _)
  rw [wideRow_first x g sh sc w b n ⟨256 + j.val, by omega⟩ ⟨256 + j.val, by omega⟩ (show 256 + j.val < 896 by omega) rfl]
  exact flatRow_real x g sh sc w hx hg hsh hsc hw b n _

/-! ### The keys and the queries -/

/-- One lane of a token's key: the key's 32 projections rotated, in their slot, zero elsewhere. -/
theorem keyLane_eq (hx : ∀ i, IsReal (x i)) (hg : ∀ i, IsReal (g i)) (hsh : ∀ i, IsReal (sh i)) (hsc : ∀ i, IsReal (sc i))
    (hw : ∀ i, IsReal (w i)) (b : Fin 8) (n : Fin 4096) (l : Fin 128) :
    keyLane x g sh sc w b n l = slot 0 (spin (fun i => flatRow x g sh sc w b n ⟨896 + i.val, by omega⟩) n) l := by
  unfold keyLane
  rw [wideRow_key, wideRow_turn]
  unfold cosLane sinLane slot
  by_cases h : 64 ≤ l.val ∧ l.val < 96
  · simp only [dif_pos h]
    exact turn_eq (normRow x g sh sc w b n) (keyRow w) (normRow_real x g sh sc w hx hg hsh hsc b n) (fun j i => hw _) n ⟨l.val - 64, by omega⟩
  · simp only [dif_neg h, mul_zero, Finset.sum_const_zero, zero_mul, add_zero]

/-- One lane of a token's queries by the weights as they are. -/
def queryFlat (b : Fin 8) (n : Fin 4096) (l : Fin 768) : EReal := ∑ j : Fin 384, queryRow x g sh sc w qg b n j * wq (ix2 j l)

/-- One lane of a token's queries: a head's 64 as they are, its 32 rotated, zeros; each times the scale. -/
theorem queryLane_eq (hx : ∀ i, IsReal (x i)) (hg : ∀ i, IsReal (g i)) (hsh : ∀ i, IsReal (sh i)) (hsc : ∀ i, IsReal (sc i))
    (hw : ∀ i, IsReal (w i)) (hq : ∀ i, IsReal (qg i)) (hwq : ∀ i, IsReal (wq i)) (b : Fin 8) (n : Fin 4096) (e : Fin 8) (r : Fin 128)
    (l : Fin 1024) (hl : l.val = e.val * 128 + r.val) :
    queryLane x g sh sc w qg wq b n l
      = if h : r.val < 64 then queryFlat x g sh sc w qg wq b n ⟨e.val * 96 + r.val, by omega⟩ * Ideal.ofBits .f32 0x3DD105EC#32
        else if h' : r.val < 96 then
          spin (fun i => queryFlat x g sh sc w qg wq b n ⟨e.val * 96 + (64 + i.val), by omega⟩) n ⟨r.val - 64, by omega⟩ * Ideal.ofBits .f32 0x3DD105EC#32
        else 0 := by
  have eq1 : (⟨l.val / 128, by omega⟩ : Fin 8) = e := Fin.ext (by show l.val / 128 = e.val; omega)
  have er : (⟨l.val % 128, by omega⟩ : Fin 128) = r := Fin.ext (by show l.val % 128 = r.val; omega)
  have own : ∀ j : Fin 384, ownW wq j l = if h : r.val < 96 then headLane wq j e ⟨r.val, h⟩ else 0 := fun j => by
    have em : l.val % 128 = r.val := by omega
    exact dite_congr (congrArg (· < 96) em) (fun h => congrArg₂ (headLane wq j) eq1 (Fin.ext em)) fun _ => rfl
  have turn : ∀ j : Fin 384, turnW wq j l = slot 0 (partner (headKey wq j e)) r := fun j =>
    congrArg₂ (fun e r => slot 0 (partner (headKey wq j e)) r) eq1 er
  unfold queryLane
  simp only [own, turn, er]
  unfold cosLane sinLane slot
  by_cases h : r.val < 64
  · have h2 : ¬ (64 ≤ r.val ∧ r.val < 96) := by omega
    simp only [dif_pos h, dif_pos (show r.val < 96 by omega), dif_neg h2, mul_zero, Finset.sum_const_zero, zero_mul, add_zero, Ideal.ofBits_one_f32, mul_one]
    rfl
  by_cases h' : r.val < 96
  · have h2 : 64 ≤ r.val ∧ r.val < 96 := by omega
    simp only [dif_neg h, dif_pos h', dif_pos h2]
    refine congrArg (· * Ideal.ofBits .f32 0x3DD105EC#32) ?_
    refine Eq.trans ?_ (turn_eq (queryRow x g sh sc w qg b n) (fun j => headKey wq j e) (queryRow_real x g sh sc w qg hx hg hsh hsc hw hq b n)
      (fun j i => hwq _) n ⟨r.val - 64, by omega⟩)
    refine congrArg₂ (· + ·) (congrArg (· * _) (Finset.sum_congr rfl fun j _ => congrArg (queryRow x g sh sc w qg b n j * ·) ?_)) rfl
    unfold headKey
    exact congrArg (headLane wq j e) (Fin.ext (show r.val = 64 + (r.val - 64) by omega))
  · have h2 : ¬ (64 ≤ r.val ∧ r.val < 96) := by omega
    simp only [dif_neg h, dif_neg h', dif_neg h2, mul_zero, Finset.sum_const_zero, zero_mul, add_zero]

end Cert.ProjInIdeal.Proj

end
-- ==== Proof.ProjRef.lean ====
/-
  THE INPUT PROJECTIONS: the reference. Its rows normalised and modulated (`rows_apply`), their projection lane by lane
  (`flat_apply`), the compressed queries, keys and values normalised and multiplied (`query_apply`, `latent_apply`), and the
  keys' and the queries' 32 lanes rotated (`key_apply`, `turned_apply`).
-/
module

public import proofs.«01_k».proof.Proof.ProjTurn
public import proofs.«01_k».proof.Proof.Gen.ProjInReferenceIdeal.Read
public import Idealize.ShloMosaic.Lib.KernelVsHost

@[expose] public section

set_option maxRecDepth 16384

noncomputable section

namespace Cert.ProjInReferenceIdeal.Proj

open Idealize.ShloMosaic hiding ix1 ix2 ix3 ix4 eq_ix1 eq_ix2 eq_ix3 eq_ix4 constant_apply
open Idealize.ShloMosaic.ValueIdx Idealize.ShloMosaic.TcCoe Idealize.SL.Sem
open Cert.ProjInReferenceIdeal Cert.ProjInReferenceIdeal.Gen Cert.ProjInReferenceIdeal.Read
open Cert.ProjInIdeal.Proj (normRow flatRow wideRow wideRow_first wideRow_next queryRow queryFlat latentRow spin spinHalf rowCos rowSin colCos colSin)
open Cert.Rms
open scoped BigOperators

/-- Piece `k` of heads' lanes laid side by side. -/
theorem side4 {A B C N M : ℕ} (xs : List ((s : Shape) × (s.Idx → EReal))) (h : Shape.Concatenates (xs.map (·.1)) ⟨4, ![A, B, C, N]⟩ 3)
    (r : Fin A) (b : Fin B) (c : Fin C) (l : Fin N) (k : ℕ) (hk : k < xs.length) (x : (⟨4, ![A, B, C, M]⟩ : Shape).Idx → EReal)
    (hx : xs[k] = ⟨⟨4, ![A, B, C, M]⟩, x⟩) (pre : ℕ)
    (hpre : (((xs.take k).map (·.1)).map fun s => if h : s.rank = 4 then s.size ((3 : Fin 4).cast h.symm) else 0).sum = pre)
    (l' : Fin M) (hl : pre + l'.val = l.val) : concatenate ⟨4, ![A, B, C, N]⟩ 3 xs h (ix4 r b c l) = x (ix4 r b c l') :=
  concatenate_apply_piece (t := ⟨4, ![A, B, C, N]⟩) (3 : Fin 4) xs h (ix4 r b c l) k hk _ x hx rfl pre hpre (ix4 r b c l')
    (fun a ha => by match a with | ⟨0, _⟩ => rfl | ⟨1, _⟩ => rfl | ⟨2, _⟩ => rfl | ⟨3, _⟩ => exact absurd rfl ha) hl

variable (x0 : FVec Ideal S8x4096x1024 .f32) (x1 : FVec Ideal S1024 .f32) (x2 x3 : FVec Ideal S8x1x1024 .f32) (x4 : FVec Ideal S1024x1696 .f32)
  (x5 : FVec Ideal S384 .f32) (x6 : FVec Ideal S384x768 .f32) (x7 : FVec Ideal S256 .f32) (x8 : FVec Ideal S256x1024 .f32)
/-! ### The rows -/

/-- A token's factor. -/
theorem rowScale_apply (b : Fin 8) (n : Fin 4096) :
    val_main_v7 (F := Ideal) x0 (ix3 b n (0 : Fin 1)) = scale 0x44800000#32 (fun k : Fin 1024 => x0 (ix3 b n k)) := by
  rw [val_main_v7_apply, val_main_v6_apply, val_main_v4_apply, val_main_v2_apply, val_main_v1_apply, val_main_v3_apply,
    val_main_v5_apply, val_main_cst_apply, val_main_cst_0_apply, val_main_cst_1_apply]
  show Ideal.rsqrt (Ideal.div (Ideal.ofBits .f32 0x00000000#32 + _) (Ideal.ofBits .f32 0x44800000#32) + Ideal.ofBits .f32 0x358637BD#32) = _
  rw [zeroBits, zero_add]
  refine congrArg (fun s => Ideal.rsqrt (Ideal.div s (Ideal.ofBits .f32 0x44800000#32) + Ideal.ofBits .f32 0x358637BD#32)) ?_
  refine Finset.sum_congr rfl fun k _ => ?_
  have e : idx_main_v1 (idx_main_v2 (ix3 b n (0 : Fin 1))) k = ix3 b n k := funext fun a => Fin.ext (by
    match a with
    | ⟨0, _⟩ => rfl
    | ⟨1, _⟩ => rfl
    | ⟨2, _⟩ => rfl)
  rw [val_main_v0_apply, e]
  rfl

/-- A token's row normalised and modulated. -/
theorem rows_apply (b : Fin 8) (n : Fin 4096) (k : Fin 1024) :
    val_main_v18 (F := Ideal) x0 x1 x2 x3 (ix3 b n k) = normRow x0 x1 x2 x3 x4 b n k := by
  have e8 : idx_main_v8 (ix3 b n k) = ix3 b n (0 : Fin 1) := funext fun a => Fin.ext (by
    match a with
    | ⟨0, _⟩ => rfl
    | ⟨1, _⟩ => rfl
    | ⟨2, _⟩ => rfl)
  have e10 : idx_main_v10 (idx_main_v11 (ix3 b n k)) = ix1 k := funext fun a => Fin.ext (by
    match a with
    | ⟨0, _⟩ => rfl)
  have e15 : idx_main_v15 (ix3 b n k) = ix3 b (0 : Fin 1) k := funext fun a => Fin.ext (by
    match a with
    | ⟨0, _⟩ => rfl
    | ⟨1, _⟩ => rfl
    | ⟨2, _⟩ => rfl)
  have e17 : idx_main_v17 (ix3 b n k) = ix3 b (0 : Fin 1) k := funext fun a => Fin.ext (by
    match a with
    | ⟨0, _⟩ => rfl
    | ⟨1, _⟩ => rfl
    | ⟨2, _⟩ => rfl)
  rw [val_main_v18_apply, val_main_v16_apply, val_main_v12_apply, val_main_v9_apply, val_main_v8_apply, val_main_v11_apply, val_main_v10_apply,
    val_main_v15_apply, val_main_v14_apply, val_main_v13_apply, val_main_cst_2_apply, val_main_v17_apply, e8, e10, e15, e17, rowScale_apply]
  rfl

/-- Its projection, at a lane. -/
theorem flat_apply (b : Fin 8) (n : Fin 4096) (l : Fin 1696) : val_main_v19 (F := Ideal) x0 x1 x2 x3 x4 (ix3 b n l) = flatRow x0 x1 x2 x3 x4 b n l := by
  have e : ∀ k : Fin 1024, lidx_main_v19 (ix3 b n l) k = ix3 b n k := fun k => funext fun a => Fin.ext (by
    match a with
    | ⟨0, _⟩ => rfl
    | ⟨1, _⟩ => rfl
    | ⟨2, _⟩ => rfl)
  have e' : ∀ k : Fin 1024, ridx_main_v19 (ix3 b n l) k = ix2 k l := fun k => funext fun a => Fin.ext (by
    match a with
    | ⟨0, _⟩ => rfl
    | ⟨1, _⟩ => rfl)
  rw [val_main_v19_apply]
  refine Finset.sum_congr rfl fun k _ => ?_
  rw [e, e', rows_apply x0 x1 x2 x3 x4]

/-- The first mixers' lanes, -/
theorem mixPart_apply (b : Fin 8) (n : Fin 4096) (j : Fin 256) :
    val_main_v20 (F := Ideal) x0 x1 x2 x3 x4 (ix3 b n j) = flatRow x0 x1 x2 x3 x4 b n ⟨j.val, by omega⟩ := by
  rw [val_main_v20_apply]
  refine Eq.trans (congrArg (val_main_v19 (F := Ideal) x0 x1 x2 x3 x4) (funext fun a => Fin.ext ?_)) (flat_apply x0 x1 x2 x3 x4 b n _)
  match a with
  | ⟨0, _⟩ => rfl
  | ⟨1, _⟩ => rfl
  | ⟨2, _⟩ => rfl

/-- the compressed queries, -/
theorem queryPart_apply (b : Fin 8) (n : Fin 4096) (j : Fin 384) :
    val_main_v21 (F := Ideal) x0 x1 x2 x3 x4 (ix3 b n j) = flatRow x0 x1 x2 x3 x4 b n ⟨256 + j.val, by omega⟩ := by
  rw [val_main_v21_apply]
  refine Eq.trans (congrArg (val_main_v19 (F := Ideal) x0 x1 x2 x3 x4) (funext fun a => Fin.ext ?_)) (flat_apply x0 x1 x2 x3 x4 b n _)
  match a with
  | ⟨0, _⟩ => rfl
  | ⟨1, _⟩ => rfl
  | ⟨2, _⟩ => rfl

/-- the compressed keys and values, -/
theorem latentPart_apply (b : Fin 8) (n : Fin 4096) (j : Fin 256) :
    val_main_v22 (F := Ideal) x0 x1 x2 x3 x4 (ix3 b n j) = flatRow x0 x1 x2 x3 x4 b n ⟨640 + j.val, by omega⟩ := by
  rw [val_main_v22_apply]
  refine Eq.trans (congrArg (val_main_v19 (F := Ideal) x0 x1 x2 x3 x4) (funext fun a => Fin.ext ?_)) (flat_apply x0 x1 x2 x3 x4 b n _)
  match a with
  | ⟨0, _⟩ => rfl
  | ⟨1, _⟩ => rfl
  | ⟨2, _⟩ => rfl

/-- the key's lanes, -/
theorem keyPart_apply (b : Fin 8) (n : Fin 4096) (j : Fin 32) :
    val_main_v23 (F := Ideal) x0 x1 x2 x3 x4 (ix3 b n j) = flatRow x0 x1 x2 x3 x4 b n ⟨896 + j.val, by omega⟩ := by
  rw [val_main_v23_apply]
  refine Eq.trans (congrArg (val_main_v19 (F := Ideal) x0 x1 x2 x3 x4) (funext fun a => Fin.ext ?_)) (flat_apply x0 x1 x2 x3 x4 b n _)
  match a with
  | ⟨0, _⟩ => rfl
  | ⟨1, _⟩ => rfl
  | ⟨2, _⟩ => rfl

/-- and the third mixers'. -/
theorem hyenaPart_apply (b : Fin 8) (n : Fin 4096) (j : Fin 768) :
    val_main_v24 (F := Ideal) x0 x1 x2 x3 x4 (ix3 b n j) = flatRow x0 x1 x2 x3 x4 b n ⟨928 + j.val, by omega⟩ := by
  rw [val_main_v24_apply]
  refine Eq.trans (congrArg (val_main_v19 (F := Ideal) x0 x1 x2 x3 x4) (funext fun a => Fin.ext ?_)) (flat_apply x0 x1 x2 x3 x4 b n _)
  match a with
  | ⟨0, _⟩ => rfl
  | ⟨1, _⟩ => rfl
  | ⟨2, _⟩ => rfl

/-- The factor of the compressed queries. -/
theorem queryScale_apply (b : Fin 8) (n : Fin 4096) :
    val_main_v108 (F := Ideal) x0 x1 x2 x3 x4 (ix3 b n (0 : Fin 1)) = scale 0x43C00000#32 (fun j : Fin 384 => flatRow x0 x1 x2 x3 x4 b n ⟨256 + j.val, by omega⟩) := by
  rw [val_main_v108_apply, val_main_v107_apply, val_main_v105_apply, val_main_v103_apply, val_main_v102_apply, val_main_v104_apply,
    val_main_v106_apply, val_main_cst_7_apply, val_main_cst_8_apply, val_main_cst_9_apply]
  show Ideal.rsqrt (Ideal.div (Ideal.ofBits .f32 0x00000000#32 + _) (Ideal.ofBits .f32 0x43C00000#32) + Ideal.ofBits .f32 0x358637BD#32) = _
  rw [zeroBits, zero_add]
  refine congrArg (fun s => Ideal.rsqrt (Ideal.div s (Ideal.ofBits .f32 0x43C00000#32) + Ideal.ofBits .f32 0x358637BD#32)) ?_
  refine Finset.sum_congr rfl fun k _ => ?_
  have e : idx_main_v102 (idx_main_v103 (ix3 b n (0 : Fin 1))) k = ix3 b n k := funext fun a => Fin.ext (by
    match a with
    | ⟨0, _⟩ => rfl
    | ⟨1, _⟩ => rfl
    | ⟨2, _⟩ => rfl)
  rw [val_main_v101_apply, e, queryPart_apply]
  rfl

/-- The compressed queries normalised. -/
theorem queryRow_apply (b : Fin 8) (n : Fin 4096) (j : Fin 384) :
    val_main_v113 (F := Ideal) x0 x1 x2 x3 x4 x5 (ix3 b n j) = queryRow x0 x1 x2 x3 x4 x5 b n j := by
  have e : idx_main_v109 (ix3 b n j) = ix3 b n (0 : Fin 1) := funext fun a => Fin.ext (by
    match a with
    | ⟨0, _⟩ => rfl
    | ⟨1, _⟩ => rfl
    | ⟨2, _⟩ => rfl)
  have e' : idx_main_v111 (idx_main_v112 (ix3 b n j)) = ix1 j := funext fun a => Fin.ext (by
    match a with
    | ⟨0, _⟩ => rfl)
  have ew : ∀ j : Fin 384, wideRow x0 x1 x2 x3 x4 b n ⟨256 + j.val, by omega⟩ = flatRow x0 x1 x2 x3 x4 b n ⟨256 + j.val, by omega⟩ := fun j =>
    wideRow_first x0 x1 x2 x3 x4 b n _ _ (show 256 + j.val < 896 by omega) rfl
  unfold queryRow
  simp only [ew]
  rw [val_main_v113_apply, val_main_v110_apply, val_main_v109_apply, val_main_v112_apply, val_main_v111_apply, e, e', queryScale_apply,
    queryPart_apply]
  rfl

/-- The factor of the compressed keys and values. -/
theorem latentScale_apply (b : Fin 8) (n : Fin 4096) :
    val_main_v169 (F := Ideal) x0 x1 x2 x3 x4 (ix3 b n (0 : Fin 1)) = scale 0x43800000#32 (fun j : Fin 256 => flatRow x0 x1 x2 x3 x4 b n ⟨640 + j.val, by omega⟩) := by
  rw [val_main_v169_apply, val_main_v168_apply, val_main_v166_apply, val_main_v164_apply, val_main_v163_apply, val_main_v165_apply,
    val_main_v167_apply, val_main_cst_11_apply, val_main_cst_12_apply, val_main_cst_13_apply]
  show Ideal.rsqrt (Ideal.div (Ideal.ofBits .f32 0x00000000#32 + _) (Ideal.ofBits .f32 0x43800000#32) + Ideal.ofBits .f32 0x358637BD#32) = _
  rw [zeroBits, zero_add]
  refine congrArg (fun s => Ideal.rsqrt (Ideal.div s (Ideal.ofBits .f32 0x43800000#32) + Ideal.ofBits .f32 0x358637BD#32)) ?_
  refine Finset.sum_congr rfl fun k _ => ?_
  have e : idx_main_v163 (idx_main_v164 (ix3 b n (0 : Fin 1))) k = ix3 b n k := funext fun a => Fin.ext (by
    match a with
    | ⟨0, _⟩ => rfl
    | ⟨1, _⟩ => rfl
    | ⟨2, _⟩ => rfl)
  rw [val_main_v162_apply, e, latentPart_apply]
  rfl

/-- The compressed keys and values normalised. -/
theorem latentRow_apply (b : Fin 8) (n : Fin 4096) (j : Fin 256) :
    val_main_v174 (F := Ideal) x0 x1 x2 x3 x4 x7 (ix3 b n j) = latentRow x0 x1 x2 x3 x4 x7 b n j := by
  have e : idx_main_v170 (ix3 b n j) = ix3 b n (0 : Fin 1) := funext fun a => Fin.ext (by
    match a with
    | ⟨0, _⟩ => rfl
    | ⟨1, _⟩ => rfl
    | ⟨2, _⟩ => rfl)
  have e' : idx_main_v172 (idx_main_v173 (ix3 b n j)) = ix1 j := funext fun a => Fin.ext (by
    match a with
    | ⟨0, _⟩ => rfl)
  have ew : ∀ j : Fin 256, wideRow x0 x1 x2 x3 x4 b n ⟨640 + j.val, by omega⟩ = flatRow x0 x1 x2 x3 x4 b n ⟨640 + j.val, by omega⟩ := fun j =>
    wideRow_first x0 x1 x2 x3 x4 b n _ _ (show 640 + j.val < 896 by omega) rfl
  unfold latentRow
  simp only [ew]
  rw [val_main_v174_apply, val_main_v171_apply, val_main_v170_apply, val_main_v173_apply, val_main_v172_apply, e, e', latentScale_apply,
    latentPart_apply]
  rfl

/-- The queries, at a lane. -/
theorem query_apply (b : Fin 8) (n : Fin 4096) (l : Fin 768) : val_main_v114 (F := Ideal) x0 x1 x2 x3 x4 x5 x6 (ix3 b n l) = queryFlat x0 x1 x2 x3 x4 x5 x6 b n l := by
  have e : ∀ k : Fin 384, lidx_main_v114 (ix3 b n l) k = ix3 b n k := fun k => funext fun a => Fin.ext (by
    match a with
    | ⟨0, _⟩ => rfl
    | ⟨1, _⟩ => rfl
    | ⟨2, _⟩ => rfl)
  have e' : ∀ k : Fin 384, ridx_main_v114 (ix3 b n l) k = ix2 k l := fun k => funext fun a => Fin.ext (by
    match a with
    | ⟨0, _⟩ => rfl
    | ⟨1, _⟩ => rfl)
  rw [val_main_v114_apply]
  refine Finset.sum_congr rfl fun k _ => ?_
  rw [e, e', queryRow_apply]

/-- The keys and values, at a lane. -/
theorem latent_apply (b : Fin 8) (n : Fin 4096) (l : Fin 1024) : val_main_v175 (F := Ideal) x0 x1 x2 x3 x4 x7 x8 (ix3 b n l)
    = ∑ j : Fin 256, latentRow x0 x1 x2 x3 x4 x7 b n j * x8 (ix2 j l) := by
  have e : ∀ k : Fin 256, lidx_main_v175 (ix3 b n l) k = ix3 b n k := fun k => funext fun a => Fin.ext (by
    match a with
    | ⟨0, _⟩ => rfl
    | ⟨1, _⟩ => rfl
    | ⟨2, _⟩ => rfl)
  have e' : ∀ k : Fin 256, ridx_main_v175 (ix3 b n l) k = ix2 k l := fun k => funext fun a => Fin.ext (by
    match a with
    | ⟨0, _⟩ => rfl
    | ⟨1, _⟩ => rfl)
  rw [val_main_v175_apply]
  refine Finset.sum_congr rfl fun k _ => ?_
  rw [e, e', latentRow_apply]

/-! ### The rotations -/

/-- The cosines and sines of the tokens' rows and columns. -/
theorem rowCos_eq : val_main_v54 (F := Ideal) = rowCos := rfl
theorem rowSin_eq : val_main_v55 (F := Ideal) = rowSin := rfl
theorem colCos_eq : val_main_v56 (F := Ideal) = colCos := rfl
theorem colSin_eq : val_main_v57 (F := Ideal) = colSin := rfl

/-- The key's first sixteen lanes rotated, and its last. -/
theorem keyFirst_apply (b : Fin 8) (n : Fin 4096) (i : Fin 16) : val_main_v80 (F := Ideal) x0 x1 x2 x3 x4 (ix4 b n (0 : Fin 1) i)
    = spinHalf (fun i => val_main_v58 (F := Ideal) x0 x1 x2 x3 x4 (ix4 b n (0 : Fin 1) i)) 0 (by omega) rowCos rowSin n i := by
  have ea : ∀ i : Fin 8, idx_main_v63 (idx_main_v64 (ix4 b n (0 : Fin 1) i)) = ix4 b n (0 : Fin 1) (⟨0 + i.val, by omega⟩ : Fin 32) := fun i => funext fun a => Fin.ext (by
    match a with
    | ⟨0, _⟩ => rfl
    | ⟨1, _⟩ => rfl
    | ⟨2, _⟩ => rfl
    | ⟨3, _⟩ => first | rfl | (show i.val = 0 + i.val; omega))
  have eb : ∀ i : Fin 8, idx_main_v63 (idx_main_v65 (ix4 b n (0 : Fin 1) i)) = ix4 b n (0 : Fin 1) (⟨0 + (i.val + 8), by omega⟩ : Fin 32) := fun i => funext fun a => Fin.ext (by
    match a with
    | ⟨0, _⟩ => rfl
    | ⟨1, _⟩ => rfl
    | ⟨2, _⟩ => rfl
    | ⟨3, _⟩ => show 8 + i.val = 0 + (i.val + 8); omega)
  have e1 : ∀ i : Fin 8, idx_main_v59 (idx_main_v66 (idx_main_v67 (ix4 b n (0 : Fin 1) i))) = ix2 n i := fun i => funext fun a => Fin.ext (by
    match a with
    | ⟨0, _⟩ => rfl
    | ⟨1, _⟩ => rfl)
  have e2 : ∀ i : Fin 8, idx_main_v60 (idx_main_v69 (idx_main_v70 (ix4 b n (0 : Fin 1) i))) = ix2 n i := fun i => funext fun a => Fin.ext (by
    match a with
    | ⟨0, _⟩ => rfl
    | ⟨1, _⟩ => rfl)
  have e3 : ∀ i : Fin 8, idx_main_v60 (idx_main_v73 (idx_main_v74 (ix4 b n (0 : Fin 1) i))) = ix2 n i := fun i => funext fun a => Fin.ext (by
    match a with
    | ⟨0, _⟩ => rfl
    | ⟨1, _⟩ => rfl)
  have e4 : ∀ i : Fin 8, idx_main_v59 (idx_main_v76 (idx_main_v77 (ix4 b n (0 : Fin 1) i))) = ix2 n i := fun i => funext fun a => Fin.ext (by
    match a with
    | ⟨0, _⟩ => rfl
    | ⟨1, _⟩ => rfl)
  unfold spinHalf val_main_v80
  by_cases h : i.val < 8
  · rw [dif_pos h]
    refine (side4 _ _ b n (0 : Fin 1) i 0 (by simp) _ rfl 0 rfl ⟨i.val, h⟩ (Nat.zero_add _)).trans ?_
    rw [val_main_v72_apply, val_main_v68_apply, val_main_v71_apply, val_main_v64_apply, val_main_v65_apply, val_main_v63_apply, val_main_v63_apply, val_main_v67_apply, val_main_v66_apply, val_main_v59_apply, val_main_v70_apply, val_main_v69_apply, val_main_v60_apply,
      ea, eb, e1, e2, rowCos_eq, rowSin_eq]
    rfl
  · rw [dif_neg h]
    refine (side4 _ _ b n (0 : Fin 1) i 1 (by simp) _ rfl 8 rfl ⟨i.val - 8, by omega⟩ (by show 8 + (i.val - 8) = i.val; omega)).trans ?_
    rw [val_main_v79_apply, val_main_v75_apply, val_main_v78_apply, val_main_v64_apply, val_main_v65_apply, val_main_v63_apply, val_main_v63_apply, val_main_v74_apply, val_main_v73_apply, val_main_v60_apply, val_main_v77_apply, val_main_v76_apply, val_main_v59_apply,
      ea, eb, e3, e4, rowCos_eq, rowSin_eq]
    have ei : (⟨0 + ((⟨i.val - 8, by omega⟩ : Fin 8).val + 8), by show 0 + (i.val - 8 + 8) < 32; omega⟩ : Fin 32) = ⟨0 + i.val, by omega⟩ :=
      Fin.ext (by show 0 + (i.val - 8 + 8) = 0 + i.val; omega)
    rw [ei]
    rfl

/-- The key's last. -/
theorem keyLast_apply (b : Fin 8) (n : Fin 4096) (i : Fin 16) : val_main_v98 (F := Ideal) x0 x1 x2 x3 x4 (ix4 b n (0 : Fin 1) i)
    = spinHalf (fun i => val_main_v58 (F := Ideal) x0 x1 x2 x3 x4 (ix4 b n (0 : Fin 1) i)) 16 (by omega) colCos colSin n i := by
  have ea : ∀ i : Fin 8, idx_main_v81 (idx_main_v82 (ix4 b n (0 : Fin 1) i)) = ix4 b n (0 : Fin 1) (⟨16 + i.val, by omega⟩ : Fin 32) := fun i => funext fun a => Fin.ext (by
    match a with
    | ⟨0, _⟩ => rfl
    | ⟨1, _⟩ => rfl
    | ⟨2, _⟩ => rfl
    | ⟨3, _⟩ => first | rfl | (show i.val = 0 + i.val; omega))
  have eb : ∀ i : Fin 8, idx_main_v81 (idx_main_v83 (ix4 b n (0 : Fin 1) i)) = ix4 b n (0 : Fin 1) (⟨16 + (i.val + 8), by omega⟩ : Fin 32) := fun i => funext fun a => Fin.ext (by
    match a with
    | ⟨0, _⟩ => rfl
    | ⟨1, _⟩ => rfl
    | ⟨2, _⟩ => rfl
    | ⟨3, _⟩ => show 16 + (8 + i.val) = 16 + (i.val + 8); omega)
  have e1 : ∀ i : Fin 8, idx_main_v61 (idx_main_v84 (idx_main_v85 (ix4 b n (0 : Fin 1) i))) = ix2 n i := fun i => funext fun a => Fin.ext (by
    match a with
    | ⟨0, _⟩ => rfl
    | ⟨1, _⟩ => rfl)
  have e2 : ∀ i : Fin 8, idx_main_v62 (idx_main_v87 (idx_main_v88 (ix4 b n (0 : Fin 1) i))) = ix2 n i := fun i => funext fun a => Fin.ext (by
    match a with
    | ⟨0, _⟩ => rfl
    | ⟨1, _⟩ => rfl)
  have e3 : ∀ i : Fin 8, idx_main_v62 (idx_main_v91 (idx_main_v92 (ix4 b n (0 : Fin 1) i))) = ix2 n i := fun i => funext fun a => Fin.ext (by
    match a with
    | ⟨0, _⟩ => rfl
    | ⟨1, _⟩ => rfl)
  have e4 : ∀ i : Fin 8, idx_main_v61 (idx_main_v94 (idx_main_v95 (ix4 b n (0 : Fin 1) i))) = ix2 n i := fun i => funext fun a => Fin.ext (by
    match a with
    | ⟨0, _⟩ => rfl
    | ⟨1, _⟩ => rfl)
  unfold spinHalf val_main_v98
  by_cases h : i.val < 8
  · rw [dif_pos h]
    refine (side4 _ _ b n (0 : Fin 1) i 0 (by simp) _ rfl 0 rfl ⟨i.val, h⟩ (Nat.zero_add _)).trans ?_
    rw [val_main_v90_apply, val_main_v86_apply, val_main_v89_apply, val_main_v82_apply, val_main_v83_apply, val_main_v81_apply, val_main_v81_apply, val_main_v85_apply, val_main_v84_apply, val_main_v61_apply, val_main_v88_apply, val_main_v87_apply, val_main_v62_apply,
      ea, eb, e1, e2, colCos_eq, colSin_eq]
    rfl
  · rw [dif_neg h]
    refine (side4 _ _ b n (0 : Fin 1) i 1 (by simp) _ rfl 8 rfl ⟨i.val - 8, by omega⟩ (by show 8 + (i.val - 8) = i.val; omega)).trans ?_
    rw [val_main_v97_apply, val_main_v93_apply, val_main_v96_apply, val_main_v82_apply, val_main_v83_apply, val_main_v81_apply, val_main_v81_apply, val_main_v92_apply, val_main_v91_apply, val_main_v62_apply, val_main_v95_apply, val_main_v94_apply, val_main_v61_apply,
      ea, eb, e3, e4, colCos_eq, colSin_eq]
    have ei : (⟨16 + ((⟨i.val - 8, by omega⟩ : Fin 8).val + 8), by show 16 + (i.val - 8 + 8) < 32; omega⟩ : Fin 32) = ⟨16 + i.val, by omega⟩ :=
      Fin.ext (by show 16 + (i.val - 8 + 8) = 16 + i.val; omega)
    rw [ei]
    rfl

/-- A head's first sixteen of its 32, -/
theorem headFirst_apply (b : Fin 8) (n : Fin 4096) (e : Fin 8) (i : Fin 16) : val_main_v139 (F := Ideal) x0 x1 x2 x3 x4 x5 x6 (ix4 b n e i)
    = spinHalf (fun i => val_main_v117 (F := Ideal) x0 x1 x2 x3 x4 x5 x6 (ix4 b n e i)) 0 (by omega) rowCos rowSin n i := by
  have ea : ∀ i : Fin 8, idx_main_v122 (idx_main_v123 (ix4 b n e i)) = ix4 b n e (⟨0 + i.val, by omega⟩ : Fin 32) := fun i => funext fun a => Fin.ext (by
    match a with
    | ⟨0, _⟩ => rfl
    | ⟨1, _⟩ => rfl
    | ⟨2, _⟩ => rfl
    | ⟨3, _⟩ => first | rfl | (show i.val = 0 + i.val; omega))
  have eb : ∀ i : Fin 8, idx_main_v122 (idx_main_v124 (ix4 b n e i)) = ix4 b n e (⟨0 + (i.val + 8), by omega⟩ : Fin 32) := fun i => funext fun a => Fin.ext (by
    match a with
    | ⟨0, _⟩ => rfl
    | ⟨1, _⟩ => rfl
    | ⟨2, _⟩ => rfl
    | ⟨3, _⟩ => show 8 + i.val = 0 + (i.val + 8); omega)
  have e1 : ∀ i : Fin 8, idx_main_v118 (idx_main_v125 (idx_main_v126 (ix4 b n e i))) = ix2 n i := fun i => funext fun a => Fin.ext (by
    match a with
    | ⟨0, _⟩ => rfl
    | ⟨1, _⟩ => rfl)
  have e2 : ∀ i : Fin 8, idx_main_v119 (idx_main_v128 (idx_main_v129 (ix4 b n e i))) = ix2 n i := fun i => funext fun a => Fin.ext (by
    match a with
    | ⟨0, _⟩ => rfl
    | ⟨1, _⟩ => rfl)
  have e3 : ∀ i : Fin 8, idx_main_v119 (idx_main_v132 (idx_main_v133 (ix4 b n e i))) = ix2 n i := fun i => funext fun a => Fin.ext (by
    match a with
    | ⟨0, _⟩ => rfl
    | ⟨1, _⟩ => rfl)
  have e4 : ∀ i : Fin 8, idx_main_v118 (idx_main_v135 (idx_main_v136 (ix4 b n e i))) = ix2 n i := fun i => funext fun a => Fin.ext (by
    match a with
    | ⟨0, _⟩ => rfl
    | ⟨1, _⟩ => rfl)
  unfold spinHalf val_main_v139
  by_cases h : i.val < 8
  · rw [dif_pos h]
    refine (side4 _ _ b n e i 0 (by simp) _ rfl 0 rfl ⟨i.val, h⟩ (Nat.zero_add _)).trans ?_
    rw [val_main_v131_apply, val_main_v127_apply, val_main_v130_apply, val_main_v123_apply, val_main_v124_apply, val_main_v122_apply, val_main_v122_apply, val_main_v126_apply, val_main_v125_apply, val_main_v118_apply, val_main_v129_apply, val_main_v128_apply, val_main_v119_apply,
      ea, eb, e1, e2, rowCos_eq, rowSin_eq]
    rfl
  · rw [dif_neg h]
    refine (side4 _ _ b n e i 1 (by simp) _ rfl 8 rfl ⟨i.val - 8, by omega⟩ (by show 8 + (i.val - 8) = i.val; omega)).trans ?_
    rw [val_main_v138_apply, val_main_v134_apply, val_main_v137_apply, val_main_v123_apply, val_main_v124_apply, val_main_v122_apply, val_main_v122_apply, val_main_v133_apply, val_main_v132_apply, val_main_v119_apply, val_main_v136_apply, val_main_v135_apply, val_main_v118_apply,
      ea, eb, e3, e4, rowCos_eq, rowSin_eq]
    have ei : (⟨0 + ((⟨i.val - 8, by omega⟩ : Fin 8).val + 8), by show 0 + (i.val - 8 + 8) < 32; omega⟩ : Fin 32) = ⟨0 + i.val, by omega⟩ :=
      Fin.ext (by show 0 + (i.val - 8 + 8) = 0 + i.val; omega)
    rw [ei]
    rfl

/-- and its last. -/
theorem headLast_apply (b : Fin 8) (n : Fin 4096) (e : Fin 8) (i : Fin 16) : val_main_v157 (F := Ideal) x0 x1 x2 x3 x4 x5 x6 (ix4 b n e i)
    = spinHalf (fun i => val_main_v117 (F := Ideal) x0 x1 x2 x3 x4 x5 x6 (ix4 b n e i)) 16 (by omega) colCos colSin n i := by
  have ea : ∀ i : Fin 8, idx_main_v140 (idx_main_v141 (ix4 b n e i)) = ix4 b n e (⟨16 + i.val, by omega⟩ : Fin 32) := fun i => funext fun a => Fin.ext (by
    match a with
    | ⟨0, _⟩ => rfl
    | ⟨1, _⟩ => rfl
    | ⟨2, _⟩ => rfl
    | ⟨3, _⟩ => first | rfl | (show i.val = 0 + i.val; omega))
  have eb : ∀ i : Fin 8, idx_main_v140 (idx_main_v142 (ix4 b n e i)) = ix4 b n e (⟨16 + (i.val + 8), by omega⟩ : Fin 32) := fun i => funext fun a => Fin.ext (by
    match a with
    | ⟨0, _⟩ => rfl
    | ⟨1, _⟩ => rfl
    | ⟨2, _⟩ => rfl
    | ⟨3, _⟩ => show 16 + (8 + i.val) = 16 + (i.val + 8); omega)
  have e1 : ∀ i : Fin 8, idx_main_v120 (idx_main_v143 (idx_main_v144 (ix4 b n e i))) = ix2 n i := fun i => funext fun a => Fin.ext (by
    match a with
    | ⟨0, _⟩ => rfl
    | ⟨1, _⟩ => rfl)
  have e2 : ∀ i : Fin 8, idx_main_v121 (idx_main_v146 (idx_main_v147 (ix4 b n e i))) = ix2 n i := fun i => funext fun a => Fin.ext (by
    match a with
    | ⟨0, _⟩ => rfl
    | ⟨1, _⟩ => rfl)
  have e3 : ∀ i : Fin 8, idx_main_v121 (idx_main_v150 (idx_main_v151 (ix4 b n e i))) = ix2 n i := fun i => funext fun a => Fin.ext (by
    match a with
    | ⟨0, _⟩ => rfl
    | ⟨1, _⟩ => rfl)
  have e4 : ∀ i : Fin 8, idx_main_v120 (idx_main_v153 (idx_main_v154 (ix4 b n e i))) = ix2 n i := fun i => funext fun a => Fin.ext (by
    match a with
    | ⟨0, _⟩ => rfl
    | ⟨1, _⟩ => rfl)
  unfold spinHalf val_main_v157
  by_cases h : i.val < 8
  · rw [dif_pos h]
    refine (side4 _ _ b n e i 0 (by simp) _ rfl 0 rfl ⟨i.val, h⟩ (Nat.zero_add _)).trans ?_
    rw [val_main_v149_apply, val_main_v145_apply, val_main_v148_apply, val_main_v141_apply, val_main_v142_apply, val_main_v140_apply, val_main_v140_apply, val_main_v144_apply, val_main_v143_apply, val_main_v120_apply, val_main_v147_apply, val_main_v146_apply, val_main_v121_apply,
      ea, eb, e1, e2, colCos_eq, colSin_eq]
    rfl
  · rw [dif_neg h]
    refine (side4 _ _ b n e i 1 (by simp) _ rfl 8 rfl ⟨i.val - 8, by omega⟩ (by show 8 + (i.val - 8) = i.val; omega)).trans ?_
    rw [val_main_v156_apply, val_main_v152_apply, val_main_v155_apply, val_main_v141_apply, val_main_v142_apply, val_main_v140_apply, val_main_v140_apply, val_main_v151_apply, val_main_v150_apply, val_main_v121_apply, val_main_v154_apply, val_main_v153_apply, val_main_v120_apply,
      ea, eb, e3, e4, colCos_eq, colSin_eq]
    have ei : (⟨16 + ((⟨i.val - 8, by omega⟩ : Fin 8).val + 8), by show 16 + (i.val - 8 + 8) < 32; omega⟩ : Fin 32) = ⟨16 + i.val, by omega⟩ :=
      Fin.ext (by show 16 + (i.val - 8 + 8) = 16 + i.val; omega)
    rw [ei]
    rfl

/-- The key's 32 lanes rotated. -/
theorem keySpin_apply (b : Fin 8) (n : Fin 4096) (i : Fin 32) : val_main_v99 (F := Ideal) x0 x1 x2 x3 x4 (ix4 b n (0 : Fin 1) i)
    = spin (fun i => val_main_v58 (F := Ideal) x0 x1 x2 x3 x4 (ix4 b n (0 : Fin 1) i)) n i := by
  unfold spin val_main_v99
  by_cases h : i.val < 16
  · rw [dif_pos h]
    exact (side4 _ _ b n (0 : Fin 1) i 0 (by simp) _ rfl 0 rfl ⟨i.val, h⟩ (Nat.zero_add _)).trans (keyFirst_apply x0 x1 x2 x3 x4 b n _)
  · rw [dif_neg h]
    exact (side4 _ _ b n (0 : Fin 1) i 1 (by simp) _ rfl 16 rfl ⟨i.val - 16, by omega⟩ (by show 16 + (i.val - 16) = i.val; omega)).trans
      (keyLast_apply x0 x1 x2 x3 x4 b n _)

/-- A head's 32 lanes rotated. -/
theorem headSpin_apply (b : Fin 8) (n : Fin 4096) (e : Fin 8) (i : Fin 32) : val_main_v158 (F := Ideal) x0 x1 x2 x3 x4 x5 x6 (ix4 b n e i)
    = spin (fun i => val_main_v117 (F := Ideal) x0 x1 x2 x3 x4 x5 x6 (ix4 b n e i)) n i := by
  unfold spin val_main_v158
  by_cases h : i.val < 16
  · rw [dif_pos h]
    exact (side4 _ _ b n e i 0 (by simp) _ rfl 0 rfl ⟨i.val, h⟩ (Nat.zero_add _)).trans (headFirst_apply x0 x1 x2 x3 x4 x5 x6 b n e _)
  · rw [dif_neg h]
    exact (side4 _ _ b n e i 1 (by simp) _ rfl 16 rfl ⟨i.val - 16, by omega⟩ (by show 16 + (i.val - 16) = i.val; omega)).trans
      (headLast_apply x0 x1 x2 x3 x4 x5 x6 b n e _)

/-- The rotated key, of the plain projection. -/
theorem key_apply (b : Fin 8) (n : Fin 4096) (i : Fin 32) : val_main_v100 (F := Ideal) x0 x1 x2 x3 x4 (ix3 b n i)
    = spin (fun i => flatRow x0 x1 x2 x3 x4 b n ⟨896 + i.val, by omega⟩) n i := by
  have e : idx_main_v100 (ix3 b n i) = ix4 b n (0 : Fin 1) i := funext fun a => Fin.ext (by
    match a with
    | ⟨0, _⟩ => show ((b.val * 4096 + n.val) * 32 + i.val) / 131072 = b.val; omega
    | ⟨1, _⟩ => show ((b.val * 4096 + n.val) * 32 + i.val) / 32 % 4096 = n.val; omega
    | ⟨2, _⟩ => first | rfl | (show _ % 1 = 0; omega)
    | ⟨3, _⟩ => show ((b.val * 4096 + n.val) * 32 + i.val) % 32 = i.val; omega)
  rw [val_main_v100_apply, e, keySpin_apply]
  refine congrArg (fun f => spin f n i) (funext fun i => ?_)
  rw [val_main_v58_apply]
  exact (congrArg (val_main_v23 (F := Ideal) x0 x1 x2 x3 x4) (funext fun a => Fin.ext (by
    match a with
    | ⟨0, _⟩ => rfl
    | ⟨1, _⟩ => rfl
    | ⟨2, _⟩ => rfl))).trans (keyPart_apply x0 x1 x2 x3 x4 b n i)

/-- A head's lane of the queries. -/
theorem head_apply (b : Fin 8) (n : Fin 4096) (e : Fin 8) (i : Fin 96) : val_main_v115 (F := Ideal) x0 x1 x2 x3 x4 x5 x6 (ix4 b n e i)
    = queryFlat x0 x1 x2 x3 x4 x5 x6 b n ⟨e.val * 96 + i.val, by omega⟩ := by
  rw [val_main_v115_apply]
  refine Eq.trans (congrArg (val_main_v114 (F := Ideal) x0 x1 x2 x3 x4 x5 x6) (funext fun a => Fin.ext ?_)) (query_apply x0 x1 x2 x3 x4 x5 x6 b n _)
  match a with
  | ⟨0, _⟩ => show (((b.val * 4096 + n.val) * 8 + e.val) * 96 + i.val) / 3145728 = b.val; omega
  | ⟨1, _⟩ => show (((b.val * 4096 + n.val) * 8 + e.val) * 96 + i.val) / 768 % 4096 = n.val; omega
  | ⟨2, _⟩ => show (((b.val * 4096 + n.val) * 8 + e.val) * 96 + i.val) % 768 = e.val * 96 + i.val; omega

/-- A head's rotated lane. -/
theorem turned_apply (b : Fin 8) (n : Fin 4096) (e : Fin 8) (i : Fin 32) : val_main_v158 (F := Ideal) x0 x1 x2 x3 x4 x5 x6 (ix4 b n e i)
    = spin (fun i => queryFlat x0 x1 x2 x3 x4 x5 x6 b n ⟨e.val * 96 + (64 + i.val), by omega⟩) n i := by
  rw [headSpin_apply]
  refine congrArg (fun f => spin f n i) (funext fun i => ?_)
  rw [val_main_v117_apply]
  exact (congrArg (val_main_v115 (F := Ideal) x0 x1 x2 x3 x4 x5 x6) (funext fun a => Fin.ext (by
    match a with
    | ⟨0, _⟩ => rfl
    | ⟨1, _⟩ => rfl
    | ⟨2, _⟩ => rfl
    | ⟨3, _⟩ => rfl))).trans (head_apply x0 x1 x2 x3 x4 x5 x6 b n e ⟨64 + i.val, by omega⟩)

/-- A head's lane with the rotated in place, times the scale. -/
theorem scaled_apply (b : Fin 8) (n : Fin 4096) (e : Fin 8) (i : Fin 96) : val_main_v161 (F := Ideal) x0 x1 x2 x3 x4 x5 x6 (ix4 b n e i)
    = (if h : i.val < 64 then queryFlat x0 x1 x2 x3 x4 x5 x6 b n ⟨e.val * 96 + i.val, by omega⟩
      else spin (fun i => queryFlat x0 x1 x2 x3 x4 x5 x6 b n ⟨e.val * 96 + (64 + i.val), by omega⟩) n ⟨i.val - 64, by omega⟩) * Ideal.ofBits .f32 0x3DD105EC#32 := by
  rw [val_main_v161_apply, val_main_v160_apply, val_main_cst_10_apply]
  refine congrArg (· * Ideal.ofBits .f32 0x3DD105EC#32) ?_
  unfold val_main_v159
  by_cases h : i.val < 64
  · rw [dif_pos h]
    refine (side4 _ _ b n e i 0 (by simp) _ rfl 0 rfl ⟨i.val, h⟩ (Nat.zero_add _)).trans ?_
    rw [val_main_v116_apply]
    exact (congrArg (val_main_v115 (F := Ideal) x0 x1 x2 x3 x4 x5 x6) (funext fun a => Fin.ext (by
      match a with
      | ⟨0, _⟩ => rfl
      | ⟨1, _⟩ => rfl
      | ⟨2, _⟩ => rfl
      | ⟨3, _⟩ => rfl))).trans (head_apply x0 x1 x2 x3 x4 x5 x6 b n e i)
  · rw [dif_neg h]
    exact (side4 _ _ b n e i 1 (by simp) _ rfl 64 rfl ⟨i.val - 64, by omega⟩ (by show 64 + (i.val - 64) = i.val; omega)).trans (turned_apply x0 x1 x2 x3 x4 x5 x6 b n e _)

end Cert.ProjInReferenceIdeal.Proj

end
-- ==== Proof.ProjEq.lean ====
/-
  THE INPUT PROJECTIONS: the equations. Each result array of the kernel is the reference's, the arguments being real
  numbers where the rotation needs them (`mix_eq`, `query_eq`, `latent_eq`, `key_eq`, `hyena_eq`); and `finite5` says they are
  (`real_of_finite`).
-/
module

public import proofs.«01_k».proof.Proof.ProjRef
public import proofs.«01_k».proof.Pre_finite5
public import Idealize.ShloMosaic.Lib.ReduceAll

@[expose] public section

set_option maxRecDepth 16384

noncomputable section

namespace Cert.ProjInReferenceIdeal.Proj

open Idealize.ShloMosaic hiding ix1 ix2 ix3 ix4 eq_ix1 eq_ix2 eq_ix3 eq_ix4 constant_apply
open Idealize.ShloMosaic.ValueIdx Idealize.ShloMosaic.TcCoe Idealize.SL.Sem
open Cert.ProjInReferenceIdeal Cert.ProjInReferenceIdeal.Gen Cert.ProjInReferenceIdeal.Read
open Cert.ProjInIdeal.Proj (normRow flatRow wideRow wideRow_first wideRow_next queryRow queryFlat latentRow spin mixArr queryArr latentArr keyArr
  hyenaArr batchL laneL laneH slot keyLane keyLane_eq queryLane queryLane_eq padZero)
open Cert.KernelIdeal.Attn (IsReal isReal_of_abs_lt)
open Cert.Rms
open scoped BigOperators

variable (x0 : FVec Ideal S8x4096x1024 .f32) (x1 : FVec Ideal S1024 .f32) (x2 x3 : FVec Ideal S8x1x1024 .f32) (x4 : FVec Ideal S1024x1696 .f32)
  (x5 : FVec Ideal S384 .f32) (x6 : FVec Ideal S384x768 .f32) (x7 : FVec Ideal S256 .f32) (x8 : FVec Ideal S256x1024 .f32)

/-- The first mixers' rows, all batches side by side. -/
theorem mixRows_apply (n : Fin 4096) (l : Fin 2048) :
    val_main_v177 (F := Ideal) x0 x1 x2 x3 x4 (ix2 n l) = wideRow x0 x1 x2 x3 x4 (batchL l) n (laneL l) := by
  have hl : (laneL l).val = l.val % 256 := rfl
  rw [wideRow_first x0 x1 x2 x3 x4 (batchL l) n (laneL l) ⟨l.val % 256, by omega⟩ (by omega) rfl, val_main_v177_apply, val_main_v176_apply]
  refine Eq.trans (congrArg (val_main_v20 (F := Ideal) x0 x1 x2 x3 x4) (funext fun a => Fin.ext ?_)) (mixPart_apply x0 x1 x2 x3 x4 (batchL l) n ⟨l.val % 256, by omega⟩)
  match a with
  | ⟨0, _⟩ => show (n.val * 2048 + l.val) / 256 % 8 = l.val / 256; omega
  | ⟨1, _⟩ => show (n.val * 2048 + l.val) / 2048 = n.val; omega
  | ⟨2, _⟩ => show (n.val * 2048 + l.val) % 256 = l.val % 256; omega

/-- The first result. -/
theorem mix_eq : mixArr x0 x1 x2 x3 x4 = val_main_v178 (F := Ideal) x0 x1 x2 x3 x4 := by
  funext i
  obtain ⟨p, l, rfl⟩ : ∃ (p : Fin 4352) (l : Fin 2048), i = ix2 p l := ⟨_, _, eq_ix2 _⟩
  unfold val_main_v178
  show (if h : p.val < 4096 then wideRow x0 x1 x2 x3 x4 (batchL l) ⟨p.val, h⟩ (laneL l) else 0) = _
  by_cases h : p.val < 4096
  · rw [dif_pos h]
    refine ((pad_apply_of_inside _ _ _ (val_main_v177 (F := Ideal) x0 x1 x2 x3 x4) _ _ _ (ix2 p l) (ix2 ⟨p.val, h⟩ l) fun a => by
      match a with
      | ⟨0, _⟩ => show p.val = 0 + p.val * (0 + 1); omega
      | ⟨1, _⟩ => show l.val = 0 + l.val * (0 + 1); omega).trans (mixRows_apply x0 x1 x2 x3 x4 _ l)).symm
  · rw [dif_neg h]
    refine ((pad_apply_of_not_inside _ _ _ (val_main_v177 (F := Ideal) x0 x1 x2 x3 x4) _ _ _ (ix2 p l) (0 : Fin 2) ?_).trans (padZero _)).symm
    show ¬(0 ≤ p.val ∧ (p.val - 0) % (0 + 1) = 0 ∧ (p.val - 0) / (0 + 1) < 4096)
    omega

/-- The third result. -/
theorem latent_eq : latentArr x0 x1 x2 x3 x4 x7 x8 = val_main_v183 (F := Ideal) x0 x1 x2 x3 x4 x7 x8 := by
  funext i
  obtain ⟨b, p, l, rfl⟩ : ∃ (b : Fin 8) (p : Fin 4352) (l : Fin 1024), i = ix3 b p l := ⟨_, _, _, eq_ix3 _⟩
  show (if h : p.val < 4096 then ∑ j : Fin 256, latentRow x0 x1 x2 x3 x4 x7 b ⟨p.val, h⟩ j * x8 (ix2 j l) else 0)
    = val_main_v181 (F := Ideal) x0 x1 x2 x3 x4 x7 x8 (ix3 b p l)
  unfold val_main_v181
  by_cases h : p.val < 4096
  · rw [dif_pos h]
    refine ((pad_apply_of_inside _ _ _ (val_main_v175 (F := Ideal) x0 x1 x2 x3 x4 x7 x8) _ _ _ (ix3 b p l) (ix3 b ⟨p.val, h⟩ l) fun a => by
      match a with
      | ⟨0, _⟩ => show b.val = 0 + b.val * (0 + 1); omega
      | ⟨1, _⟩ => show p.val = 0 + p.val * (0 + 1); omega
      | ⟨2, _⟩ => show l.val = 0 + l.val * (0 + 1); omega).trans (latent_apply x0 x1 x2 x3 x4 x7 x8 b _ l)).symm
  · rw [dif_neg h]
    refine ((pad_apply_of_not_inside _ _ _ (val_main_v175 (F := Ideal) x0 x1 x2 x3 x4 x7 x8) _ _ _ (ix3 b p l) (1 : Fin 3) ?_).trans (padZero _)).symm
    show ¬(0 ≤ p.val ∧ (p.val - 0) % (0 + 1) = 0 ∧ (p.val - 0) / (0 + 1) < 4096)
    omega

/-- The fifth result. -/
theorem hyena_eq : hyenaArr x0 x1 x2 x3 x4 = val_main_v24 (F := Ideal) x0 x1 x2 x3 x4 := by
  funext i
  obtain ⟨b, n, l, rfl⟩ : ∃ (b : Fin 8) (n : Fin 4096) (l : Fin 768), i = ix3 b n l := ⟨_, _, _, eq_ix3 _⟩
  have hl : (laneH l).val = 896 + l.val := rfl
  refine Eq.trans ?_ (hyenaPart_apply x0 x1 x2 x3 x4 b n l).symm
  exact wideRow_next x0 x1 x2 x3 x4 b n (laneH l) ⟨928 + l.val, by omega⟩ (by omega) (by omega) (by rw [hl]; show 928 + l.val = 896 + l.val + 32; omega)

/-- The fourth result, the arguments it needs being real. -/
theorem key_eq (h0 : ∀ i, IsReal (x0 i)) (h1 : ∀ i, IsReal (x1 i)) (h2 : ∀ i, IsReal (x2 i)) (h3 : ∀ i, IsReal (x3 i)) (h4 : ∀ i, IsReal (x4 i)) :
    keyArr x0 x1 x2 x3 x4 = val_main_v184 (F := Ideal) x0 x1 x2 x3 x4 := by
  funext i
  obtain ⟨b, p, l, rfl⟩ : ∃ (b : Fin 8) (p : Fin 4352) (l : Fin 128), i = ix3 b p l := ⟨_, _, _, eq_ix3 _⟩
  show (if h : p.val < 4096 then keyLane x0 x1 x2 x3 x4 b ⟨p.val, h⟩ l else 0) = val_main_v182 (F := Ideal) x0 x1 x2 x3 x4 (ix3 b p l)
  unfold val_main_v182
  by_cases h : p.val < 4096
  · rw [dif_pos h, keyLane_eq x0 x1 x2 x3 x4 h0 h1 h2 h3 h4]
    unfold slot
    by_cases hs : 64 ≤ l.val ∧ l.val < 96
    · rw [dif_pos hs]
      refine ((pad_apply_of_inside _ _ _ (val_main_v100 (F := Ideal) x0 x1 x2 x3 x4) _ _ _ (ix3 b p l) (ix3 b ⟨p.val, h⟩ ⟨l.val - 64, by omega⟩) fun a => by
        match a with
        | ⟨0, _⟩ => show b.val = 0 + b.val * (0 + 1); omega
        | ⟨1, _⟩ => show p.val = 0 + p.val * (0 + 1); omega
        | ⟨2, _⟩ => show l.val = 64 + (l.val - 64) * (0 + 1); omega).trans (key_apply x0 x1 x2 x3 x4 b _ _)).symm
    · rw [dif_neg hs]
      refine ((pad_apply_of_not_inside _ _ _ (val_main_v100 (F := Ideal) x0 x1 x2 x3 x4) _ _ _ (ix3 b p l) (2 : Fin 3) ?_).trans (padZero _)).symm
      show ¬(64 ≤ l.val ∧ (l.val - 64) % (0 + 1) = 0 ∧ (l.val - 64) / (0 + 1) < 32)
      omega
  · rw [dif_neg h]
    refine ((pad_apply_of_not_inside _ _ _ (val_main_v100 (F := Ideal) x0 x1 x2 x3 x4) _ _ _ (ix3 b p l) (1 : Fin 3) ?_).trans (padZero _)).symm
    show ¬(0 ≤ p.val ∧ (p.val - 0) % (0 + 1) = 0 ∧ (p.val - 0) / (0 + 1) < 4096)
    omega

/-- The second result, the arguments it needs being real. -/
theorem query_eq (h0 : ∀ i, IsReal (x0 i)) (h1 : ∀ i, IsReal (x1 i)) (h2 : ∀ i, IsReal (x2 i)) (h3 : ∀ i, IsReal (x3 i)) (h4 : ∀ i, IsReal (x4 i))
    (h5 : ∀ i, IsReal (x5 i)) (h6 : ∀ i, IsReal (x6 i)) :
    queryArr x0 x1 x2 x3 x4 x5 x6 = val_main_v185 (F := Ideal) x0 x1 x2 x3 x4 x5 x6 := by
  funext i
  obtain ⟨b, n, l, rfl⟩ : ∃ (b : Fin 8) (n : Fin 4096) (l : Fin 1024), i = ix3 b n l := ⟨_, _, _, eq_ix3 _⟩
  show queryLane x0 x1 x2 x3 x4 x5 x6 b n l = val_main_v180 (F := Ideal) x0 x1 x2 x3 x4 x5 x6 (ix3 b n l)
  obtain ⟨e, r, hl⟩ : ∃ (e : Fin 8) (r : Fin 128), l.val = e.val * 128 + r.val :=
    ⟨⟨l.val / 128, by omega⟩, ⟨l.val % 128, by omega⟩, by show l.val = l.val / 128 * 128 + l.val % 128; omega⟩
  have ei : idx_main_v180 (ix3 b n l) = ix4 b n e r := funext fun a => Fin.ext (by
    match a with
    | ⟨0, _⟩ => show ((b.val * 4096 + n.val) * 1024 + l.val) / 4194304 = b.val; omega
    | ⟨1, _⟩ => show ((b.val * 4096 + n.val) * 1024 + l.val) / 1024 % 4096 = n.val; omega
    | ⟨2, _⟩ => show ((b.val * 4096 + n.val) * 1024 + l.val) / 128 % 8 = e.val; omega
    | ⟨3, _⟩ => show ((b.val * 4096 + n.val) * 1024 + l.val) % 128 = r.val; omega)
  rw [queryLane_eq x0 x1 x2 x3 x4 x5 x6 h0 h1 h2 h3 h4 h5 h6 b n e r l hl, val_main_v180_apply, ei]
  unfold val_main_v179
  have inside : ∀ h : r.val < 96, pad S8x4096x8x128 ![0, 0, 0, 0] ![0, 0, 0, 32] ![0, 0, 0, 0] (val_main_v161 (F := Ideal) x0 x1 x2 x3 x4 x5 x6)
      (val_main_call1_v0 (F := Ideal)) pads_S8x4096x8x96_S8x4096x8x128_000_000_000_0320 h_S_ (ix4 b n e r)
      = val_main_v161 (F := Ideal) x0 x1 x2 x3 x4 x5 x6 (ix4 b n e ⟨r.val, h⟩) := fun h =>
    pad_apply_of_inside _ _ _ (val_main_v161 (F := Ideal) x0 x1 x2 x3 x4 x5 x6) _ _ _ (ix4 b n e r) (ix4 b n e ⟨r.val, h⟩) fun a => by
      match a with
      | ⟨0, _⟩ => show b.val = 0 + b.val * (0 + 1); omega
      | ⟨1, _⟩ => show n.val = 0 + n.val * (0 + 1); omega
      | ⟨2, _⟩ => show e.val = 0 + e.val * (0 + 1); omega
      | ⟨3, _⟩ => show r.val = 0 + r.val * (0 + 1); omega
  by_cases h : r.val < 64
  · rw [dif_pos h, inside (by omega), scaled_apply, dif_pos h]
  rw [dif_neg h]
  by_cases h' : r.val < 96
  · rw [dif_pos h', inside h', scaled_apply, dif_neg h]
  · rw [dif_neg h']
    refine ((pad_apply_of_not_inside _ _ _ (val_main_v161 (F := Ideal) x0 x1 x2 x3 x4 x5 x6) _ _ _ (ix4 b n e r) (3 : Fin 4) ?_).trans (padZero _)).symm
    show ¬(0 ≤ r.val ∧ (r.val - 0) % (0 + 1) = 0 ∧ (r.val - 0) / (0 + 1) < 96)
    omega

/-! ### What `finite5` says -/

theorem finiteFacts : Cert.Pre_finite5.Facts where
  bcast_S_S8x4096x1024 := by decide
  reducesTo_S8x4096x1024_S_d0_1_2 := by decide
  h_S_ := by decide
  bcast_S_S1024 := by decide
  reducesTo_S1024_S_d0 := by decide
  bcast_S_S8x1x1024 := by decide
  reducesTo_S8x1x1024_S_d0_1_2 := by decide
  bcast_S_S1024x1696 := by decide
  reducesTo_S1024x1696_S_d0_1 := by decide
  bcast_S_S384 := by decide
  reducesTo_S384_S_d0 := by decide
  bcast_S_S384x768 := by decide
  reducesTo_S384x768_S_d0_1 := by decide

theorem infBits : Ideal.ofBits .f32 0x7F800000#32 = ⊤ := by simp [Ideal.ofBits, Ideal.ieee]

instance : Subsingleton Cert.Pre_finite5.S_.Idx := ⟨fun a b => funext fun d => d.elim0⟩

/-- The comparison `|x| < ∞` answering 1 says `x` is real. -/
theorem isReal_of_cmp {x : EReal} (h : BitVec.ofBool (decide (max x (-x) < Ideal.ofBits .f32 0x7F800000#32)) = 1#1) : IsReal x := by
  rw [infBits] at h
  refine isReal_of_abs_lt ?_
  by_contra hn
  rw [decide_eq_false hn] at h
  exact absurd h (by decide)

/-- `finite5` says the first seven arguments are of real numbers. -/
theorem real_of_finite [Cert.Pre_finite5.Facts] (h : Cert.Pre_finite5.fn (F := Ideal) x0 x1 x2 x3 x4 x5 x6 x7 x8 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i))
      ∧ (∀ i, IsReal (x6 i)) := by
  have h := congrFun h (fun d : Fin 0 => d.elim0)
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨fun i => isReal_of_cmp (Host.reduce_andi_all _ _ _ _ _ h0 i), fun i => isReal_of_cmp (Host.reduce_andi_all _ _ _ _ _ h1 i),
    fun i => isReal_of_cmp (Host.reduce_andi_all _ _ _ _ _ h2 i), fun i => isReal_of_cmp (Host.reduce_andi_all _ _ _ _ _ h3 i),
    fun i => isReal_of_cmp (Host.reduce_andi_all _ _ _ _ _ h4 i), fun i => isReal_of_cmp (Host.reduce_andi_all _ _ _ _ _ h5 i),
    fun i => isReal_of_cmp (Host.reduce_andi_all _ _ _ _ _ h6 i)⟩

end Cert.ProjInReferenceIdeal.Proj

end
-- ==== Proof.lean ====
/-
  The proof of `Cert.Claim`: the frames are the generated ones, and each value claim joins the run of the kernel (the
  `...Array` modules, for the input projections ProjRun), the run of the reference, and the equation between their results (the `...Eq` modules).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.AttnEq
public import proofs.«01_k».proof.Proof.Gen.FinalNorm.Frame
public import proofs.«01_k».proof.Proof.Gen.FinalNormIdeal.Frame
public import proofs.«01_k».proof.Proof.Gen.FinalNormReferenceIdeal.Run
public import proofs.«01_k».proof.Proof.NormEq
public import proofs.«01_k».proof.Proof.Gen.MixOut.Frame
public import proofs.«01_k».proof.Proof.Gen.MixOutIdeal.Frame
public import proofs.«01_k».proof.Proof.Gen.MixOutReferenceIdeal.Run
public import proofs.«01_k».proof.Proof.MixEq
public import proofs.«01_k».proof.Proof.Gen.ProjIn.Frame
public import proofs.«01_k».proof.Proof.Gen.ProjInIdeal.Frame
public import proofs.«01_k».proof.Proof.Gen.ProjInReferenceIdeal.Run
public import proofs.«01_k».proof.Proof.ProjRun
public import proofs.«01_k».proof.Proof.ProjEq
public import Idealize.ShloMosaic.Adequacy
public import Idealize.ShloMosaic.Init

@[expose] public section

noncomputable section

namespace Cert.Proof

open Idealize.ShloMosaic Idealize.SL.Sem

/-- The reference runs, keeps its arguments, and declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's array and the reference's result are equal where the arguments are finite. -/
theorem algebraic : Cert.algebraic_KernelIdeal_ReferenceIdeal_pre_finite (hKernelIdeal := Cert.KernelIdeal.Gen.facts)
    (hReferenceIdeal := Cert.ReferenceIdeal.Gen.facts) (hPre_finite := Cert.ReferenceIdeal.Attn.finiteFacts) := by
  have := Cert.ReferenceIdeal.Attn.finiteFacts
  intro m ρ m' ρ' hpre hagree
  refine ⟨fun c => Cert.KernelIdeal.Attn.result m c, Cert.KernelIdeal.Attn.run m ρ, ?_⟩
  refine (θ_run Cert.ReferenceIdeal.defs _ _).mono (fun _ h c => ⟨(h c).1.trans ?_, (h c).2⟩)
    (Cert.ReferenceIdeal.Value.run (F := Ideal) m' ρ')
  obtain ⟨hq, hkv, hkr⟩ := Cert.ReferenceIdeal.Attn.real_of_finite _ _ _ (hpre c)
  refine (Cert.ReferenceIdeal.Read.val_main_v27_eq m' c).trans ?_
  rw [(hagree c).1, (hagree c).2.1, (hagree c).2.2]
  exact Cert.ReferenceIdeal.Attn.result_eq _ _ _ hq hkv hkr

/-! ### The final normalisation -/

/-- The reference runs, keeps its arguments, and declares no semaphore. -/
theorem frame_norm_reference : Cert.quiescent_FinalNormReferenceIdeal (hFinalNormReferenceIdeal := Cert.FinalNormReferenceIdeal.Gen.facts) :=
  fun m ρ _ => (θ_run Cert.FinalNormReferenceIdeal.defs _ _).mono
    (fun r h => ⟨fun c => (h c).2, sem_eq_zero_of_no_sems (by decide) r.2⟩) (Cert.FinalNormReferenceIdeal.Value.run (F := Ideal) m ρ)

/-- The kernel's array and the reference's result are equal. -/
theorem algebraic_norm : Cert.algebraic_FinalNormIdeal_FinalNormReferenceIdeal (hFinalNormIdeal := Cert.FinalNormIdeal.Gen.facts)
    (hFinalNormReferenceIdeal := Cert.FinalNormReferenceIdeal.Gen.facts) := by
  intro m ρ m' ρ' hpre hagree
  refine ⟨fun c => Cert.FinalNormIdeal.Norm.result m c, Cert.FinalNormIdeal.Norm.run m ρ, ?_⟩
  refine (θ_run Cert.FinalNormReferenceIdeal.defs _ _).mono (fun _ h c => ⟨(h c).1.trans ?_, (h c).2⟩)
    (Cert.FinalNormReferenceIdeal.Value.run (F := Ideal) m' ρ')
  refine (Cert.FinalNormReferenceIdeal.Read.val_main_v17_eq _ _ _ _ _).trans ?_
  rw [(hagree c).1, (hagree c).2.1, (hagree c).2.2.1, (hagree c).2.2.2.1, (hagree c).2.2.2.2]
  exact Cert.FinalNormReferenceIdeal.Norm.result_eq _ _ _ _ _

/-! ### The output mixing -/

/-- The reference runs, keeps its arguments, and declares no semaphore. -/
theorem frame_mix_reference : Cert.quiescent_MixOutReferenceIdeal (hMixOutReferenceIdeal := Cert.MixOutReferenceIdeal.Gen.facts) :=
  fun m ρ _ => (θ_run Cert.MixOutReferenceIdeal.defs _ _).mono
    (fun r h => ⟨fun c => (h c).2.2.2, sem_eq_zero_of_no_sems (by decide) r.2⟩) (Cert.MixOutReferenceIdeal.Value.run (F := Ideal) m ρ)

/-- The kernel's arrays and the reference's results are equal. -/
theorem algebraic_mix : Cert.algebraic_MixOutIdeal_MixOutReferenceIdeal (hMixOutIdeal := Cert.MixOutIdeal.Gen.facts)
    (hMixOutReferenceIdeal := Cert.MixOutReferenceIdeal.Gen.facts) := by
  intro m ρ m' ρ' hpre hagree
  refine ⟨fun c => Cert.MixOutIdeal.Mix.result0 m c, fun c => Cert.MixOutIdeal.Mix.result1 m c, fun c => Cert.MixOutIdeal.Mix.result2 m c, Cert.MixOutIdeal.Mix.run m ρ, ?_⟩
  refine (θ_run Cert.MixOutReferenceIdeal.defs _ _).mono (fun _ h c => ⟨(h c).1.trans ?_, (h c).2.1.trans ?_, (h c).2.2.1.trans ?_, (h c).2.2.2⟩)
    (Cert.MixOutReferenceIdeal.Value.run (F := Ideal) m' ρ')
  · obtain ⟨a0, a1, a2, a3, a4, a5, a6, a7, a8, a9, a10, a11⟩ := hagree c
    refine (Cert.MixOutReferenceIdeal.Read.val_main_v49_eq _ _ _ _ _ _ _).trans ?_
    rw [a0, a1, a2, a3, a4, a5, a6]
    exact Cert.MixOutReferenceIdeal.Mix.new_eq _ _ _ _ _ _ _
  · obtain ⟨a0, a1, a2, a3, a4, a5, a6, a7, a8, a9, a10, a11⟩ := hagree c
    refine (Cert.MixOutReferenceIdeal.Read.val_main_v73_eq m' c).trans ?_
    rw [a0, a1, a2, a3, a4, a5, a6, a7, a8, a9]
    exact Cert.MixOutReferenceIdeal.Mix.routed_eq _ _ _ _ _ _ _ _ _ _
  · obtain ⟨a0, a1, a2, a3, a4, a5, a6, a7, a8, a9, a10, a11⟩ := hagree c
    refine (Cert.MixOutReferenceIdeal.Read.val_main_v74_eq m' c).trans ?_
    rw [a0, a1, a2, a3, a4, a5, a6, a7, a8, a9, a10, a11]
    exact Cert.MixOutReferenceIdeal.Mix.logits_eq _ _ _ _ _ _ _ _ _ _ _ _

/-! ### The input projections -/

/-- The reference runs, keeps its arguments, and declares no semaphore. -/
theorem frame_proj_reference : Cert.quiescent_ProjInReferenceIdeal (hProjInReferenceIdeal := Cert.ProjInReferenceIdeal.Gen.facts) :=
  fun m ρ _ => (θ_run Cert.ProjInReferenceIdeal.defs _ _).mono
    (fun r h => ⟨fun c => (h c).2.2.2.2.2, sem_eq_zero_of_no_sems (by decide) r.2⟩) (Cert.ProjInReferenceIdeal.Value.run (F := Ideal) m ρ)

/-- The kernel's arrays and the reference's results are equal where the arguments are finite. -/
theorem algebraic_proj : Cert.algebraic_ProjInIdeal_ProjInReferenceIdeal_pre_finite5 (hProjInIdeal := Cert.ProjInIdeal.Gen.facts)
    (hProjInReferenceIdeal := Cert.ProjInReferenceIdeal.Gen.facts) (hPre_finite5 := Cert.ProjInReferenceIdeal.Proj.finiteFacts) := by
  have := Cert.ProjInReferenceIdeal.Proj.finiteFacts
  intro m ρ m' ρ' hpre hagree
  refine ⟨fun c => Cert.ProjInIdeal.Proj.result0 m c, fun c => Cert.ProjInIdeal.Proj.result2 m c, fun c => Cert.ProjInIdeal.Proj.result3 m c, fun c => Cert.ProjInIdeal.Proj.result1 m c, fun c => Cert.ProjInIdeal.Proj.result4 m c, Cert.ProjInIdeal.Proj.run m ρ, ?_⟩
  refine (θ_run Cert.ProjInReferenceIdeal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.ProjInReferenceIdeal.Value.run (F := Ideal) m' ρ')
  · obtain ⟨a0, a1, a2, a3, a4, a5, a6, a7, a8⟩ := hagree c
    refine Eq.trans (b := Cert.ProjInReferenceIdeal.Read.val_main_v178 (F := Ideal) (m' ((c.tc : Thread Cert.ProjInReferenceIdeal.nD Cert.ProjInReferenceIdeal.τ).loc Cert.ProjInReferenceIdeal.main_arg0)) (m' ((c.tc : Thread Cert.ProjInReferenceIdeal.nD Cert.ProjInReferenceIdeal.τ).loc Cert.ProjInReferenceIdeal.main_arg1)) (m' ((c.tc : Thread Cert.ProjInReferenceIdeal.nD Cert.ProjInReferenceIdeal.τ).loc Cert.ProjInReferenceIdeal.main_arg2)) (m' ((c.tc : Thread Cert.ProjInReferenceIdeal.nD Cert.ProjInReferenceIdeal.τ).loc Cert.ProjInReferenceIdeal.main_arg3)) (m' ((c.tc : Thread Cert.ProjInReferenceIdeal.nD Cert.ProjInReferenceIdeal.τ).loc Cert.ProjInReferenceIdeal.main_arg4)))
      (Cert.ProjInReferenceIdeal.Read.val_main_v178_eq _) ?_
    rw [a0, a1, a2, a3, a4]
    exact (Cert.ProjInReferenceIdeal.Proj.mix_eq _ _ _ _ _).symm
  · obtain ⟨a0, a1, a2, a3, a4, a5, a6, a7, a8⟩ := hagree c
    refine Eq.trans (b := Cert.ProjInReferenceIdeal.Read.val_main_v183 (F := Ideal) (m' ((c.tc : Thread Cert.ProjInReferenceIdeal.nD Cert.ProjInReferenceIdeal.τ).loc Cert.ProjInReferenceIdeal.main_arg0)) (m' ((c.tc : Thread Cert.ProjInReferenceIdeal.nD Cert.ProjInReferenceIdeal.τ).loc Cert.ProjInReferenceIdeal.main_arg1)) (m' ((c.tc : Thread Cert.ProjInReferenceIdeal.nD Cert.ProjInReferenceIdeal.τ).loc Cert.ProjInReferenceIdeal.main_arg2)) (m' ((c.tc : Thread Cert.ProjInReferenceIdeal.nD Cert.ProjInReferenceIdeal.τ).loc Cert.ProjInReferenceIdeal.main_arg3)) (m' ((c.tc : Thread Cert.ProjInReferenceIdeal.nD Cert.ProjInReferenceIdeal.τ).loc Cert.ProjInReferenceIdeal.main_arg4)) (m' ((c.tc : Thread Cert.ProjInReferenceIdeal.nD Cert.ProjInReferenceIdeal.τ).loc Cert.ProjInReferenceIdeal.main_arg7)) (m' ((c.tc : Thread Cert.ProjInReferenceIdeal.nD Cert.ProjInReferenceIdeal.τ).loc Cert.ProjInReferenceIdeal.main_arg8)))
      (Cert.ProjInReferenceIdeal.Read.val_main_v183_eq _) ?_
    rw [a0, a1, a2, a3, a4, a7, a8]
    exact (Cert.ProjInReferenceIdeal.Proj.latent_eq _ _ _ _ _ _ _).symm
  · obtain ⟨a0, a1, a2, a3, a4, a5, a6, a7, a8⟩ := hagree c
    obtain ⟨h0, h1, h2, h3, h4, -, -⟩ := Cert.ProjInReferenceIdeal.Proj.real_of_finite _ _ _ _ _ _ _ _ _ (hpre c)
    refine Eq.trans (b := Cert.ProjInReferenceIdeal.Read.val_main_v184 (F := Ideal) (m' ((c.tc : Thread Cert.ProjInReferenceIdeal.nD Cert.ProjInReferenceIdeal.τ).loc Cert.ProjInReferenceIdeal.main_arg0)) (m' ((c.tc : Thread Cert.ProjInReferenceIdeal.nD Cert.ProjInReferenceIdeal.τ).loc Cert.ProjInReferenceIdeal.main_arg1)) (m' ((c.tc : Thread Cert.ProjInReferenceIdeal.nD Cert.ProjInReferenceIdeal.τ).loc Cert.ProjInReferenceIdeal.main_arg2)) (m' ((c.tc : Thread Cert.ProjInReferenceIdeal.nD Cert.ProjInReferenceIdeal.τ).loc Cert.ProjInReferenceIdeal.main_arg3)) (m' ((c.tc : Thread Cert.ProjInReferenceIdeal.nD Cert.ProjInReferenceIdeal.τ).loc Cert.ProjInReferenceIdeal.main_arg4)))
      (Cert.ProjInReferenceIdeal.Read.val_main_v184_eq _) ?_
    rw [a0, a1, a2, a3, a4]
    exact (Cert.ProjInReferenceIdeal.Proj.key_eq _ _ _ _ _ h0 h1 h2 h3 h4).symm
  · obtain ⟨a0, a1, a2, a3, a4, a5, a6, a7, a8⟩ := hagree c
    obtain ⟨h0, h1, h2, h3, h4, h5, h6⟩ := Cert.ProjInReferenceIdeal.Proj.real_of_finite _ _ _ _ _ _ _ _ _ (hpre c)
    refine Eq.trans (b := Cert.ProjInReferenceIdeal.Read.val_main_v185 (F := Ideal) (m' ((c.tc : Thread Cert.ProjInReferenceIdeal.nD Cert.ProjInReferenceIdeal.τ).loc Cert.ProjInReferenceIdeal.main_arg0)) (m' ((c.tc : Thread Cert.ProjInReferenceIdeal.nD Cert.ProjInReferenceIdeal.τ).loc Cert.ProjInReferenceIdeal.main_arg1)) (m' ((c.tc : Thread Cert.ProjInReferenceIdeal.nD Cert.ProjInReferenceIdeal.τ).loc Cert.ProjInReferenceIdeal.main_arg2)) (m' ((c.tc : Thread Cert.ProjInReferenceIdeal.nD Cert.ProjInReferenceIdeal.τ).loc Cert.ProjInReferenceIdeal.main_arg3)) (m' ((c.tc : Thread Cert.ProjInReferenceIdeal.nD Cert.ProjInReferenceIdeal.τ).loc Cert.ProjInReferenceIdeal.main_arg4)) (m' ((c.tc : Thread Cert.ProjInReferenceIdeal.nD Cert.ProjInReferenceIdeal.τ).loc Cert.ProjInReferenceIdeal.main_arg5)) (m' ((c.tc : Thread Cert.ProjInReferenceIdeal.nD Cert.ProjInReferenceIdeal.τ).loc Cert.ProjInReferenceIdeal.main_arg6)))
      (Cert.ProjInReferenceIdeal.Read.val_main_v185_eq _) ?_
    rw [a0, a1, a2, a3, a4, a5, a6]
    exact (Cert.ProjInReferenceIdeal.Proj.query_eq _ _ _ _ _ _ _ h0 h1 h2 h3 h4 h5 h6).symm
  · obtain ⟨a0, a1, a2, a3, a4, a5, a6, a7, a8⟩ := hagree c
    refine Eq.trans (b := Cert.ProjInReferenceIdeal.Read.val_main_v24 (F := Ideal) (m' ((c.tc : Thread Cert.ProjInReferenceIdeal.nD Cert.ProjInReferenceIdeal.τ).loc Cert.ProjInReferenceIdeal.main_arg0)) (m' ((c.tc : Thread Cert.ProjInReferenceIdeal.nD Cert.ProjInReferenceIdeal.τ).loc Cert.ProjInReferenceIdeal.main_arg1)) (m' ((c.tc : Thread Cert.ProjInReferenceIdeal.nD Cert.ProjInReferenceIdeal.τ).loc Cert.ProjInReferenceIdeal.main_arg2)) (m' ((c.tc : Thread Cert.ProjInReferenceIdeal.nD Cert.ProjInReferenceIdeal.τ).loc Cert.ProjInReferenceIdeal.main_arg3)) (m' ((c.tc : Thread Cert.ProjInReferenceIdeal.nD Cert.ProjInReferenceIdeal.τ).loc Cert.ProjInReferenceIdeal.main_arg4)))
      (Cert.ProjInReferenceIdeal.Read.val_main_v24_eq _) ?_
    rw [a0, a1, a2, a3, a4]
    exact (Cert.ProjInReferenceIdeal.Proj.hyena_eq _ _ _ _ _).symm

/-- **The claims.** -/
theorem claim : Cert.Claim :=
  ⟨Cert.Kernel.Gen.facts, Cert.KernelIdeal.Gen.facts, Cert.ReferenceIdeal.Gen.facts,
    Cert.FinalNorm.Gen.facts, Cert.FinalNormIdeal.Gen.facts, Cert.FinalNormReferenceIdeal.Gen.facts,
    Cert.MixOut.Gen.facts, Cert.MixOutIdeal.Gen.facts, Cert.MixOutReferenceIdeal.Gen.facts,
    Cert.ProjIn.Gen.facts, Cert.ProjInIdeal.Gen.facts, Cert.ProjInReferenceIdeal.Gen.facts,
    Cert.ReferenceIdeal.Attn.finiteFacts, Cert.ProjInReferenceIdeal.Proj.finiteFacts,
    fun m ρ _ => Cert.Kernel.Gen.frame m ρ,
    fun m ρ _ => Cert.KernelIdeal.Gen.frame m ρ,
    fun m ρ _ => Cert.KernelIdeal.Gen.frame m ρ,
    fun m ρ _ => frame_reference m ρ trivial,
    fun m ρ _ => frame_reference m ρ trivial,
    fun m ρ _ => Cert.FinalNorm.Gen.frame m ρ,
    fun m ρ _ => Cert.FinalNormIdeal.Gen.frame m ρ,
    fun m ρ _ => frame_norm_reference m ρ trivial,
    fun m ρ _ => Cert.MixOut.Gen.frame m ρ,
    fun m ρ _ => Cert.MixOutIdeal.Gen.frame m ρ,
    fun m ρ _ => frame_mix_reference m ρ trivial,
    fun m ρ _ => Cert.ProjIn.Gen.frame m ρ,
    fun m ρ _ => Cert.ProjInIdeal.Gen.frame m ρ,
    fun m ρ _ => Cert.ProjInIdeal.Gen.frame m ρ,
    fun m ρ _ => frame_proj_reference m ρ trivial,
    fun m ρ _ => frame_proj_reference m ρ trivial,
    trivial,
    algebraic,
    trivial,
    algebraic_norm,
    trivial,
    algebraic_mix,
    trivial,
    algebraic_proj⟩

end Cert.Proof

end
